-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S20000x4 : Shape := ⟨2, ![20000, 4]⟩
abbrev S4x64x8 : Shape := ⟨3, ![4, 64, 8]⟩
abbrev S20000x1 : Shape := ⟨2, ![20000, 1]⟩
abbrev S20000 : Shape := ⟨1, ![20000]⟩
abbrev S_ : Shape := ⟨0, ![]⟩
abbrev S19999 : Shape := ⟨1, ![19999]⟩
abbrev S4x64x3 : Shape := ⟨3, ![4, 64, 3]⟩
abbrev S4x64x1 : Shape := ⟨3, ![4, 64, 1]⟩
abbrev S4x64 : Shape := ⟨2, ![4, 64]⟩

class Facts : Prop where
  slices_S20000x4_S20000x1_0_0 : S20000x4.Slices ![0, 0] S20000x1
  shapeCasts_S20000x1_S20000 : S20000x1.ShapeCasts S20000
  bcast_S_S20000 : S_.BroadcastsInDim S20000 (![] : Fin 0 → Fin S20000.rank)
  reducesTo_S20000_S_d0 : S20000.ReducesTo [0] S_
  h_S_ : 0 < S_.numel
  slices_S20000_S19999_0 : S20000.Slices ![0] S19999
  slices_S20000_S19999_1 : S20000.Slices ![1] S19999
  reducesTo_S19999_S_d0 : S19999.ReducesTo [0] S_
  slices_S4x64x8_S4x64x3_0_0_0 : S4x64x8.Slices ![0, 0, 0] S4x64x3
  reducesTo_S4x64x3_S_d0_1_2 : S4x64x3.ReducesTo [0, 1, 2] S_
  slices_S4x64x8_S4x64x1_0_0_6 : S4x64x8.Slices ![0, 0, 6] S4x64x1
  shapeCasts_S4x64x1_S4x64 : S4x64x1.ShapeCasts S4x64
  reducesTo_S4x64_S_d0_1 : S4x64.ReducesTo [0, 1] S_

variable [Facts]

def fn_part1 {F : FTy → Type} [FloatOps F] (main_arg1 : FVec F S4x64x8 .f32) (main_arg2 : FVec F S4x64x8 .f32) (main_v14 : IVec S_ 1) (main_v17 : IVec S4x64x3 1) (main_c_4 : IVec S_ 1) : IVec S_ 1 :=
  let main_v18 : IVec S_ 1 := (fun x v => Host.reduce IntOp.andi x v reducesTo_S4x64x3_S_d0_1_2 h_S_) main_v17 main_c_4
  let main_v19 : FVec F S4x64x1 .f32 := (extractStridedSlice S4x64x1 ![0, 0, 6] · slices_S4x64x8_S4x64x1_0_0_6) main_arg2
  let main_v20 : FVec F S4x64 .f32 := shapeCast S4x64 main_v19 shapeCasts_S4x64x1_S4x64
  let main_v21 : FVec F S4x64x1 .f32 := (extractStridedSlice S4x64x1 ![0, 0, 6] · slices_S4x64x8_S4x64x1_0_0_6) main_arg1
  let main_v22 : FVec F S4x64 .f32 := shapeCast S4x64 main_v21 shapeCasts_S4x64x1_S4x64
  let main_v23 : IVec S4x64 1 := cmpf .oeq main_v20 main_v22
  let main_c_5 : IVec S_ 1 := constantI S_ 1 1#1
  let main_v24 : IVec S_ 1 := (fun x v => Host.reduce IntOp.andi x v reducesTo_S4x64_S_d0_1 h_S_) main_v23 main_c_5
  let main_v25 : IVec S_ 1 := andi main_v18 main_v24
  let main_v26 : IVec S_ 1 := andi main_v14 main_v25
  main_v26

def fn {F : FTy → Type} [FloatOps F] (main_arg0 : FVec F S20000x4 .f32) (main_arg1 : FVec F S4x64x8 .f32) (main_arg2 : FVec F S4x64x8 .f32) : IVec S_ 1 :=
  let main_v0 : FVec F S20000x1 .f32 := (extractStridedSlice S20000x1 ![0, 0] · slices_S20000x4_S20000x1_0_0) main_arg0
  let main_v1 : FVec F S20000 .f32 := shapeCast S20000 main_v0 shapeCasts_S20000x1_S20000
  let main_v2 : IVec S20000 32 := fptosi 32 main_v1
  let main_c : IVec S_ 32 := constantI S_ 32 0#32
  let main_v3 : IVec S20000 32 := broadcastInDim S20000 ![] bcast_S_S20000 main_c
  let main_v4 : IVec S20000 1 := cmpi .sge main_v2 main_v3
  let main_c_0 : IVec S_ 1 := constantI S_ 1 1#1
  let main_v5 : IVec S_ 1 := (fun x v => Host.reduce IntOp.andi x v reducesTo_S20000_S_d0 h_S_) main_v4 main_c_0
  let main_c_1 : IVec S_ 32 := constantI S_ 32 4#32
  let main_v6 : IVec S20000 32 := broadcastInDim S20000 ![] bcast_S_S20000 main_c_1
  let main_v7 : IVec S20000 1 := cmpi .slt main_v2 main_v6
  let main_c_2 : IVec S_ 1 := constantI S_ 1 1#1
  let main_v8 : IVec S_ 1 := (fun x v => Host.reduce IntOp.andi x v reducesTo_S20000_S_d0 h_S_) main_v7 main_c_2
  let main_v9 : IVec S_ 1 := andi main_v5 main_v8
  let main_v10 : IVec S19999 32 := (extractStridedSlice S19999 ![0] · slices_S20000_S19999_0) main_v2
  let main_v11 : IVec S19999 32 := (extractStridedSlice S19999 ![1] · slices_S20000_S19999_1) main_v2
  let main_v12 : IVec S19999 1 := cmpi .sle main_v10 main_v11
  let main_c_3 : IVec S_ 1 := constantI S_ 1 1#1
  let main_v13 : IVec S_ 1 := (fun x v => Host.reduce IntOp.andi x v reducesTo_S19999_S_d0 h_S_) main_v12 main_c_3
  let main_v14 : IVec S_ 1 := andi main_v9 main_v13
  let main_v15 : FVec F S4x64x3 .f32 := (extractStridedSlice S4x64x3 ![0, 0, 0] · slices_S4x64x8_S4x64x3_0_0_0) main_arg2
  let main_v16 : FVec F S4x64x3 .f32 := (extractStridedSlice S4x64x3 ![0, 0, 0] · slices_S4x64x8_S4x64x3_0_0_0) main_arg1
  let main_v17 : IVec S4x64x3 1 := cmpf .oeq main_v15 main_v16
  let main_c_4 : IVec S_ 1 := constantI S_ 1 1#1
  fn_part1 (F := F) main_arg1 main_arg2 main_v14 main_v17 main_c_4
-- ==== Kernel.lean ====
abbrev S20000x4 : Shape := ⟨2, ![20000, 4]⟩
abbrev S4x64x8 : Shape := ⟨3, ![4, 64, 8]⟩
abbrev S256x8 : Shape := ⟨2, ![256, 8]⟩
abbrev S8x256 : Shape := ⟨2, ![8, 256]⟩
abbrev S16x256 : Shape := ⟨2, ![16, 256]⟩
abbrev S1x256 : Shape := ⟨2, ![1, 256]⟩
abbrev S3x256 : Shape := ⟨2, ![3, 256]⟩
abbrev S2x256 : Shape := ⟨2, ![2, 256]⟩
abbrev S14000x4 : Shape := ⟨2, ![14000, 4]⟩
abbrev S4x14000 : Shape := ⟨2, ![4, 14000]⟩
abbrev S56000 : Shape := ⟨1, ![56000]⟩
abbrev S14000 : Shape := ⟨1, ![14000]⟩
abbrev S14000x8 : Shape := ⟨2, ![14000, 8]⟩
abbrev S1792 : Shape := ⟨1, ![1792]⟩
abbrev S448 : Shape := ⟨1, ![448]⟩
abbrev S448x8 : Shape := ⟨2, ![448, 8]⟩
abbrev S_ : Shape := ⟨0, ![]⟩
abbrev S432 : Shape := ⟨1, ![432]⟩
abbrev S16 : Shape := ⟨1, ![16]⟩
abbrev S1 : Shape := ⟨1, ![1]⟩
abbrev S432x8 : Shape := ⟨2, ![432, 8]⟩
abbrev S16x8 : Shape := ⟨2, ![16, 8]⟩
abbrev S6000x4 : Shape := ⟨2, ![6000, 4]⟩
abbrev S6000x1 : Shape := ⟨2, ![6000, 1]⟩
abbrev S6000x8 : Shape := ⟨2, ![6000, 8]⟩
abbrev S2000x4 : Shape := ⟨2, ![2000, 4]⟩
abbrev S2000x1 : Shape := ⟨2, ![2000, 1]⟩
abbrev S2000x8 : Shape := ⟨2, ![2000, 8]⟩
abbrev S2000x256 : Shape := ⟨2, ![2000, 256]⟩
abbrev S2000 : Shape := ⟨1, ![2000]⟩
abbrev S2000x3 : Shape := ⟨2, ![2000, 3]⟩
abbrev S2000x5 : Shape := ⟨2, ![2000, 5]⟩
abbrev S6000 : Shape := ⟨1, ![6000]⟩
abbrev S20000 : Shape := ⟨1, ![20000]⟩
abbrev S20000x8 : Shape := ⟨2, ![20000, 8]⟩

abbrev nBuf : Table → Nat
  | .hbm => 19
  | .local .tc .vmem => 11
  | .local .scVector .vmem => 4
  | _ => 0

abbrev bufTy : (tb : Table) → Fin (nBuf tb) → BufTy
  | .hbm, ⟨0, _⟩ => ⟨S20000x4, .f32⟩
  | .hbm, ⟨1, _⟩ => ⟨S4x64x8, .f32⟩
  | .hbm, ⟨2, _⟩ => ⟨S4x64x8, .f32⟩
  | .hbm, ⟨3, _⟩ => ⟨S256x8, .f32⟩
  | .hbm, ⟨4, _⟩ => ⟨S8x256, .f32⟩
  | .hbm, ⟨5, _⟩ => ⟨S256x8, .f32⟩
  | .hbm, ⟨6, _⟩ => ⟨S8x256, .f32⟩
  | .hbm, ⟨7, _⟩ => ⟨S16x256, .f32⟩
  | .hbm, ⟨8, _⟩ => ⟨S14000x4, .f32⟩
  | .hbm, ⟨9, _⟩ => ⟨S4x14000, .f32⟩
  | .hbm, ⟨10, _⟩ => ⟨S56000, .f32⟩
  | .hbm, ⟨11, _⟩ => ⟨S14000, .i32⟩
  | .hbm, ⟨12, _⟩ => ⟨S14000x8, .f32⟩
  | .hbm, ⟨13, _⟩ => ⟨S6000x4, .f32⟩
  | .hbm, ⟨14, _⟩ => ⟨S6000x1, .i32⟩
  | .hbm, ⟨15, _⟩ => ⟨S6000x8, .f32⟩
  | .hbm, ⟨16, _⟩ => ⟨S6000, .i32⟩
  | .hbm, ⟨17, _⟩ => ⟨S20000, .i32⟩
  | .hbm, ⟨18, _⟩ => ⟨S20000x8, .f32⟩
  | .local .tc .vmem, ⟨0, _⟩ => ⟨S8x256, .f32⟩
  | .local .tc .vmem, ⟨1, _⟩ => ⟨S8x256, .f32⟩
  | .local .tc .vmem, ⟨2, _⟩ => ⟨S16x256, .f32⟩
  | .local .tc .vmem, ⟨3, _⟩ => ⟨S2000x4, .f32⟩
  | .local .tc .vmem, ⟨4, _⟩ => ⟨S2000x4, .f32⟩
  | .local .tc .vmem, ⟨5, _⟩ => ⟨S8x256, .f32⟩
  | .local .tc .vmem, ⟨6, _⟩ => ⟨S8x256, .f32⟩
  | .local .tc .vmem, ⟨7, _⟩ => ⟨S2000x1, .i32⟩
  | .local .tc .vmem, ⟨8, _⟩ => ⟨S2000x1, .i32⟩
  | .local .tc .vmem, ⟨9, _⟩ => ⟨S2000x8, .f32⟩
  | .local .tc .vmem, ⟨10, _⟩ => ⟨S2000x8, .f32⟩
  | .local .scVector .vmem, ⟨0, _⟩ => ⟨S16x256, .f32⟩
  | .local .scVector .vmem, ⟨1, _⟩ => ⟨S1792, .f32⟩
  | .local .scVector .vmem, ⟨2, _⟩ => ⟨S448, .i32⟩
  | .local .scVector .vmem, ⟨3, _⟩ => ⟨S448x8, .f32⟩
  | _, _ => ⟨S20000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v4_scv : Ref sig .scVector := ⟨.hbm, 7, rfl⟩
abbrev main_v7_scv : Ref sig .scVector := ⟨.hbm, 10, rfl⟩
abbrev main_v8_0_scv : Ref sig .scVector := ⟨.hbm, 11, rfl⟩
abbrev main_v8_1_scv : Ref sig .scVector := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg3_1 : Ref sig .tc := ⟨.vmem, 8, rfl⟩
abbrev cc2_stg4_0 : Ref sig .tc := ⟨.vmem, 9, rfl⟩
abbrev cc2_stg4_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c432_i32 : BitVec 32 := 432#32
  let v3 : BitVec 32 := Scalar.muli v1 c432_i32
  let c11_i32_0 : BitVec 32 := 11#32
  let v4 : BitVec 32 := Scalar.minsi v1 c11_i32_0
  let c16_i32 : BitVec 32 := 16#32
  let v5 : BitVec 32 := Scalar.muli v4 c16_i32
  let v6 : BitVec 32 := Scalar.addi v3 v5
  let v8 : BitVec 32 := Scalar.addi c0_i32 v6
  ![v8.toNat]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let v12 : BitVec 32 := Scalar.extui v2
  let c0_i32_1 : BitVec 32 := 0#32
  let v13 : BitVec 1 := Scalar.cmpi .ne v12 c0_i32_1
  v13

def k1_off2 (i : grid1.Coords) (c0_i32_7 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c432_i32 : BitVec 32 := 432#32
  let v3 : BitVec 32 := Scalar.muli v1 c432_i32
  let c11_i32_0 : BitVec 32 := 11#32
  let v4 : BitVec 32 := Scalar.minsi v1 c11_i32_0
  let c16_i32 : BitVec 32 := 16#32
  let v5 : BitVec 32 := Scalar.muli v4 c16_i32
  let v6 : BitVec 32 := Scalar.addi v3 v5
  let v21 : BitVec 32 := Scalar.addi c0_i32_7 v6
  let c432_i32_8 : BitVec 32 := 432#32
  let v22 : BitVec 32 := Scalar.addi v21 c432_i32_8
  ![v22.toNat]
@[reducible] def k1_t1_loop (i : grid1.Coords) : Scf.Loop 32 :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let c28_i32 : BitVec 32 := 28#32
  let c27_i32 : BitVec 32 := 27#32
  let v7 : BitVec 32 := Scalar.select v2 c28_i32 c27_i32
  let v14 : BitVec 32 := Scalar.subi v7 c0_i32_3
  let c1_i32 : BitVec 32 := 1#32
  let v16 : BitVec 32 := Scalar.divsi v14 c1_i32
  let v17 : BitVec 32 := Scalar.muli v16 c1_i32
  let v18 : BitVec 32 := Scalar.addi c0_i32_3 v17
  let c1_i32_4 : BitVec 32 := 1#32
  ⟨c0_i32_3, v18, c1_i32_4⟩
def k1_off3 (i : grid1.Coords) (k1_t1 : Fin (k1_t1_loop i).trips) : Fin 1 → Nat :=
  let c0_i32_3 : BitVec 32 := 0#32
  let c1_i32_4 : BitVec 32 := 1#32
  let arg10 : BitVec 32 := Scf.iv c0_i32_3 c1_i32_4 k1_t1
  let c16_i32_7 : BitVec 32 := 16#32
  let v21 : BitVec 32 := Scalar.muli arg10 c16_i32_7
  let v23 : Index := Scalar.indexCast v21
  ![v23.toNat]
def k1_off4 (i : grid1.Coords) (k1_t1 : Fin (k1_t1_loop i).trips) (c448_i32 : BitVec 32) : Fin 1 → Nat :=
  let c0_i32_3 : BitVec 32 := 0#32
  let c1_i32_4 : BitVec 32 := 1#32
  let arg10 : BitVec 32 := Scf.iv c0_i32_3 c1_i32_4 k1_t1
  let c16_i32_7 : BitVec 32 := 16#32
  let v21 : BitVec 32 := Scalar.muli arg10 c16_i32_7
  let v26 : BitVec 32 := Scalar.addi c448_i32 v21
  let v27 : Index := Scalar.indexCast v26
  ![v27.toNat]
@[reducible] def k1_t2_loop (v38 : BitVec 32) (v40 : BitVec 32) : Scf.Loop 32 :=
  let c4_i32 : BitVec 32 := 4#32
  let v41 : BitVec 32 := Scalar.muli v38 c4_i32
  let c1_i32_9 : BitVec 32 := 1#32
  let v42 : BitVec 32 := Scalar.addi v40 c1_i32_9
  let c4_i32_10 : BitVec 32 := 4#32
  let v43 : BitVec 32 := Scalar.muli v42 c4_i32_10
  let v44 : BitVec 32 := Scalar.subi v43 v41
  let c1_i32_11 : BitVec 32 := 1#32
  let v46 : BitVec 32 := Scalar.divsi v44 c1_i32_11
  let v47 : BitVec 32 := Scalar.muli v46 c1_i32_11
  let v48 : BitVec 32 := Scalar.addi v41 v47
  let c1_i32_12 : BitVec 32 := 1#32
  ⟨v41, v48, c1_i32_12⟩

@[reducible] def k1_t3_loop : Scf.Loop 32 :=
  let c0_i32_43 : BitVec 32 := 0#32
  let c16_i32_44 : BitVec 32 := 16#32
  let v144 : BitVec 32 := Scalar.addi c0_i32_43 c16_i32_44
  let c1_i32_45 : BitVec 32 := 1#32
  ⟨c0_i32_43, v144, c1_i32_45⟩

def k1_chk2 (v146 : IVec S16 32) (v148 : IVec S16 32) : Prop :=
  (∀ a x, ((![v146, v148] : Fin 2 → IVec S16 32) a x).toNat < S16x256.size a)
theorem k1_idx1_inb : ∀ (v146 : IVec S16 32) (v148 : IVec S16 32) (k1_hw2 : k1_chk2 v146 v148), ∀ a x, ((![v146, v148] : Fin 2 → IVec S16 32) a x).toNat < S16x256.size a := fun v146 v148 k1_hw2 => k1_hw2

def k1_chk3 (v151 : IVec S16 32) (v153 : IVec S16 32) : Prop :=
  (∀ a x, ((![v151, v153] : Fin 2 → IVec S16 32) a x).toNat < S16x256.size a)
theorem k1_idx2_inb : ∀ (v151 : IVec S16 32) (v153 : IVec S16 32) (k1_hw3 : k1_chk3 v151 v153), ∀ a x, ((![v151, v153] : Fin 2 → IVec S16 32) a x).toNat < S16x256.size a := fun v151 v153 k1_hw3 => k1_hw3

def k1_chk4 (v156 : IVec S16 32) (v158 : IVec S16 32) : Prop :=
  (∀ a x, ((![v156, v158] : Fin 2 → IVec S16 32) a x).toNat < S16x256.size a)
theorem k1_idx3_inb : ∀ (v156 : IVec S16 32) (v158 : IVec S16 32) (k1_hw4 : k1_chk4 v156 v158), ∀ a x, ((![v156, v158] : Fin 2 → IVec S16 32) a x).toNat < S16x256.size a := fun v156 v158 k1_hw4 => k1_hw4

def k1_chk5 (v161 : IVec S16 32) (v163 : IVec S16 32) : Prop :=
  (∀ a x, ((![v161, v163] : Fin 2 → IVec S16 32) a x).toNat < S16x256.size a)
theorem k1_idx4_inb : ∀ (v161 : IVec S16 32) (v163 : IVec S16 32) (k1_hw5 : k1_chk5 v161 v163), ∀ a x, ((![v161, v163] : Fin 2 → IVec S16 32) a x).toNat < S16x256.size a := fun v161 v163 k1_hw5 => k1_hw5

def k1_chk6 (v165 : IVec S16 32) (v167 : IVec S16 32) : Prop :=
  (∀ a x, ((![v165, v167] : Fin 2 → IVec S16 32) a x).toNat < S16x256.size a)
theorem k1_idx5_inb : ∀ (v165 : IVec S16 32) (v167 : IVec S16 32) (k1_hw6 : k1_chk6 v165 v167), ∀ a x, ((![v165, v167] : Fin 2 → IVec S16 32) a x).toNat < S16x256.size a := fun v165 v167 k1_hw6 => k1_hw6

def k1_chk7 (v180 : IVec S16 32) (v182 : IVec S16 32) : Prop :=
  (∀ a x, ((![v180, v182] : Fin 2 → IVec S16 32) a x).toNat < S16x256.size a)
theorem k1_idx6_inb : ∀ (v180 : IVec S16 32) (v182 : IVec S16 32) (k1_hw7 : k1_chk7 v180 v182), ∀ a x, ((![v180, v182] : Fin 2 → IVec S16 32) a x).toNat < S16x256.size a := fun v180 v182 k1_hw7 => k1_hw7

def k1_chk8 (v185 : IVec S16 32) (v187 : IVec S16 32) : Prop :=
  (∀ a x, ((![v185, v187] : Fin 2 → IVec S16 32) a x).toNat < S16x256.size a)
theorem k1_idx7_inb : ∀ (v185 : IVec S16 32) (v187 : IVec S16 32) (k1_hw8 : k1_chk8 v185 v187), ∀ a x, ((![v185, v187] : Fin 2 → IVec S16 32) a x).toNat < S16x256.size a := fun v185 v187 k1_hw8 => k1_hw8

def k1_chk9 (v191 : IVec S16 32) (v193 : IVec S16 32) : Prop :=
  (∀ a x, ((![v191, v193] : Fin 2 → IVec S16 32) a x).toNat < S16x256.size a)
theorem k1_idx8_inb : ∀ (v191 : IVec S16 32) (v193 : IVec S16 32) (k1_hw9 : k1_chk9 v191 v193), ∀ a x, ((![v191, v193] : Fin 2 → IVec S16 32) a x).toNat < S16x256.size a := fun v191 v193 k1_hw9 => k1_hw9

def k1_chk10 (v198 : IVec S16 32) (v200 : IVec S16 32) : Prop :=
  (∀ a x, ((![v198, v200] : Fin 2 → IVec S16 32) a x).toNat < S16x256.size a)
theorem k1_idx9_inb : ∀ (v198 : IVec S16 32) (v200 : IVec S16 32) (k1_hw10 : k1_chk10 v198 v200), ∀ a x, ((![v198, v200] : Fin 2 → IVec S16 32) a x).toNat < S16x256.size a := fun v198 v200 k1_hw10 => k1_hw10

def k1_chk11 (v203 : IVec S16 32) (v205 : IVec S16 32) : Prop :=
  (∀ a x, ((![v203, v205] : Fin 2 → IVec S16 32) a x).toNat < S16x256.size a)
theorem k1_idx10_inb : ∀ (v203 : IVec S16 32) (v205 : IVec S16 32) (k1_hw11 : k1_chk11 v203 v205), ∀ a x, ((![v203, v205] : Fin 2 → IVec S16 32) a x).toNat < S16x256.size a := fun v203 v205 k1_hw11 => k1_hw11

def k1_chk12 (v209 : IVec S16 32) (v211 : IVec S16 32) : Prop :=
  (∀ a x, ((![v209, v211] : Fin 2 → IVec S16 32) a x).toNat < S16x256.size a)
theorem k1_idx11_inb : ∀ (v209 : IVec S16 32) (v211 : IVec S16 32) (k1_hw12 : k1_chk12 v209 v211), ∀ a x, ((![v209, v211] : Fin 2 → IVec S16 32) a x).toNat < S16x256.size a := fun v209 v211 k1_hw12 => k1_hw12
@[reducible] def k1_t4_loop (v38 : BitVec 32) (v40 : BitVec 32) : Scf.Loop 32 :=
  let c4_i32 : BitVec 32 := 4#32
  let v41 : BitVec 32 := Scalar.muli v38 c4_i32
  let c1_i32_9 : BitVec 32 := 1#32
  let v42 : BitVec 32 := Scalar.addi v40 c1_i32_9
  let c4_i32_10 : BitVec 32 := 4#32
  let v43 : BitVec 32 := Scalar.muli v42 c4_i32_10
  let v44 : BitVec 32 := Scalar.subi v43 v41
  let c1_i32_11 : BitVec 32 := 1#32
  let v46 : BitVec 32 := Scalar.divsi v44 c1_i32_11
  let v47 : BitVec 32 := Scalar.muli v46 c1_i32_11
  let v48 : BitVec 32 := Scalar.addi v41 v47
  let v45 : BitVec 32 := Scalar.addi v41 v44
  let c1_i32_13 : BitVec 32 := 1#32
  ⟨v48, v45, c1_i32_13⟩

def k1_chk1 (v38 : BitVec 32) (v40 : BitVec 32) : Prop :=
  ((k1_t2_loop v38 v40).OK) ∧
  ((k1_t4_loop v38 v40).OK)
theorem k1_t2_ok : ∀ (v38 : BitVec 32) (v40 : BitVec 32) (k1_hw1 : k1_chk1 v38 v40), (k1_t2_loop v38 v40).OK := fun v38 v40 k1_hw1 => k1_hw1.1
theorem k1_t4_ok : ∀ (v38 : BitVec 32) (v40 : BitVec 32) (k1_hw1 : k1_chk1 v38 v40), (k1_t4_loop v38 v40).OK := fun v38 v40 k1_hw1 => k1_hw1.2

@[reducible] def k1_t5_loop : Scf.Loop 32 :=
  let c0_i32_43 : BitVec 32 := 0#32
  let c16_i32_44 : BitVec 32 := 16#32
  let v144 : BitVec 32 := Scalar.addi c0_i32_43 c16_i32_44
  let c1_i32_45 : BitVec 32 := 1#32
  ⟨c0_i32_43, v144, c1_i32_45⟩

def k1_chk13 (v146 : IVec S16 32) (v148 : IVec S16 32) : Prop :=
  (∀ a x, ((![v146, v148] : Fin 2 → IVec S16 32) a x).toNat < S16x256.size a)
theorem k1_idx12_inb : ∀ (v146 : IVec S16 32) (v148 : IVec S16 32) (k1_hw13 : k1_chk13 v146 v148), ∀ a x, ((![v146, v148] : Fin 2 → IVec S16 32) a x).toNat < S16x256.size a := fun v146 v148 k1_hw13 => k1_hw13

def k1_chk14 (v151 : IVec S16 32) (v153 : IVec S16 32) : Prop :=
  (∀ a x, ((![v151, v153] : Fin 2 → IVec S16 32) a x).toNat < S16x256.size a)
theorem k1_idx13_inb : ∀ (v151 : IVec S16 32) (v153 : IVec S16 32) (k1_hw14 : k1_chk14 v151 v153), ∀ a x, ((![v151, v153] : Fin 2 → IVec S16 32) a x).toNat < S16x256.size a := fun v151 v153 k1_hw14 => k1_hw14

def k1_chk15 (v156 : IVec S16 32) (v158 : IVec S16 32) : Prop :=
  (∀ a x, ((![v156, v158] : Fin 2 → IVec S16 32) a x).toNat < S16x256.size a)
theorem k1_idx14_inb : ∀ (v156 : IVec S16 32) (v158 : IVec S16 32) (k1_hw15 : k1_chk15 v156 v158), ∀ a x, ((![v156, v158] : Fin 2 → IVec S16 32) a x).toNat < S16x256.size a := fun v156 v158 k1_hw15 => k1_hw15

def k1_chk16 (v161 : IVec S16 32) (v163 : IVec S16 32) : Prop :=
  (∀ a x, ((![v161, v163] : Fin 2 → IVec S16 32) a x).toNat < S16x256.size a)
theorem k1_idx15_inb : ∀ (v161 : IVec S16 32) (v163 : IVec S16 32) (k1_hw16 : k1_chk16 v161 v163), ∀ a x, ((![v161, v163] : Fin 2 → IVec S16 32) a x).toNat < S16x256.size a := fun v161 v163 k1_hw16 => k1_hw16

def k1_chk17 (v165 : IVec S16 32) (v167 : IVec S16 32) : Prop :=
  (∀ a x, ((![v165, v167] : Fin 2 → IVec S16 32) a x).toNat < S16x256.size a)
theorem k1_idx16_inb : ∀ (v165 : IVec S16 32) (v167 : IVec S16 32) (k1_hw17 : k1_chk17 v165 v167), ∀ a x, ((![v165, v167] : Fin 2 → IVec S16 32) a x).toNat < S16x256.size a := fun v165 v167 k1_hw17 => k1_hw17

def k1_chk18 (v180 : IVec S16 32) (v182 : IVec S16 32) : Prop :=
  (∀ a x, ((![v180, v182] : Fin 2 → IVec S16 32) a x).toNat < S16x256.size a)
theorem k1_idx17_inb : ∀ (v180 : IVec S16 32) (v182 : IVec S16 32) (k1_hw18 : k1_chk18 v180 v182), ∀ a x, ((![v180, v182] : Fin 2 → IVec S16 32) a x).toNat < S16x256.size a := fun v180 v182 k1_hw18 => k1_hw18

def k1_chk19 (v185 : IVec S16 32) (v187 : IVec S16 32) : Prop :=
  (∀ a x, ((![v185, v187] : Fin 2 → IVec S16 32) a x).toNat < S16x256.size a)
theorem k1_idx18_inb : ∀ (v185 : IVec S16 32) (v187 : IVec S16 32) (k1_hw19 : k1_chk19 v185 v187), ∀ a x, ((![v185, v187] : Fin 2 → IVec S16 32) a x).toNat < S16x256.size a := fun v185 v187 k1_hw19 => k1_hw19

def k1_chk20 (v191 : IVec S16 32) (v193 : IVec S16 32) : Prop :=
  (∀ a x, ((![v191, v193] : Fin 2 → IVec S16 32) a x).toNat < S16x256.size a)
theorem k1_idx19_inb : ∀ (v191 : IVec S16 32) (v193 : IVec S16 32) (k1_hw20 : k1_chk20 v191 v193), ∀ a x, ((![v191, v193] : Fin 2 → IVec S16 32) a x).toNat < S16x256.size a := fun v191 v193 k1_hw20 => k1_hw20

def k1_chk21 (v198 : IVec S16 32) (v200 : IVec S16 32) : Prop :=
  (∀ a x, ((![v198, v200] : Fin 2 → IVec S16 32) a x).toNat < S16x256.size a)
theorem k1_idx20_inb : ∀ (v198 : IVec S16 32) (v200 : IVec S16 32) (k1_hw21 : k1_chk21 v198 v200), ∀ a x, ((![v198, v200] : Fin 2 → IVec S16 32) a x).toNat < S16x256.size a := fun v198 v200 k1_hw21 => k1_hw21

def k1_chk22 (v203 : IVec S16 32) (v205 : IVec S16 32) : Prop :=
  (∀ a x, ((![v203, v205] : Fin 2 → IVec S16 32) a x).toNat < S16x256.size a)
theorem k1_idx21_inb : ∀ (v203 : IVec S16 32) (v205 : IVec S16 32) (k1_hw22 : k1_chk22 v203 v205), ∀ a x, ((![v203, v205] : Fin 2 → IVec S16 32) a x).toNat < S16x256.size a := fun v203 v205 k1_hw22 => k1_hw22

def k1_chk23 (v209 : IVec S16 32) (v211 : IVec S16 32) : Prop :=
  (∀ a x, ((![v209, v211] : Fin 2 → IVec S16 32) a x).toNat < S16x256.size a)
theorem k1_idx22_inb : ∀ (v209 : IVec S16 32) (v211 : IVec S16 32) (k1_hw23 : k1_chk23 v209 v211), ∀ a x, ((![v209, v211] : Fin 2 → IVec S16 32) a x).toNat < S16x256.size a := fun v209 v211 k1_hw23 => k1_hw23
def k1_off5 (i : grid1.Coords) (k1_t1 : Fin (k1_t1_loop i).trips) : Fin 1 → Nat :=
  let c0_i32_3 : BitVec 32 := 0#32
  let c1_i32_4 : BitVec 32 := 1#32
  let arg10 : BitVec 32 := Scf.iv c0_i32_3 c1_i32_4 k1_t1
  let c16_i32_7 : BitVec 32 := 16#32
  let v21 : BitVec 32 := Scalar.muli arg10 c16_i32_7
  let v61 : Index := Scalar.indexCast v21
  ![v61.toNat]

def k1_chk24 (v64 : IVec S16 32) (v65 : IVec S16 32) : Prop :=
  (∀ a x, ((![v65, v64] : Fin 2 → IVec S16 32) a x).toNat < S16x256.size a)
theorem k1_idx23_inb : ∀ (v64 : IVec S16 32) (v65 : IVec S16 32) (k1_hw24 : k1_chk24 v64 v65), ∀ a x, ((![v65, v64] : Fin 2 → IVec S16 32) a x).toNat < S16x256.size a := fun v64 v65 k1_hw24 => k1_hw24

def k1_chk25 (v71 : IVec S16 32) (v72 : IVec S16 32) : Prop :=
  (∀ a x, ((![v71, v72] : Fin 2 → IVec S16 32) a x).toNat < S448x8.size a)
theorem k1_idx24_inb : ∀ (v71 : IVec S16 32) (v72 : IVec S16 32) (k1_hw25 : k1_chk25 v71 v72), ∀ a x, ((![v71, v72] : Fin 2 → IVec S16 32) a x).toNat < S448x8.size a := fun v71 v72 k1_hw25 => k1_hw25

def k1_chk26 (v64 : IVec S16 32) (v73 : IVec S16 32) : Prop :=
  (∀ a x, ((![v73, v64] : Fin 2 → IVec S16 32) a x).toNat < S16x256.size a)
theorem k1_idx25_inb : ∀ (v64 : IVec S16 32) (v73 : IVec S16 32) (k1_hw26 : k1_chk26 v64 v73), ∀ a x, ((![v73, v64] : Fin 2 → IVec S16 32) a x).toNat < S16x256.size a := fun v64 v73 k1_hw26 => k1_hw26

def k1_chk27 (v79 : IVec S16 32) (v80 : IVec S16 32) : Prop :=
  (∀ a x, ((![v79, v80] : Fin 2 → IVec S16 32) a x).toNat < S448x8.size a)
theorem k1_idx26_inb : ∀ (v79 : IVec S16 32) (v80 : IVec S16 32) (k1_hw27 : k1_chk27 v79 v80), ∀ a x, ((![v79, v80] : Fin 2 → IVec S16 32) a x).toNat < S448x8.size a := fun v79 v80 k1_hw27 => k1_hw27

def k1_chk28 (v64 : IVec S16 32) (v81 : IVec S16 32) : Prop :=
  (∀ a x, ((![v81, v64] : Fin 2 → IVec S16 32) a x).toNat < S16x256.size a)
theorem k1_idx27_inb : ∀ (v64 : IVec S16 32) (v81 : IVec S16 32) (k1_hw28 : k1_chk28 v64 v81), ∀ a x, ((![v81, v64] : Fin 2 → IVec S16 32) a x).toNat < S16x256.size a := fun v64 v81 k1_hw28 => k1_hw28

def k1_chk29 (v87 : IVec S16 32) (v88 : IVec S16 32) : Prop :=
  (∀ a x, ((![v87, v88] : Fin 2 → IVec S16 32) a x).toNat < S448x8.size a)
theorem k1_idx28_inb : ∀ (v87 : IVec S16 32) (v88 : IVec S16 32) (k1_hw29 : k1_chk29 v87 v88), ∀ a x, ((![v87, v88] : Fin 2 → IVec S16 32) a x).toNat < S448x8.size a := fun v87 v88 k1_hw29 => k1_hw29

def k1_chk30 (v64 : IVec S16 32) (v89 : IVec S16 32) : Prop :=
  (∀ a x, ((![v89, v64] : Fin 2 → IVec S16 32) a x).toNat < S16x256.size a)
theorem k1_idx29_inb : ∀ (v64 : IVec S16 32) (v89 : IVec S16 32) (k1_hw30 : k1_chk30 v64 v89), ∀ a x, ((![v89, v64] : Fin 2 → IVec S16 32) a x).toNat < S16x256.size a := fun v64 v89 k1_hw30 => k1_hw30

def k1_chk31 (v94 : IVec S16 32) (v95 : IVec S16 32) : Prop :=
  (∀ a x, ((![v94, v95] : Fin 2 → IVec S16 32) a x).toNat < S448x8.size a)
theorem k1_idx30_inb : ∀ (v94 : IVec S16 32) (v95 : IVec S16 32) (k1_hw31 : k1_chk31 v94 v95), ∀ a x, ((![v94, v95] : Fin 2 → IVec S16 32) a x).toNat < S448x8.size a := fun v94 v95 k1_hw31 => k1_hw31

def k1_chk32 (v64 : IVec S16 32) (v96 : IVec S16 32) : Prop :=
  (∀ a x, ((![v96, v64] : Fin 2 → IVec S16 32) a x).toNat < S16x256.size a)
theorem k1_idx31_inb : ∀ (v64 : IVec S16 32) (v96 : IVec S16 32) (k1_hw32 : k1_chk32 v64 v96), ∀ a x, ((![v96, v64] : Fin 2 → IVec S16 32) a x).toNat < S16x256.size a := fun v64 v96 k1_hw32 => k1_hw32

def k1_chk33 (v101 : IVec S16 32) (v102 : IVec S16 32) : Prop :=
  (∀ a x, ((![v101, v102] : Fin 2 → IVec S16 32) a x).toNat < S448x8.size a)
theorem k1_idx32_inb : ∀ (v101 : IVec S16 32) (v102 : IVec S16 32) (k1_hw33 : k1_chk33 v101 v102), ∀ a x, ((![v101, v102] : Fin 2 → IVec S16 32) a x).toNat < S448x8.size a := fun v101 v102 k1_hw33 => k1_hw33

def k1_chk34 (v64 : IVec S16 32) (v103 : IVec S16 32) : Prop :=
  (∀ a x, ((![v103, v64] : Fin 2 → IVec S16 32) a x).toNat < S16x256.size a)
theorem k1_idx33_inb : ∀ (v64 : IVec S16 32) (v103 : IVec S16 32) (k1_hw34 : k1_chk34 v64 v103), ∀ a x, ((![v103, v64] : Fin 2 → IVec S16 32) a x).toNat < S16x256.size a := fun v64 v103 k1_hw34 => k1_hw34

def k1_chk35 (v108 : IVec S16 32) (v109 : IVec S16 32) : Prop :=
  (∀ a x, ((![v108, v109] : Fin 2 → IVec S16 32) a x).toNat < S448x8.size a)
theorem k1_idx34_inb : ∀ (v108 : IVec S16 32) (v109 : IVec S16 32) (k1_hw35 : k1_chk35 v108 v109), ∀ a x, ((![v108, v109] : Fin 2 → IVec S16 32) a x).toNat < S448x8.size a := fun v108 v109 k1_hw35 => k1_hw35

def k1_chk36 (v64 : IVec S16 32) (v110 : IVec S16 32) : Prop :=
  (∀ a x, ((![v110, v64] : Fin 2 → IVec S16 32) a x).toNat < S16x256.size a)
theorem k1_idx35_inb : ∀ (v64 : IVec S16 32) (v110 : IVec S16 32) (k1_hw36 : k1_chk36 v64 v110), ∀ a x, ((![v110, v64] : Fin 2 → IVec S16 32) a x).toNat < S16x256.size a := fun v64 v110 k1_hw36 => k1_hw36

def k1_chk37 (v115 : IVec S16 32) (v116 : IVec S16 32) : Prop :=
  (∀ a x, ((![v115, v116] : Fin 2 → IVec S16 32) a x).toNat < S448x8.size a)
theorem k1_idx36_inb : ∀ (v115 : IVec S16 32) (v116 : IVec S16 32) (k1_hw37 : k1_chk37 v115 v116), ∀ a x, ((![v115, v116] : Fin 2 → IVec S16 32) a x).toNat < S448x8.size a := fun v115 v116 k1_hw37 => k1_hw37

def k1_chk38 (v64 : IVec S16 32) (v117 : IVec S16 32) : Prop :=
  (∀ a x, ((![v117, v64] : Fin 2 → IVec S16 32) a x).toNat < S16x256.size a)
theorem k1_idx37_inb : ∀ (v64 : IVec S16 32) (v117 : IVec S16 32) (k1_hw38 : k1_chk38 v64 v117), ∀ a x, ((![v117, v64] : Fin 2 → IVec S16 32) a x).toNat < S16x256.size a := fun v64 v117 k1_hw38 => k1_hw38

def k1_chk39 (v122 : IVec S16 32) (v123 : IVec S16 32) : Prop :=
  (∀ a x, ((![v122, v123] : Fin 2 → IVec S16 32) a x).toNat < S448x8.size a)
theorem k1_idx38_inb : ∀ (v122 : IVec S16 32) (v123 : IVec S16 32) (k1_hw39 : k1_chk39 v122 v123), ∀ a x, ((![v122, v123] : Fin 2 → IVec S16 32) a x).toNat < S448x8.size a := fun v122 v123 k1_hw39 => k1_hw39
@[reducible] def k1_t6_loop (i : grid1.Coords) : Scf.Loop 32 :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let c28_i32 : BitVec 32 := 28#32
  let c27_i32 : BitVec 32 := 27#32
  let v7 : BitVec 32 := Scalar.select v2 c28_i32 c27_i32
  let v14 : BitVec 32 := Scalar.subi v7 c0_i32_3
  let c1_i32 : BitVec 32 := 1#32
  let v16 : BitVec 32 := Scalar.divsi v14 c1_i32
  let v17 : BitVec 32 := Scalar.muli v16 c1_i32
  let v18 : BitVec 32 := Scalar.addi c0_i32_3 v17
  let v15 : BitVec 32 := Scalar.addi c0_i32_3 v14
  let c1_i32_5 : BitVec 32 := 1#32
  ⟨v18, v15, c1_i32_5⟩
def k1_off6 (i : grid1.Coords) (k1_t6 : Fin (k1_t6_loop i).trips) : Fin 1 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let c28_i32 : BitVec 32 := 28#32
  let c27_i32 : BitVec 32 := 27#32
  let v7 : BitVec 32 := Scalar.select v2 c28_i32 c27_i32
  let v14 : BitVec 32 := Scalar.subi v7 c0_i32_3
  let c1_i32 : BitVec 32 := 1#32
  let v16 : BitVec 32 := Scalar.divsi v14 c1_i32
  let v17 : BitVec 32 := Scalar.muli v16 c1_i32
  let v18 : BitVec 32 := Scalar.addi c0_i32_3 v17
  let c1_i32_5 : BitVec 32 := 1#32
  let arg10 : BitVec 32 := Scf.iv v18 c1_i32_5 k1_t6
  let c16_i32_7 : BitVec 32 := 16#32
  let v21 : BitVec 32 := Scalar.muli arg10 c16_i32_7
  let v23 : Index := Scalar.indexCast v21
  ![v23.toNat]
def k1_off7 (i : grid1.Coords) (k1_t6 : Fin (k1_t6_loop i).trips) (c448_i32 : BitVec 32) : Fin 1 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let c28_i32 : BitVec 32 := 28#32
  let c27_i32 : BitVec 32 := 27#32
  let v7 : BitVec 32 := Scalar.select v2 c28_i32 c27_i32
  let v14 : BitVec 32 := Scalar.subi v7 c0_i32_3
  let c1_i32 : BitVec 32 := 1#32
  let v16 : BitVec 32 := Scalar.divsi v14 c1_i32
  let v17 : BitVec 32 := Scalar.muli v16 c1_i32
  let v18 : BitVec 32 := Scalar.addi c0_i32_3 v17
  let c1_i32_5 : BitVec 32 := 1#32
  let arg10 : BitVec 32 := Scf.iv v18 c1_i32_5 k1_t6
  let c16_i32_7 : BitVec 32 := 16#32
  let v21 : BitVec 32 := Scalar.muli arg10 c16_i32_7
  let v26 : BitVec 32 := Scalar.addi c448_i32 v21
  let v27 : Index := Scalar.indexCast v26
  ![v27.toNat]
@[reducible] def k1_t7_loop (v38 : BitVec 32) (v40 : BitVec 32) : Scf.Loop 32 :=
  let c4_i32 : BitVec 32 := 4#32
  let v41 : BitVec 32 := Scalar.muli v38 c4_i32
  let c1_i32_9 : BitVec 32 := 1#32
  let v42 : BitVec 32 := Scalar.addi v40 c1_i32_9
  let c4_i32_10 : BitVec 32 := 4#32
  let v43 : BitVec 32 := Scalar.muli v42 c4_i32_10
  let v44 : BitVec 32 := Scalar.subi v43 v41
  let c1_i32_11 : BitVec 32 := 1#32
  let v46 : BitVec 32 := Scalar.divsi v44 c1_i32_11
  let v47 : BitVec 32 := Scalar.muli v46 c1_i32_11
  let v48 : BitVec 32 := Scalar.addi v41 v47
  let c1_i32_12 : BitVec 32 := 1#32
  ⟨v41, v48, c1_i32_12⟩

@[reducible] def k1_t8_loop : Scf.Loop 32 :=
  let c0_i32_43 : BitVec 32 := 0#32
  let c16_i32_44 : BitVec 32 := 16#32
  let v144 : BitVec 32 := Scalar.addi c0_i32_43 c16_i32_44
  let c1_i32_45 : BitVec 32 := 1#32
  ⟨c0_i32_43, v144, c1_i32_45⟩

def k1_chk41 (i : grid1.Coords) (k1_t6 : Fin (k1_t6_loop i).trips) (v146 : IVec S16 32) (v148 : IVec S16 32) : Prop :=
  (∀ a x, ((![v146, v148] : Fin 2 → IVec S16 32) a x).toNat < S16x256.size a)
theorem k1_idx39_inb : ∀ (i : grid1.Coords) (k1_t6 : Fin (k1_t6_loop i).trips) (v146 : IVec S16 32) (v148 : IVec S16 32) (k1_hw41 : k1_chk41 i k1_t6 v146 v148), ∀ a x, ((![v146, v148] : Fin 2 → IVec S16 32) a x).toNat < S16x256.size a := fun i k1_t6 v146 v148 k1_hw41 => k1_hw41

def k1_chk42 (i : grid1.Coords) (k1_t6 : Fin (k1_t6_loop i).trips) (v151 : IVec S16 32) (v153 : IVec S16 32) : Prop :=
  (∀ a x, ((![v151, v153] : Fin 2 → IVec S16 32) a x).toNat < S16x256.size a)
theorem k1_idx40_inb : ∀ (i : grid1.Coords) (k1_t6 : Fin (k1_t6_loop i).trips) (v151 : IVec S16 32) (v153 : IVec S16 32) (k1_hw42 : k1_chk42 i k1_t6 v151 v153), ∀ a x, ((![v151, v153] : Fin 2 → IVec S16 32) a x).toNat < S16x256.size a := fun i k1_t6 v151 v153 k1_hw42 => k1_hw42

def k1_chk43 (i : grid1.Coords) (k1_t6 : Fin (k1_t6_loop i).trips) (v156 : IVec S16 32) (v158 : IVec S16 32) : Prop :=
  (∀ a x, ((![v156, v158] : Fin 2 → IVec S16 32) a x).toNat < S16x256.size a)
theorem k1_idx41_inb : ∀ (i : grid1.Coords) (k1_t6 : Fin (k1_t6_loop i).trips) (v156 : IVec S16 32) (v158 : IVec S16 32) (k1_hw43 : k1_chk43 i k1_t6 v156 v158), ∀ a x, ((![v156, v158] : Fin 2 → IVec S16 32) a x).toNat < S16x256.size a := fun i k1_t6 v156 v158 k1_hw43 => k1_hw43

def k1_chk44 (i : grid1.Coords) (k1_t6 : Fin (k1_t6_loop i).trips) (v161 : IVec S16 32) (v163 : IVec S16 32) : Prop :=
  (∀ a x, ((![v161, v163] : Fin 2 → IVec S16 32) a x).toNat < S16x256.size a)
theorem k1_idx42_inb : ∀ (i : grid1.Coords) (k1_t6 : Fin (k1_t6_loop i).trips) (v161 : IVec S16 32) (v163 : IVec S16 32) (k1_hw44 : k1_chk44 i k1_t6 v161 v163), ∀ a x, ((![v161, v163] : Fin 2 → IVec S16 32) a x).toNat < S16x256.size a := fun i k1_t6 v161 v163 k1_hw44 => k1_hw44

def k1_chk45 (i : grid1.Coords) (k1_t6 : Fin (k1_t6_loop i).trips) (v165 : IVec S16 32) (v167 : IVec S16 32) : Prop :=
  (∀ a x, ((![v165, v167] : Fin 2 → IVec S16 32) a x).toNat < S16x256.size a)
theorem k1_idx43_inb : ∀ (i : grid1.Coords) (k1_t6 : Fin (k1_t6_loop i).trips) (v165 : IVec S16 32) (v167 : IVec S16 32) (k1_hw45 : k1_chk45 i k1_t6 v165 v167), ∀ a x, ((![v165, v167] : Fin 2 → IVec S16 32) a x).toNat < S16x256.size a := fun i k1_t6 v165 v167 k1_hw45 => k1_hw45

def k1_chk46 (i : grid1.Coords) (k1_t6 : Fin (k1_t6_loop i).trips) (v180 : IVec S16 32) (v182 : IVec S16 32) : Prop :=
  (∀ a x, ((![v180, v182] : Fin 2 → IVec S16 32) a x).toNat < S16x256.size a)
theorem k1_idx44_inb : ∀ (i : grid1.Coords) (k1_t6 : Fin (k1_t6_loop i).trips) (v180 : IVec S16 32) (v182 : IVec S16 32) (k1_hw46 : k1_chk46 i k1_t6 v180 v182), ∀ a x, ((![v180, v182] : Fin 2 → IVec S16 32) a x).toNat < S16x256.size a := fun i k1_t6 v180 v182 k1_hw46 => k1_hw46

def k1_chk47 (i : grid1.Coords) (k1_t6 : Fin (k1_t6_loop i).trips) (v185 : IVec S16 32) (v187 : IVec S16 32) : Prop :=
  (∀ a x, ((![v185, v187] : Fin 2 → IVec S16 32) a x).toNat < S16x256.size a)
theorem k1_idx45_inb : ∀ (i : grid1.Coords) (k1_t6 : Fin (k1_t6_loop i).trips) (v185 : IVec S16 32) (v187 : IVec S16 32) (k1_hw47 : k1_chk47 i k1_t6 v185 v187), ∀ a x, ((![v185, v187] : Fin 2 → IVec S16 32) a x).toNat < S16x256.size a := fun i k1_t6 v185 v187 k1_hw47 => k1_hw47

def k1_chk48 (i : grid1.Coords) (k1_t6 : Fin (k1_t6_loop i).trips) (v191 : IVec S16 32) (v193 : IVec S16 32) : Prop :=
  (∀ a x, ((![v191, v193] : Fin 2 → IVec S16 32) a x).toNat < S16x256.size a)
theorem k1_idx46_inb : ∀ (i : grid1.Coords) (k1_t6 : Fin (k1_t6_loop i).trips) (v191 : IVec S16 32) (v193 : IVec S16 32) (k1_hw48 : k1_chk48 i k1_t6 v191 v193), ∀ a x, ((![v191, v193] : Fin 2 → IVec S16 32) a x).toNat < S16x256.size a := fun i k1_t6 v191 v193 k1_hw48 => k1_hw48

def k1_chk49 (i : grid1.Coords) (k1_t6 : Fin (k1_t6_loop i).trips) (v198 : IVec S16 32) (v200 : IVec S16 32) : Prop :=
  (∀ a x, ((![v198, v200] : Fin 2 → IVec S16 32) a x).toNat < S16x256.size a)
theorem k1_idx47_inb : ∀ (i : grid1.Coords) (k1_t6 : Fin (k1_t6_loop i).trips) (v198 : IVec S16 32) (v200 : IVec S16 32) (k1_hw49 : k1_chk49 i k1_t6 v198 v200), ∀ a x, ((![v198, v200] : Fin 2 → IVec S16 32) a x).toNat < S16x256.size a := fun i k1_t6 v198 v200 k1_hw49 => k1_hw49

def k1_chk50 (i : grid1.Coords) (k1_t6 : Fin (k1_t6_loop i).trips) (v203 : IVec S16 32) (v205 : IVec S16 32) : Prop :=
  (∀ a x, ((![v203, v205] : Fin 2 → IVec S16 32) a x).toNat < S16x256.size a)
theorem k1_idx48_inb : ∀ (i : grid1.Coords) (k1_t6 : Fin (k1_t6_loop i).trips) (v203 : IVec S16 32) (v205 : IVec S16 32) (k1_hw50 : k1_chk50 i k1_t6 v203 v205), ∀ a x, ((![v203, v205] : Fin 2 → IVec S16 32) a x).toNat < S16x256.size a := fun i k1_t6 v203 v205 k1_hw50 => k1_hw50

def k1_chk51 (i : grid1.Coords) (k1_t6 : Fin (k1_t6_loop i).trips) (v209 : IVec S16 32) (v211 : IVec S16 32) : Prop :=
  (∀ a x, ((![v209, v211] : Fin 2 → IVec S16 32) a x).toNat < S16x256.size a)
theorem k1_idx49_inb : ∀ (i : grid1.Coords) (k1_t6 : Fin (k1_t6_loop i).trips) (v209 : IVec S16 32) (v211 : IVec S16 32) (k1_hw51 : k1_chk51 i k1_t6 v209 v211), ∀ a x, ((![v209, v211] : Fin 2 → IVec S16 32) a x).toNat < S16x256.size a := fun i k1_t6 v209 v211 k1_hw51 => k1_hw51
@[reducible] def k1_t9_loop (v38 : BitVec 32) (v40 : BitVec 32) : Scf.Loop 32 :=
  let c4_i32 : BitVec 32 := 4#32
  let v41 : BitVec 32 := Scalar.muli v38 c4_i32
  let c1_i32_9 : BitVec 32 := 1#32
  let v42 : BitVec 32 := Scalar.addi v40 c1_i32_9
  let c4_i32_10 : BitVec 32 := 4#32
  let v43 : BitVec 32 := Scalar.muli v42 c4_i32_10
  let v44 : BitVec 32 := Scalar.subi v43 v41
  let c1_i32_11 : BitVec 32 := 1#32
  let v46 : BitVec 32 := Scalar.divsi v44 c1_i32_11
  let v47 : BitVec 32 := Scalar.muli v46 c1_i32_11
  let v48 : BitVec 32 := Scalar.addi v41 v47
  let v45 : BitVec 32 := Scalar.addi v41 v44
  let c1_i32_13 : BitVec 32 := 1#32
  ⟨v48, v45, c1_i32_13⟩

def k1_chk40 (i : grid1.Coords) (k1_t6 : Fin (k1_t6_loop i).trips) (v38 : BitVec 32) (v40 : BitVec 32) : Prop :=
  ((k1_t7_loop v38 v40).OK) ∧
  ((k1_t9_loop v38 v40).OK)
theorem k1_t7_ok : ∀ (i : grid1.Coords) (k1_t6 : Fin (k1_t6_loop i).trips) (v38 : BitVec 32) (v40 : BitVec 32) (k1_hw40 : k1_chk40 i k1_t6 v38 v40), (k1_t7_loop v38 v40).OK := fun i k1_t6 v38 v40 k1_hw40 => k1_hw40.1
theorem k1_t9_ok : ∀ (i : grid1.Coords) (k1_t6 : Fin (k1_t6_loop i).trips) (v38 : BitVec 32) (v40 : BitVec 32) (k1_hw40 : k1_chk40 i k1_t6 v38 v40), (k1_t9_loop v38 v40).OK := fun i k1_t6 v38 v40 k1_hw40 => k1_hw40.2

@[reducible] def k1_t10_loop : Scf.Loop 32 :=
  let c0_i32_43 : BitVec 32 := 0#32
  let c16_i32_44 : BitVec 32 := 16#32
  let v144 : BitVec 32 := Scalar.addi c0_i32_43 c16_i32_44
  let c1_i32_45 : BitVec 32 := 1#32
  ⟨c0_i32_43, v144, c1_i32_45⟩

def k1_chk52 (i : grid1.Coords) (k1_t6 : Fin (k1_t6_loop i).trips) (v146 : IVec S16 32) (v148 : IVec S16 32) : Prop :=
  (∀ a x, ((![v146, v148] : Fin 2 → IVec S16 32) a x).toNat < S16x256.size a)
theorem k1_idx50_inb : ∀ (i : grid1.Coords) (k1_t6 : Fin (k1_t6_loop i).trips) (v146 : IVec S16 32) (v148 : IVec S16 32) (k1_hw52 : k1_chk52 i k1_t6 v146 v148), ∀ a x, ((![v146, v148] : Fin 2 → IVec S16 32) a x).toNat < S16x256.size a := fun i k1_t6 v146 v148 k1_hw52 => k1_hw52

def k1_chk53 (i : grid1.Coords) (k1_t6 : Fin (k1_t6_loop i).trips) (v151 : IVec S16 32) (v153 : IVec S16 32) : Prop :=
  (∀ a x, ((![v151, v153] : Fin 2 → IVec S16 32) a x).toNat < S16x256.size a)
theorem k1_idx51_inb : ∀ (i : grid1.Coords) (k1_t6 : Fin (k1_t6_loop i).trips) (v151 : IVec S16 32) (v153 : IVec S16 32) (k1_hw53 : k1_chk53 i k1_t6 v151 v153), ∀ a x, ((![v151, v153] : Fin 2 → IVec S16 32) a x).toNat < S16x256.size a := fun i k1_t6 v151 v153 k1_hw53 => k1_hw53

def k1_chk54 (i : grid1.Coords) (k1_t6 : Fin (k1_t6_loop i).trips) (v156 : IVec S16 32) (v158 : IVec S16 32) : Prop :=
  (∀ a x, ((![v156, v158] : Fin 2 → IVec S16 32) a x).toNat < S16x256.size a)
theorem k1_idx52_inb : ∀ (i : grid1.Coords) (k1_t6 : Fin (k1_t6_loop i).trips) (v156 : IVec S16 32) (v158 : IVec S16 32) (k1_hw54 : k1_chk54 i k1_t6 v156 v158), ∀ a x, ((![v156, v158] : Fin 2 → IVec S16 32) a x).toNat < S16x256.size a := fun i k1_t6 v156 v158 k1_hw54 => k1_hw54

def k1_chk55 (i : grid1.Coords) (k1_t6 : Fin (k1_t6_loop i).trips) (v161 : IVec S16 32) (v163 : IVec S16 32) : Prop :=
  (∀ a x, ((![v161, v163] : Fin 2 → IVec S16 32) a x).toNat < S16x256.size a)
theorem k1_idx53_inb : ∀ (i : grid1.Coords) (k1_t6 : Fin (k1_t6_loop i).trips) (v161 : IVec S16 32) (v163 : IVec S16 32) (k1_hw55 : k1_chk55 i k1_t6 v161 v163), ∀ a x, ((![v161, v163] : Fin 2 → IVec S16 32) a x).toNat < S16x256.size a := fun i k1_t6 v161 v163 k1_hw55 => k1_hw55

def k1_chk56 (i : grid1.Coords) (k1_t6 : Fin (k1_t6_loop i).trips) (v165 : IVec S16 32) (v167 : IVec S16 32) : Prop :=
  (∀ a x, ((![v165, v167] : Fin 2 → IVec S16 32) a x).toNat < S16x256.size a)
theorem k1_idx54_inb : ∀ (i : grid1.Coords) (k1_t6 : Fin (k1_t6_loop i).trips) (v165 : IVec S16 32) (v167 : IVec S16 32) (k1_hw56 : k1_chk56 i k1_t6 v165 v167), ∀ a x, ((![v165, v167] : Fin 2 → IVec S16 32) a x).toNat < S16x256.size a := fun i k1_t6 v165 v167 k1_hw56 => k1_hw56

def k1_chk57 (i : grid1.Coords) (k1_t6 : Fin (k1_t6_loop i).trips) (v180 : IVec S16 32) (v182 : IVec S16 32) : Prop :=
  (∀ a x, ((![v180, v182] : Fin 2 → IVec S16 32) a x).toNat < S16x256.size a)
theorem k1_idx55_inb : ∀ (i : grid1.Coords) (k1_t6 : Fin (k1_t6_loop i).trips) (v180 : IVec S16 32) (v182 : IVec S16 32) (k1_hw57 : k1_chk57 i k1_t6 v180 v182), ∀ a x, ((![v180, v182] : Fin 2 → IVec S16 32) a x).toNat < S16x256.size a := fun i k1_t6 v180 v182 k1_hw57 => k1_hw57

def k1_chk58 (i : grid1.Coords) (k1_t6 : Fin (k1_t6_loop i).trips) (v185 : IVec S16 32) (v187 : IVec S16 32) : Prop :=
  (∀ a x, ((![v185, v187] : Fin 2 → IVec S16 32) a x).toNat < S16x256.size a)
theorem k1_idx56_inb : ∀ (i : grid1.Coords) (k1_t6 : Fin (k1_t6_loop i).trips) (v185 : IVec S16 32) (v187 : IVec S16 32) (k1_hw58 : k1_chk58 i k1_t6 v185 v187), ∀ a x, ((![v185, v187] : Fin 2 → IVec S16 32) a x).toNat < S16x256.size a := fun i k1_t6 v185 v187 k1_hw58 => k1_hw58

def k1_chk59 (i : grid1.Coords) (k1_t6 : Fin (k1_t6_loop i).trips) (v191 : IVec S16 32) (v193 : IVec S16 32) : Prop :=
  (∀ a x, ((![v191, v193] : Fin 2 → IVec S16 32) a x).toNat < S16x256.size a)
theorem k1_idx57_inb : ∀ (i : grid1.Coords) (k1_t6 : Fin (k1_t6_loop i).trips) (v191 : IVec S16 32) (v193 : IVec S16 32) (k1_hw59 : k1_chk59 i k1_t6 v191 v193), ∀ a x, ((![v191, v193] : Fin 2 → IVec S16 32) a x).toNat < S16x256.size a := fun i k1_t6 v191 v193 k1_hw59 => k1_hw59

def k1_chk60 (i : grid1.Coords) (k1_t6 : Fin (k1_t6_loop i).trips) (v198 : IVec S16 32) (v200 : IVec S16 32) : Prop :=
  (∀ a x, ((![v198, v200] : Fin 2 → IVec S16 32) a x).toNat < S16x256.size a)
theorem k1_idx58_inb : ∀ (i : grid1.Coords) (k1_t6 : Fin (k1_t6_loop i).trips) (v198 : IVec S16 32) (v200 : IVec S16 32) (k1_hw60 : k1_chk60 i k1_t6 v198 v200), ∀ a x, ((![v198, v200] : Fin 2 → IVec S16 32) a x).toNat < S16x256.size a := fun i k1_t6 v198 v200 k1_hw60 => k1_hw60

def k1_chk61 (i : grid1.Coords) (k1_t6 : Fin (k1_t6_loop i).trips) (v203 : IVec S16 32) (v205 : IVec S16 32) : Prop :=
  (∀ a x, ((![v203, v205] : Fin 2 → IVec S16 32) a x).toNat < S16x256.size a)
theorem k1_idx59_inb : ∀ (i : grid1.Coords) (k1_t6 : Fin (k1_t6_loop i).trips) (v203 : IVec S16 32) (v205 : IVec S16 32) (k1_hw61 : k1_chk61 i k1_t6 v203 v205), ∀ a x, ((![v203, v205] : Fin 2 → IVec S16 32) a x).toNat < S16x256.size a := fun i k1_t6 v203 v205 k1_hw61 => k1_hw61

def k1_chk62 (i : grid1.Coords) (k1_t6 : Fin (k1_t6_loop i).trips) (v209 : IVec S16 32) (v211 : IVec S16 32) : Prop :=
  (∀ a x, ((![v209, v211] : Fin 2 → IVec S16 32) a x).toNat < S16x256.size a)
theorem k1_idx60_inb : ∀ (i : grid1.Coords) (k1_t6 : Fin (k1_t6_loop i).trips) (v209 : IVec S16 32) (v211 : IVec S16 32) (k1_hw62 : k1_chk62 i k1_t6 v209 v211), ∀ a x, ((![v209, v211] : Fin 2 → IVec S16 32) a x).toNat < S16x256.size a := fun i k1_t6 v209 v211 k1_hw62 => k1_hw62
def k1_off8 (i : grid1.Coords) (k1_t6 : Fin (k1_t6_loop i).trips) : Fin 1 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let c28_i32 : BitVec 32 := 28#32
  let c27_i32 : BitVec 32 := 27#32
  let v7 : BitVec 32 := Scalar.select v2 c28_i32 c27_i32
  let v14 : BitVec 32 := Scalar.subi v7 c0_i32_3
  let c1_i32 : BitVec 32 := 1#32
  let v16 : BitVec 32 := Scalar.divsi v14 c1_i32
  let v17 : BitVec 32 := Scalar.muli v16 c1_i32
  let v18 : BitVec 32 := Scalar.addi c0_i32_3 v17
  let c1_i32_5 : BitVec 32 := 1#32
  let arg10 : BitVec 32 := Scf.iv v18 c1_i32_5 k1_t6
  let c16_i32_7 : BitVec 32 := 16#32
  let v21 : BitVec 32 := Scalar.muli arg10 c16_i32_7
  let v61 : Index := Scalar.indexCast v21
  ![v61.toNat]

def k1_chk63 (i : grid1.Coords) (k1_t6 : Fin (k1_t6_loop i).trips) (v64 : IVec S16 32) (v65 : IVec S16 32) : Prop :=
  (∀ a x, ((![v65, v64] : Fin 2 → IVec S16 32) a x).toNat < S16x256.size a)
theorem k1_idx61_inb : ∀ (i : grid1.Coords) (k1_t6 : Fin (k1_t6_loop i).trips) (v64 : IVec S16 32) (v65 : IVec S16 32) (k1_hw63 : k1_chk63 i k1_t6 v64 v65), ∀ a x, ((![v65, v64] : Fin 2 → IVec S16 32) a x).toNat < S16x256.size a := fun i k1_t6 v64 v65 k1_hw63 => k1_hw63

def k1_chk64 (i : grid1.Coords) (k1_t6 : Fin (k1_t6_loop i).trips) (v71 : IVec S16 32) (v72 : IVec S16 32) : Prop :=
  (∀ a x, ((![v71, v72] : Fin 2 → IVec S16 32) a x).toNat < S448x8.size a)
theorem k1_idx62_inb : ∀ (i : grid1.Coords) (k1_t6 : Fin (k1_t6_loop i).trips) (v71 : IVec S16 32) (v72 : IVec S16 32) (k1_hw64 : k1_chk64 i k1_t6 v71 v72), ∀ a x, ((![v71, v72] : Fin 2 → IVec S16 32) a x).toNat < S448x8.size a := fun i k1_t6 v71 v72 k1_hw64 => k1_hw64

def k1_chk65 (i : grid1.Coords) (k1_t6 : Fin (k1_t6_loop i).trips) (v64 : IVec S16 32) (v73 : IVec S16 32) : Prop :=
  (∀ a x, ((![v73, v64] : Fin 2 → IVec S16 32) a x).toNat < S16x256.size a)
theorem k1_idx63_inb : ∀ (i : grid1.Coords) (k1_t6 : Fin (k1_t6_loop i).trips) (v64 : IVec S16 32) (v73 : IVec S16 32) (k1_hw65 : k1_chk65 i k1_t6 v64 v73), ∀ a x, ((![v73, v64] : Fin 2 → IVec S16 32) a x).toNat < S16x256.size a := fun i k1_t6 v64 v73 k1_hw65 => k1_hw65

def k1_chk66 (i : grid1.Coords) (k1_t6 : Fin (k1_t6_loop i).trips) (v79 : IVec S16 32) (v80 : IVec S16 32) : Prop :=
  (∀ a x, ((![v79, v80] : Fin 2 → IVec S16 32) a x).toNat < S448x8.size a)
theorem k1_idx64_inb : ∀ (i : grid1.Coords) (k1_t6 : Fin (k1_t6_loop i).trips) (v79 : IVec S16 32) (v80 : IVec S16 32) (k1_hw66 : k1_chk66 i k1_t6 v79 v80), ∀ a x, ((![v79, v80] : Fin 2 → IVec S16 32) a x).toNat < S448x8.size a := fun i k1_t6 v79 v80 k1_hw66 => k1_hw66

def k1_chk67 (i : grid1.Coords) (k1_t6 : Fin (k1_t6_loop i).trips) (v64 : IVec S16 32) (v81 : IVec S16 32) : Prop :=
  (∀ a x, ((![v81, v64] : Fin 2 → IVec S16 32) a x).toNat < S16x256.size a)
theorem k1_idx65_inb : ∀ (i : grid1.Coords) (k1_t6 : Fin (k1_t6_loop i).trips) (v64 : IVec S16 32) (v81 : IVec S16 32) (k1_hw67 : k1_chk67 i k1_t6 v64 v81), ∀ a x, ((![v81, v64] : Fin 2 → IVec S16 32) a x).toNat < S16x256.size a := fun i k1_t6 v64 v81 k1_hw67 => k1_hw67

def k1_chk68 (i : grid1.Coords) (k1_t6 : Fin (k1_t6_loop i).trips) (v87 : IVec S16 32) (v88 : IVec S16 32) : Prop :=
  (∀ a x, ((![v87, v88] : Fin 2 → IVec S16 32) a x).toNat < S448x8.size a)
theorem k1_idx66_inb : ∀ (i : grid1.Coords) (k1_t6 : Fin (k1_t6_loop i).trips) (v87 : IVec S16 32) (v88 : IVec S16 32) (k1_hw68 : k1_chk68 i k1_t6 v87 v88), ∀ a x, ((![v87, v88] : Fin 2 → IVec S16 32) a x).toNat < S448x8.size a := fun i k1_t6 v87 v88 k1_hw68 => k1_hw68

def k1_chk69 (i : grid1.Coords) (k1_t6 : Fin (k1_t6_loop i).trips) (v64 : IVec S16 32) (v89 : IVec S16 32) : Prop :=
  (∀ a x, ((![v89, v64] : Fin 2 → IVec S16 32) a x).toNat < S16x256.size a)
theorem k1_idx67_inb : ∀ (i : grid1.Coords) (k1_t6 : Fin (k1_t6_loop i).trips) (v64 : IVec S16 32) (v89 : IVec S16 32) (k1_hw69 : k1_chk69 i k1_t6 v64 v89), ∀ a x, ((![v89, v64] : Fin 2 → IVec S16 32) a x).toNat < S16x256.size a := fun i k1_t6 v64 v89 k1_hw69 => k1_hw69

def k1_chk70 (i : grid1.Coords) (k1_t6 : Fin (k1_t6_loop i).trips) (v94 : IVec S16 32) (v95 : IVec S16 32) : Prop :=
  (∀ a x, ((![v94, v95] : Fin 2 → IVec S16 32) a x).toNat < S448x8.size a)
theorem k1_idx68_inb : ∀ (i : grid1.Coords) (k1_t6 : Fin (k1_t6_loop i).trips) (v94 : IVec S16 32) (v95 : IVec S16 32) (k1_hw70 : k1_chk70 i k1_t6 v94 v95), ∀ a x, ((![v94, v95] : Fin 2 → IVec S16 32) a x).toNat < S448x8.size a := fun i k1_t6 v94 v95 k1_hw70 => k1_hw70

def k1_chk71 (i : grid1.Coords) (k1_t6 : Fin (k1_t6_loop i).trips) (v64 : IVec S16 32) (v96 : IVec S16 32) : Prop :=
  (∀ a x, ((![v96, v64] : Fin 2 → IVec S16 32) a x).toNat < S16x256.size a)
theorem k1_idx69_inb : ∀ (i : grid1.Coords) (k1_t6 : Fin (k1_t6_loop i).trips) (v64 : IVec S16 32) (v96 : IVec S16 32) (k1_hw71 : k1_chk71 i k1_t6 v64 v96), ∀ a x, ((![v96, v64] : Fin 2 → IVec S16 32) a x).toNat < S16x256.size a := fun i k1_t6 v64 v96 k1_hw71 => k1_hw71

def k1_chk72 (i : grid1.Coords) (k1_t6 : Fin (k1_t6_loop i).trips) (v101 : IVec S16 32) (v102 : IVec S16 32) : Prop :=
  (∀ a x, ((![v101, v102] : Fin 2 → IVec S16 32) a x).toNat < S448x8.size a)
theorem k1_idx70_inb : ∀ (i : grid1.Coords) (k1_t6 : Fin (k1_t6_loop i).trips) (v101 : IVec S16 32) (v102 : IVec S16 32) (k1_hw72 : k1_chk72 i k1_t6 v101 v102), ∀ a x, ((![v101, v102] : Fin 2 → IVec S16 32) a x).toNat < S448x8.size a := fun i k1_t6 v101 v102 k1_hw72 => k1_hw72

def k1_chk73 (i : grid1.Coords) (k1_t6 : Fin (k1_t6_loop i).trips) (v64 : IVec S16 32) (v103 : IVec S16 32) : Prop :=
  (∀ a x, ((![v103, v64] : Fin 2 → IVec S16 32) a x).toNat < S16x256.size a)
theorem k1_idx71_inb : ∀ (i : grid1.Coords) (k1_t6 : Fin (k1_t6_loop i).trips) (v64 : IVec S16 32) (v103 : IVec S16 32) (k1_hw73 : k1_chk73 i k1_t6 v64 v103), ∀ a x, ((![v103, v64] : Fin 2 → IVec S16 32) a x).toNat < S16x256.size a := fun i k1_t6 v64 v103 k1_hw73 => k1_hw73

def k1_chk74 (i : grid1.Coords) (k1_t6 : Fin (k1_t6_loop i).trips) (v108 : IVec S16 32) (v109 : IVec S16 32) : Prop :=
  (∀ a x, ((![v108, v109] : Fin 2 → IVec S16 32) a x).toNat < S448x8.size a)
theorem k1_idx72_inb : ∀ (i : grid1.Coords) (k1_t6 : Fin (k1_t6_loop i).trips) (v108 : IVec S16 32) (v109 : IVec S16 32) (k1_hw74 : k1_chk74 i k1_t6 v108 v109), ∀ a x, ((![v108, v109] : Fin 2 → IVec S16 32) a x).toNat < S448x8.size a := fun i k1_t6 v108 v109 k1_hw74 => k1_hw74

def k1_chk75 (i : grid1.Coords) (k1_t6 : Fin (k1_t6_loop i).trips) (v64 : IVec S16 32) (v110 : IVec S16 32) : Prop :=
  (∀ a x, ((![v110, v64] : Fin 2 → IVec S16 32) a x).toNat < S16x256.size a)
theorem k1_idx73_inb : ∀ (i : grid1.Coords) (k1_t6 : Fin (k1_t6_loop i).trips) (v64 : IVec S16 32) (v110 : IVec S16 32) (k1_hw75 : k1_chk75 i k1_t6 v64 v110), ∀ a x, ((![v110, v64] : Fin 2 → IVec S16 32) a x).toNat < S16x256.size a := fun i k1_t6 v64 v110 k1_hw75 => k1_hw75

def k1_chk76 (i : grid1.Coords) (k1_t6 : Fin (k1_t6_loop i).trips) (v115 : IVec S16 32) (v116 : IVec S16 32) : Prop :=
  (∀ a x, ((![v115, v116] : Fin 2 → IVec S16 32) a x).toNat < S448x8.size a)
theorem k1_idx74_inb : ∀ (i : grid1.Coords) (k1_t6 : Fin (k1_t6_loop i).trips) (v115 : IVec S16 32) (v116 : IVec S16 32) (k1_hw76 : k1_chk76 i k1_t6 v115 v116), ∀ a x, ((![v115, v116] : Fin 2 → IVec S16 32) a x).toNat < S448x8.size a := fun i k1_t6 v115 v116 k1_hw76 => k1_hw76

def k1_chk77 (i : grid1.Coords) (k1_t6 : Fin (k1_t6_loop i).trips) (v64 : IVec S16 32) (v117 : IVec S16 32) : Prop :=
  (∀ a x, ((![v117, v64] : Fin 2 → IVec S16 32) a x).toNat < S16x256.size a)
theorem k1_idx75_inb : ∀ (i : grid1.Coords) (k1_t6 : Fin (k1_t6_loop i).trips) (v64 : IVec S16 32) (v117 : IVec S16 32) (k1_hw77 : k1_chk77 i k1_t6 v64 v117), ∀ a x, ((![v117, v64] : Fin 2 → IVec S16 32) a x).toNat < S16x256.size a := fun i k1_t6 v64 v117 k1_hw77 => k1_hw77

def k1_chk78 (i : grid1.Coords) (k1_t6 : Fin (k1_t6_loop i).trips) (v122 : IVec S16 32) (v123 : IVec S16 32) : Prop :=
  (∀ a x, ((![v122, v123] : Fin 2 → IVec S16 32) a x).toNat < S448x8.size a)
theorem k1_idx76_inb : ∀ (i : grid1.Coords) (k1_t6 : Fin (k1_t6_loop i).trips) (v122 : IVec S16 32) (v123 : IVec S16 32) (k1_hw78 : k1_chk78 i k1_t6 v122 v123), ∀ a x, ((![v122, v123] : Fin 2 → IVec S16 32) a x).toNat < S448x8.size a := fun i k1_t6 v122 v123 k1_hw78 => k1_hw78
def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c432_i32 : BitVec 32 := 432#32
  let v3 : BitVec 32 := Scalar.muli v1 c432_i32
  let c11_i32_0 : BitVec 32 := 11#32
  let v4 : BitVec 32 := Scalar.minsi v1 c11_i32_0
  let c16_i32 : BitVec 32 := 16#32
  let v5 : BitVec 32 := Scalar.muli v4 c16_i32
  let v6 : BitVec 32 := Scalar.addi v3 v5
  ![v6.toNat]
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c432_i32 : BitVec 32 := 432#32
  let v3 : BitVec 32 := Scalar.muli v1 c432_i32
  let c11_i32_0 : BitVec 32 := 11#32
  let v4 : BitVec 32 := Scalar.minsi v1 c11_i32_0
  let c16_i32 : BitVec 32 := 16#32
  let v5 : BitVec 32 := Scalar.muli v4 c16_i32
  let v6 : BitVec 32 := Scalar.addi v3 v5
  let c0_i32_9_r10 : BitVec 32 := 0#32
  ![v6.toNat, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let v2 : BitVec 1 := Scalar.cmpi .slt v1 c11_i32
  let v19 : BitVec 32 := Scalar.extui v2
  let c0_i32_6 : BitVec 32 := 0#32
  let v20 : BitVec 1 := Scalar.cmpi .ne v19 c0_i32_6
  v20

def k1_off11 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c432_i32 : BitVec 32 := 432#32
  let v3 : BitVec 32 := Scalar.muli v1 c432_i32
  let c11_i32_0 : BitVec 32 := 11#32
  let v4 : BitVec 32 := Scalar.minsi v1 c11_i32_0
  let c16_i32 : BitVec 32 := 16#32
  let v5 : BitVec 32 := Scalar.muli v4 c16_i32
  let v6 : BitVec 32 := Scalar.addi v3 v5
  let c432_i32_7 : BitVec 32 := 432#32
  let v21 : BitVec 32 := Scalar.addi v6 c432_i32_7
  ![v21.toNat]
def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c432_i32 : BitVec 32 := 432#32
  let v3 : BitVec 32 := Scalar.muli v1 c432_i32
  let c11_i32_0 : BitVec 32 := 11#32
  let v4 : BitVec 32 := Scalar.minsi v1 c11_i32_0
  let c16_i32 : BitVec 32 := 16#32
  let v5 : BitVec 32 := Scalar.muli v4 c16_i32
  let v6 : BitVec 32 := Scalar.addi v3 v5
  let c432_i32_8 : BitVec 32 := 432#32
  let v22 : BitVec 32 := Scalar.addi v6 c432_i32_8
  let c0_i32_11_r12 : BitVec 32 := 0#32
  ![v22.toNat, 0]
abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x4 : Shape := ⟨2, ![20000, 4]⟩
abbrev S4x64x8 : Shape := ⟨3, ![4, 64, 8]⟩
abbrev S20000x1 : Shape := ⟨2, ![20000, 1]⟩
abbrev S20000 : Shape := ⟨1, ![20000]⟩
abbrev S20000x3 : Shape := ⟨2, ![20000, 3]⟩
abbrev S_ : Shape := ⟨0, ![]⟩
abbrev S1 : Shape := ⟨1, ![1]⟩
abbrev S1x1 : Shape := ⟨2, ![1, 1]⟩
abbrev S20000x64x8 : Shape := ⟨3, ![20000, 64, 8]⟩
abbrev S20000x64x7 : Shape := ⟨3, ![20000, 64, 7]⟩
abbrev S20000x1x3 : Shape := ⟨3, ![20000, 1, 3]⟩
abbrev S20000x64x3 : Shape := ⟨3, ![20000, 64, 3]⟩
abbrev S20000x64x1 : Shape := ⟨3, ![20000, 64, 1]⟩
abbrev S20000x64 : Shape := ⟨2, ![20000, 64]⟩
abbrev S64 : Shape := ⟨1, ![64]⟩
abbrev S20000x1x1 : Shape := ⟨3, ![20000, 1, 1]⟩
abbrev S1x1x1 : Shape := ⟨3, ![1, 1, 1]⟩
abbrev S20000x1x8 : Shape := ⟨3, ![20000, 1, 8]⟩
abbrev S20000x8 : Shape := ⟨2, ![20000, 8]⟩
abbrev S20000x2 : Shape := ⟨2, ![20000, 2]⟩

abbrev nBuf : Space → Nat
  | .hbm => 246
  | .vmem => 0
  | .smem => 0
  | _ => 0

abbrev hbmTy0_0 (i : Nat) : BufTy := match i % 128 with
  | 0 => ⟨S20000x4, .f32⟩
  | 1 => ⟨S4x64x8, .f32⟩
  | 2 => ⟨S4x64x8, .f32⟩
  | 3 => ⟨S20000x1, .f32⟩
  | 4 => ⟨S20000, .f32⟩
  | 5 => ⟨S20000, .i32⟩
  | 6 => ⟨S20000x3, .f32⟩
  | 7 => ⟨S_, .i32⟩
  | 8 => ⟨S20000, .i32⟩
  | 9 => ⟨S20000, .i1⟩
  | 10 => ⟨S_, .i32⟩
  | 11 => ⟨S20000, .i32⟩
  | 12 => ⟨S20000, .i32⟩
  | 13 => ⟨S20000, .i32⟩
  | 14 => ⟨S20000x1, .i32⟩
  | 15 => ⟨S1, .i32⟩
  | 16 => ⟨S_, .i32⟩
  | 17 => ⟨S20000x1, .i32⟩
  | 18 => ⟨S20000x1, .i1⟩
  | 19 => ⟨S1x1, .i32⟩
  | 20 => ⟨S20000x1, .i32⟩
  | 21 => ⟨S20000x1, .i1⟩
  | 22 => ⟨S20000x1, .i1⟩
  | 23 => ⟨S_, .i1⟩
  | 24 => ⟨S20000, .i1⟩
  | 25 => ⟨S20000x64x8, .f32⟩
  | 26 => ⟨S20000x64x8, .i1⟩
  | 27 => ⟨S_, .f32⟩
  | 28 => ⟨S20000x64x8, .f32⟩
  | 29 => ⟨S20000x64x8, .f32⟩
  | 30 => ⟨S_, .i32⟩
  | 31 => ⟨S20000, .i32⟩
  | 32 => ⟨S20000, .i1⟩
  | 33 => ⟨S_, .i32⟩
  | 34 => ⟨S20000, .i32⟩
  | 35 => ⟨S20000, .i32⟩
  | 36 => ⟨S20000, .i32⟩
  | 37 => ⟨S20000x1, .i32⟩
  | 38 => ⟨S1, .i32⟩
  | 39 => ⟨S_, .i32⟩
  | 40 => ⟨S20000x1, .i32⟩
  | 41 => ⟨S20000x1, .i1⟩
  | 42 => ⟨S1x1, .i32⟩
  | 43 => ⟨S20000x1, .i32⟩
  | 44 => ⟨S20000x1, .i1⟩
  | 45 => ⟨S20000x1, .i1⟩
  | 46 => ⟨S_, .i1⟩
  | 47 => ⟨S20000, .i1⟩
  | 48 => ⟨S20000x64x8, .f32⟩
  | 49 => ⟨S20000x64x8, .i1⟩
  | 50 => ⟨S_, .f32⟩
  | 51 => ⟨S20000x64x8, .f32⟩
  | 52 => ⟨S20000x64x8, .f32⟩
  | 53 => ⟨S20000x64x7, .f32⟩
  | 54 => ⟨S20000x1x3, .f32⟩
  | 55 => ⟨S20000x64x3, .f32⟩
  | 56 => ⟨S20000x64x3, .f32⟩
  | 57 => ⟨S20000x64x3, .f32⟩
  | 58 => ⟨S20000x64x1, .f32⟩
  | 59 => ⟨S20000x64, .f32⟩
  | 60 => ⟨S20000x64, .f32⟩
  | 61 => ⟨S20000x64, .f32⟩
  | 62 => ⟨S20000x64x1, .f32⟩
  | 63 => ⟨S20000x64, .f32⟩
  | 64 => ⟨S20000x64, .f32⟩
  | 65 => ⟨S20000x64x1, .f32⟩
  | 66 => ⟨S20000x64, .f32⟩
  | 67 => ⟨S20000x64, .f32⟩
  | 68 => ⟨S20000x64, .f32⟩
  | 69 => ⟨S20000x64x1, .f32⟩
  | 70 => ⟨S20000x64, .f32⟩
  | 71 => ⟨S20000x64, .f32⟩
  | 72 => ⟨S20000x64, .f32⟩
  | 73 => ⟨S20000x64x1, .f32⟩
  | 74 => ⟨S20000x64, .f32⟩
  | 75 => ⟨S20000x64, .f32⟩
  | 76 => ⟨S20000x64, .f32⟩
  | 77 => ⟨S20000x64x1, .f32⟩
  | 78 => ⟨S20000x64, .f32⟩
  | 79 => ⟨S20000x64, .f32⟩
  | 80 => ⟨S20000x64x1, .f32⟩
  | 81 => ⟨S20000x64, .f32⟩
  | 82 => ⟨S_, .f32⟩
  | 83 => ⟨S20000x64, .f32⟩
  | 84 => ⟨S20000x64, .f32⟩
  | 85 => ⟨S20000x64, .i1⟩
  | 86 => ⟨S20000x64, .f32⟩
  | 87 => ⟨S20000x64x1, .f32⟩
  | 88 => ⟨S20000x64, .f32⟩
  | 89 => ⟨S_, .f32⟩
  | 90 => ⟨S20000x64, .f32⟩
  | 91 => ⟨S20000x64, .f32⟩
  | 92 => ⟨S20000x64, .i1⟩
  | 93 => ⟨S20000x64, .i1⟩
  | 94 => ⟨S20000x64, .f32⟩
  | 95 => ⟨S20000x64x1, .f32⟩
  | 96 => ⟨S20000x64, .f32⟩
  | 97 => ⟨S_, .f32⟩
  | 98 => ⟨S20000x64, .f32⟩
  | 99 => ⟨S20000x64, .f32⟩
  | 100 => ⟨S20000x64, .i1⟩
  | 101 => ⟨S20000x64, .i1⟩
  | 102 => ⟨S64, .i32⟩
  | 103 => ⟨S_, .i32⟩
  | 104 => ⟨S_, .i32⟩
  | 105 => ⟨S20000x64, .i32⟩
  | 106 => ⟨S20000x64, .i32⟩
  | 107 => ⟨S20000x64, .i32⟩
  | 108 => ⟨S_, .i32⟩
  | 109 => ⟨S20000, .i32⟩
  | 110 => ⟨S_, .i32⟩
  | 111 => ⟨S20000, .i32⟩
  | 112 => ⟨S20000, .i1⟩
  | 113 => ⟨S_, .i32⟩
  | 114 => ⟨S_, .i32⟩
  | 115 => ⟨S20000, .i32⟩
  | 116 => ⟨S20000, .i32⟩
  | 117 => ⟨S20000x64x7, .f32⟩
  | 118 => ⟨S20000x1x3, .f32⟩
  | 119 => ⟨S20000x64x3, .f32⟩
  | 120 => ⟨S20000x64x3, .f32⟩
  | 121 => ⟨S20000x64x3, .f32⟩
  | 122 => ⟨S20000x64x1, .f32⟩
  | 123 => ⟨S20000x64, .f32⟩
  | 124 => ⟨S20000x64, .f32⟩
  | 125 => ⟨S20000x64, .f32⟩
  | 126 => ⟨S20000x64x1, .f32⟩
  | 127 => ⟨S20000x64, .f32⟩
  | _ => ⟨S20000x4, .f32⟩

abbrev hbmTy0_1 (i : Nat) : BufTy := match i % 128 with
  | 0 => ⟨S20000x64, .f32⟩
  | 1 => ⟨S20000x64x1, .f32⟩
  | 2 => ⟨S20000x64, .f32⟩
  | 3 => ⟨S20000x64, .f32⟩
  | 4 => ⟨S20000x64, .f32⟩
  | 5 => ⟨S20000x64x1, .f32⟩
  | 6 => ⟨S20000x64, .f32⟩
  | 7 => ⟨S20000x64, .f32⟩
  | 8 => ⟨S20000x64, .f32⟩
  | 9 => ⟨S20000x64x1, .f32⟩
  | 10 => ⟨S20000x64, .f32⟩
  | 11 => ⟨S20000x64, .f32⟩
  | 12 => ⟨S20000x64, .f32⟩
  | 13 => ⟨S20000x64x1, .f32⟩
  | 14 => ⟨S20000x64, .f32⟩
  | 15 => ⟨S20000x64, .f32⟩
  | 16 => ⟨S20000x64x1, .f32⟩
  | 17 => ⟨S20000x64, .f32⟩
  | 18 => ⟨S_, .f32⟩
  | 19 => ⟨S20000x64, .f32⟩
  | 20 => ⟨S20000x64, .f32⟩
  | 21 => ⟨S20000x64, .i1⟩
  | 22 => ⟨S20000x64, .f32⟩
  | 23 => ⟨S20000x64x1, .f32⟩
  | 24 => ⟨S20000x64, .f32⟩
  | 25 => ⟨S_, .f32⟩
  | 26 => ⟨S20000x64, .f32⟩
  | 27 => ⟨S20000x64, .f32⟩
  | 28 => ⟨S20000x64, .i1⟩
  | 29 => ⟨S20000x64, .i1⟩
  | 30 => ⟨S20000x64, .f32⟩
  | 31 => ⟨S20000x64x1, .f32⟩
  | 32 => ⟨S20000x64, .f32⟩
  | 33 => ⟨S_, .f32⟩
  | 34 => ⟨S20000x64, .f32⟩
  | 35 => ⟨S20000x64, .f32⟩
  | 36 => ⟨S20000x64, .i1⟩
  | 37 => ⟨S20000x64, .i1⟩
  | 38 => ⟨S64, .i32⟩
  | 39 => ⟨S_, .i32⟩
  | 40 => ⟨S_, .i32⟩
  | 41 => ⟨S20000x64, .i32⟩
  | 42 => ⟨S20000x64, .i32⟩
  | 43 => ⟨S20000x64, .i32⟩
  | 44 => ⟨S_, .i32⟩
  | 45 => ⟨S20000, .i32⟩
  | 46 => ⟨S_, .i32⟩
  | 47 => ⟨S20000, .i32⟩
  | 48 => ⟨S20000, .i1⟩
  | 49 => ⟨S_, .i32⟩
  | 50 => ⟨S_, .i32⟩
  | 51 => ⟨S20000, .i32⟩
  | 52 => ⟨S20000, .i32⟩
  | 53 => ⟨S_, .i32⟩
  | 54 => ⟨S20000, .i32⟩
  | 55 => ⟨S20000, .i1⟩
  | 56 => ⟨S_, .i32⟩
  | 57 => ⟨S20000, .i32⟩
  | 58 => ⟨S20000, .i1⟩
  | 59 => ⟨S20000, .i1⟩
  | 60 => ⟨S_, .i32⟩
  | 61 => ⟨S_, .i32⟩
  | 62 => ⟨S20000, .i32⟩
  | 63 => ⟨S20000, .i32⟩
  | 64 => ⟨S20000, .i32⟩
  | 65 => ⟨S_, .i32⟩
  | 66 => ⟨S20000, .i32⟩
  | 67 => ⟨S20000, .i32⟩
  | 68 => ⟨S20000, .i32⟩
  | 69 => ⟨S_, .i32⟩
  | 70 => ⟨S_, .i32⟩
  | 71 => ⟨S20000, .i32⟩
  | 72 => ⟨S20000, .i32⟩
  | 73 => ⟨S20000x1x1, .i32⟩
  | 74 => ⟨S_, .i32⟩
  | 75 => ⟨S20000x1x1, .i32⟩
  | 76 => ⟨S20000x1x1, .i1⟩
  | 77 => ⟨S_, .i32⟩
  | 78 => ⟨S20000x1x1, .i32⟩
  | 79 => ⟨S20000x1x1, .i32⟩
  | 80 => ⟨S20000x1x1, .i32⟩
  | 81 => ⟨S1, .i32⟩
  | 82 => ⟨S_, .i32⟩
  | 83 => ⟨S20000x1x1, .i32⟩
  | 84 => ⟨S20000x1x1, .i1⟩
  | 85 => ⟨S1x1x1, .i32⟩
  | 86 => ⟨S20000x1x1, .i32⟩
  | 87 => ⟨S20000x1x1, .i1⟩
  | 88 => ⟨S20000x1x1, .i1⟩
  | 89 => ⟨S_, .i1⟩
  | 90 => ⟨S20000x1, .i1⟩
  | 91 => ⟨S20000x1x8, .f32⟩
  | 92 => ⟨S20000x1x8, .i1⟩
  | 93 => ⟨S_, .f32⟩
  | 94 => ⟨S20000x1x8, .f32⟩
  | 95 => ⟨S20000x1x8, .f32⟩
  | 96 => ⟨S20000x8, .f32⟩
  | 97 => ⟨S20000x3, .f32⟩
  | 98 => ⟨S20000x3, .f32⟩
  | 99 => ⟨S20000x3, .f32⟩
  | 100 => ⟨S_, .f32⟩
  | 101 => ⟨S20000x3, .f32⟩
  | 102 => ⟨S20000x3, .f32⟩
  | 103 => ⟨S20000x3, .f32⟩
  | 104 => ⟨S20000x1, .f32⟩
  | 105 => ⟨S20000, .f32⟩
  | 106 => ⟨S20000, .f32⟩
  | 107 => ⟨S20000x1, .f32⟩
  | 108 => ⟨S20000, .f32⟩
  | 109 => ⟨S20000, .f32⟩
  | 110 => ⟨S20000x1, .f32⟩
  | 111 => ⟨S20000x1, .f32⟩
  | 112 => ⟨S20000x2, .f32⟩
  | 113 => ⟨S20000x8, .f32⟩
  | 114 => ⟨S20000x1, .i1⟩
  | 115 => ⟨S20000x1, .f32⟩
  | 116 => ⟨S20000x8, .f32⟩
  | 117 => ⟨S20000x8, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_0 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_1 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_c : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v53 : Ref sig .tc := ⟨.hbm, 107, rfl⟩
abbrev main_c_2 : Ref sig .tc := ⟨.hbm, 108, rfl⟩
abbrev main_v54 : Ref sig .tc := ⟨.hbm, 109, rfl⟩
abbrev main_c_3 : Ref sig .tc := ⟨.hbm, 110, rfl⟩
abbrev main_v55 : Ref sig .tc := ⟨.hbm, 111, rfl⟩
abbrev main_v56 : Ref sig .tc := ⟨.hbm, 112, rfl⟩
abbrev main_c_4 : Ref sig .tc := ⟨.hbm, 113, rfl⟩
abbrev main_call3_v0 : Ref sig .tc := ⟨.hbm, 114, rfl⟩
abbrev main_call3_v1 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_6 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_7 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_8 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v105 : Ref sig .tc := ⟨.hbm, 171, rfl⟩
abbrev main_c_9 : Ref sig .tc := ⟨.hbm, 172, rfl⟩
abbrev main_v106 : Ref sig .tc := ⟨.hbm, 173, rfl⟩
abbrev main_c_10 : Ref sig .tc := ⟨.hbm, 174, rfl⟩
abbrev main_v107 : Ref sig .tc := ⟨.hbm, 175, rfl⟩
abbrev main_v108 : Ref sig .tc := ⟨.hbm, 176, rfl⟩
abbrev main_c_11 : Ref sig .tc := ⟨.hbm, 177, rfl⟩
abbrev main_call5_v0 : Ref sig .tc := ⟨.hbm, 178, rfl⟩
abbrev main_call5_v1 : Ref sig .tc := ⟨.hbm, 179, rfl⟩
abbrev main_v109 : Ref sig .tc := ⟨.hbm, 180, rfl⟩
abbrev main_c_12 : Ref sig .tc := ⟨.hbm, 181, rfl⟩
abbrev main_v110 : Ref sig .tc := ⟨.hbm, 182, rfl⟩
abbrev main_v111 : Ref sig .tc := ⟨.hbm, 183, rfl⟩
abbrev main_c_13 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_c_14 : Ref sig .tc := ⟨.hbm, 188, rfl⟩
abbrev main_c_15 : Ref sig .tc := ⟨.hbm, 189, rfl⟩
abbrev main_call6_v0 : Ref sig .tc := ⟨.hbm, 190, rfl⟩
abbrev main_call6_v1 : Ref sig .tc := ⟨.hbm, 191, rfl⟩
abbrev main_v115 : Ref sig .tc := ⟨.hbm, 192, rfl⟩
abbrev main_c_16 : Ref sig .tc := ⟨.hbm, 193, rfl⟩
abbrev main_call7_v0 : Ref sig .tc := ⟨.hbm, 194, rfl⟩
abbrev main_v116 : Ref sig .tc := ⟨.hbm, 195, rfl⟩
abbrev main_v117 : Ref sig .tc := ⟨.hbm, 196, rfl⟩
abbrev main_c_17 : Ref sig .tc := ⟨.hbm, 197, rfl⟩
abbrev main_call8_v0 : Ref sig .tc := ⟨.hbm, 198, rfl⟩
abbrev main_call8_v1 : Ref sig .tc := ⟨.hbm, 199, rfl⟩
abbrev main_v118 : Ref sig .tc := ⟨.hbm, 200, rfl⟩
abbrev main_v119 : Ref sig .tc := ⟨.hbm, 201, rfl⟩
abbrev main_call9_c : Ref sig .tc := ⟨.hbm, 202, rfl⟩
abbrev main_call9_v0 : Ref sig .tc := ⟨.hbm, 203, rfl⟩
abbrev main_call9_v1 : Ref sig .tc := ⟨.hbm, 204, rfl⟩
abbrev main_call9_c_0 : Ref sig .tc := ⟨.hbm, 205, rfl⟩
abbrev main_call9_v2 : Ref sig .tc := ⟨.hbm, 206, rfl⟩
abbrev main_call9_v3 : Ref sig .tc := ⟨.hbm, 207, rfl⟩
abbrev main_call9_v4 : Ref sig .tc := ⟨.hbm, 208, rfl⟩
abbrev main_call9_c_1 : Ref sig .tc := ⟨.hbm, 209, rfl⟩
abbrev main_call9_c_2 : Ref sig .tc := ⟨.hbm, 210, rfl⟩
abbrev main_call9_v5 : Ref sig .tc := ⟨.hbm, 211, rfl⟩
abbrev main_call9_v6 : Ref sig .tc := ⟨.hbm, 212, rfl⟩
abbrev main_call9_v7 : Ref sig .tc := ⟨.hbm, 213, rfl⟩
abbrev main_call9_v8 : Ref sig .tc := ⟨.hbm, 214, rfl⟩
abbrev main_call9_v9 : Ref sig .tc := ⟨.hbm, 215, rfl⟩
abbrev main_call9_v10 : Ref sig .tc := ⟨.hbm, 216, rfl⟩
abbrev main_call9_c_3 : Ref sig .tc := ⟨.hbm, 217, rfl⟩
abbrev main_call9_v11 : Ref sig .tc := ⟨.hbm, 218, rfl⟩
abbrev main_call9_v12 : Ref sig .tc := ⟨.hbm, 219, rfl⟩
abbrev main_call9_v13 : Ref sig .tc := ⟨.hbm, 220, rfl⟩
abbrev main_call9_cst : Ref sig .tc := ⟨.hbm, 221, rfl⟩
abbrev main_call9_v14 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_18 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩

abbrev nD : Nat := 1
abbrev τ : Topo := Topo.v7x

variable {F : FTy → Type} [FloatOps F]
-- ==== Proof.Spec.lean ====
/-
  What one point's class and box are, as functions of the table of boxes and of the point's four words, over any
  float values: the scan over the 256 boxes that keeps the first hit and whether the enlarged box was hit at all.
-/
module

public import proofs.«01_k».proof.Defs
public import Idealize.ShloMosaic.Lib.ValueIdx
public import proofs.«01_k».proof.Proof.Gen.KernelIdeal

@[expose] public section

noncomputable section

namespace Cert.KernelIdeal.Enc

open Idealize.ShloMosaic Idealize.ShloMosaic.ValueIdx Cert.KernelIdeal Cert.KernelIdeal.Gen

variable {F : FTy → Type} [FloatOps F]

/-- The table's word at row `r` of box `c` (read at `c` below 256). -/
def tb (T : Vec F S16x256 .f32) (r : Fin 16) (c : ℕ) : F .f32 := T (ix2 r ⟨c % 256, Nat.mod_lt _ (by decide)⟩)

/-- The point's distance from the box's centre along the box's length. -/
def dX (T : Vec F S16x256 .f32) (x y : F .f32) (c : ℕ) : F .f32 :=
  FloatOps.absf (FloatOps.addf (FloatOps.mulf (FloatOps.subf x (tb T 0 c)) (tb T 3 c))
    (FloatOps.mulf (FloatOps.subf y (tb T 1 c)) (tb T 4 c)))

/-- The distance along its width. -/
def dY (T : Vec F S16x256 .f32) (x y : F .f32) (c : ℕ) : F .f32 :=
  FloatOps.absf (FloatOps.addf
    (FloatOps.mulf (FloatOps.subf (Scalar.ofBits .f32 0x00000000#32) (FloatOps.subf x (tb T 0 c))) (tb T 4 c))
    (FloatOps.mulf (FloatOps.subf y (tb T 1 c)) (tb T 3 c)))

/-- The distance along its height. -/
def dZ (T : Vec F S16x256 .f32) (z : F .f32) (c : ℕ) : F .f32 := FloatOps.absf (FloatOps.subf z (tb T 2 c))

/-- Whether box `c` belongs to the point's batch item. -/
def sameB (b : F .f32) (c : ℕ) : BitVec 1 := IntOp.cmpi .eq (FloatOps.fptosi 32 b) (BitVec.ofNat 32 (c / 64))

/-- Whether the point lies in the box whose half sizes are rows `r₀ r₁ r₂`, among the boxes of its batch item. -/
def inBox (T : Vec F S16x256 .f32) (x y z b : F .f32) (r₀ r₁ r₂ : Fin 16) (c : ℕ) : BitVec 1 :=
  IntOp.andi (IntOp.andi (IntOp.andi (FloatOps.cmpf .ole (dX T x y c) (tb T r₀ c)) (FloatOps.cmpf .ole (dY T x y c) (tb T r₁ c)))
    (FloatOps.cmpf .ole (dZ T z c) (tb T r₂ c))) (sameB b c)

/-- The ground-truth box. -/
abbrev hitG (T : Vec F S16x256 .f32) (x y z b : F .f32) (c : ℕ) : BitVec 1 := inBox T x y z b 5 6 7 c
/-- The enlarged box. -/
abbrev hitE (T : Vec F S16x256 .f32) (x y z b : F .f32) (c : ℕ) : BitVec 1 := inBox T x y z b 8 9 10 c

/-- The least hit among the boxes below `n` (16384 when there is none). -/
def fhUp (h : ℕ → BitVec 1) : ℕ → BitVec 32
  | 0 => 16384#32
  | n + 1 => IntOp.minsi (fhUp h n) (Scalar.select (h n) (BitVec.ofNat 32 n) 16384#32)

/-- Whether some box below `n` is hit (1 or 0). -/
def eaUp (h : ℕ → BitVec 1) : ℕ → BitVec 32
  | 0 => 0#32
  | n + 1 => Scalar.select (h n) 1#32 (eaUp h n)

/-- Whether a first hit was found. -/
def isFg (f : BitVec 32) : BitVec 1 := IntOp.cmpi .slt f 16384#32

/-- The class of a point from its first hit and from whether an enlarged box was hit. -/
def clsOf (f e : BitVec 32) : BitVec 32 :=
  Scalar.select (IntOp.xori (isFg f) (IntOp.cmpi .ne e 0#32)) 4294967295#32 (Scalar.select (isFg f) 1#32 0#32)

/-- The box row to read: the first hit, or 0. -/
def safeOf (f : BitVec 32) : BitVec 32 := Scalar.select (isFg f) f 0#32

/-- The `k`-th entry of the encoded box of a point from its first hit. -/
def boxOf (T : Vec F S16x256 .f32) (x y z : F .f32) (f : BitVec 32) (k : Fin 8) : F .f32 :=
  Scalar.select (isFg f)
    (match k with
     | 0 => FloatOps.subf (tb T 0 (safeOf f).toNat) x
     | 1 => FloatOps.subf (tb T 1 (safeOf f).toNat) y
     | 2 => FloatOps.subf (tb T 2 (safeOf f).toNat) z
     | 3 => tb T 11 (safeOf f).toNat
     | 4 => tb T 12 (safeOf f).toNat
     | 5 => tb T 13 (safeOf f).toNat
     | 6 => tb T 3 (safeOf f).toNat
     | 7 => tb T 4 (safeOf f).toNat)
    (Scalar.ofBits .f32 0x00000000#32)

/-- A point's first hit among all 256 boxes. -/
def fh (T : Vec F S16x256 .f32) (x y z b : F .f32) : BitVec 32 := fhUp (hitG T x y z b) 256
/-- Whether a point is in some enlarged box. -/
def ea (T : Vec F S16x256 .f32) (x y z b : F .f32) : BitVec 32 := eaUp (hitE T x y z b) 256

/-! ### The scan may start and stop at the point's own batch item -/

theorem fhUp_ext {h h' : ℕ → BitVec 1} (n : ℕ) (H : ∀ c < n, h c = h' c) : fhUp h n = fhUp h' n := by
  induction n with
  | zero => rfl
  | succ n ih => simp only [fhUp]; rw [ih fun c hc => H c (by omega), H n (by omega)]

theorem eaUp_ext {h h' : ℕ → BitVec 1} (n : ℕ) (H : ∀ c < n, h c = h' c) : eaUp h n = eaUp h' n := by
  induction n with
  | zero => rfl
  | succ n ih => simp only [eaUp]; rw [ih fun c hc => H c (by omega), H n (by omega)]

/-- No hits below `n`: the scan is where it starts. -/
theorem fhUp_none {h : ℕ → BitVec 1} (n : ℕ) (H : ∀ c < n, h c = 0#1) : fhUp h n = 16384#32 := by
  induction n with
  | zero => rfl
  | succ n ih => simp only [fhUp]; rw [ih fun c hc => H c (by omega), H n (by omega)]; rfl

theorem eaUp_none {h : ℕ → BitVec 1} (n : ℕ) (H : ∀ c < n, h c = 0#1) : eaUp h n = 0#32 := by
  induction n with
  | zero => rfl
  | succ n ih => simp only [eaUp]; rw [ih fun c hc => H c (by omega), H n (by omega)]; rfl

theorem slt_ofNat {a b : ℕ} (ha : a ≤ 16384) (hb : b ≤ 16384) : (BitVec.ofNat 32 a).slt (BitVec.ofNat 32 b) = decide (a < b) := by
  have h : ∀ n : ℕ, n ≤ 16384 → (BitVec.ofNat 32 n).toInt = (n : Int) := fun n hn => by
    rw [BitVec.toInt_eq_toNat_of_lt (by rw [BitVec.toNat_ofNat]; omega), BitVec.toNat_ofNat, Nat.mod_eq_of_lt (by omega)]
  rw [Bool.eq_iff_iff, BitVec.slt_iff_toInt_lt, decide_eq_true_iff, h a ha, h b hb]
  omega

theorem minsi_ofNat {a b : ℕ} (ha : a ≤ 16384) (hb : b ≤ 16384) :
    IntOp.minsi (BitVec.ofNat 32 a) (BitVec.ofNat 32 b) = BitVec.ofNat 32 (min a b) := by
  unfold IntOp.minsi; rw [slt_ofNat ha hb]
  by_cases h : a < b
  · rw [if_pos (by simpa using h), min_eq_left h.le]
  · rw [if_neg (by simpa using h), min_eq_right (by omega)]

theorem select_one {α : Type} (a b : α) : Scalar.select 1#1 a b = a := if_pos rfl
theorem select_zero {α : Type} (a b : α) : Scalar.select 0#1 a b = b := if_neg (by decide)
theorem bit_cases (b : BitVec 1) : b = 1#1 ∨ b = 0#1 := by revert b; decide

/-- What the scan holds is 16384 or a hit below `n`. -/
theorem fhUp_cases (h : ℕ → BitVec 1) (n : ℕ) (hn : n ≤ 256) :
    fhUp h n = BitVec.ofNat 32 16384 ∨ ∃ c < n, h c = 1#1 ∧ fhUp h n = BitVec.ofNat 32 c := by
  induction n with
  | zero => exact Or.inl rfl
  | succ n ih =>
    simp only [fhUp]
    rcases ih (by omega) with h0 | ⟨c, hc, hh, e⟩
    · rcases bit_cases (h n) with hb | hb
      · exact Or.inr ⟨n, by omega, hb, by rw [h0, hb, select_one, minsi_ofNat (by omega) (by omega), min_eq_right (by omega)]⟩
      · left; rw [h0, hb, select_zero]; decide
    · refine Or.inr ⟨c, by omega, hh, ?_⟩
      rcases bit_cases (h n) with hb | hb
      · rw [e, hb, select_one, minsi_ofNat (by omega) (by omega), min_eq_left (by omega)]
      · rw [e, hb, select_zero, show (16384#32) = BitVec.ofNat 32 16384 from rfl, minsi_ofNat (by omega) (by omega), min_eq_left (by omega)]

/-- No hits from `n` on: the scan has its final value. -/
theorem fhUp_stop {h : ℕ → BitVec 1} (n m : ℕ) (hnm : n ≤ m) (hm : m ≤ 256) (H : ∀ c, n ≤ c → c < m → h c = 0#1) : fhUp h m = fhUp h n := by
  induction m with
  | zero => rw [show n = 0 by omega]
  | succ m ih =>
    rcases Nat.lt_or_ge m n with hlt | hge
    · rw [show n = m + 1 by omega]
    · simp only [fhUp]
      rw [ih hge (by omega) fun c h1 h2 => H c h1 (by omega), H m hge (by omega)]
      rcases fhUp_cases h n (by omega) with e | ⟨c, hc, -, e⟩
      · rw [e, select_zero]; decide
      · rw [e, select_zero, show (16384#32) = BitVec.ofNat 32 16384 from rfl, minsi_ofNat (by omega) (by omega), min_eq_left (by omega)]

theorem eaUp_stop {h : ℕ → BitVec 1} (n m : ℕ) (hnm : n ≤ m) (H : ∀ c, n ≤ c → c < m → h c = 0#1) : eaUp h m = eaUp h n := by
  induction m with
  | zero => rw [show n = 0 by omega]
  | succ m ih =>
    rcases Nat.lt_or_ge m n with hlt | hge
    · rw [show n = m + 1 by omega]
    · simp only [eaUp]
      rw [ih hge fun c h1 h2 => H c h1 (by omega), H m hge (by omega)]; simp [Scalar.select]

/-- The box row read is one of the 256. -/
theorem safeOf_lt (h : ℕ → BitVec 1) : (safeOf (fhUp h 256)).toNat < 256 := by
  rcases fhUp_cases h 256 le_rfl with e | ⟨c, hc, -, e⟩
  · rw [e]; decide
  · rw [e]; unfold safeOf Scalar.select
    split
    · rw [BitVec.toNat_ofNat]; omega
    · decide

/-- A box of another batch item is not hit. -/
theorem inBox_of_ne {T : Vec F S16x256 .f32} {x y z b : F .f32} {r₀ r₁ r₂ : Fin 16} {c : ℕ}
    (hne : (FloatOps.fptosi 32 b : BitVec 32) ≠ BitVec.ofNat 32 (c / 64)) : inBox T x y z b r₀ r₁ r₂ c = 0#1 := by
  have h0 : sameB b c = 0#1 := by
    unfold sameB; simp only [IntOp.cmpi]; rw [beq_false_of_ne hne]; rfl
  unfold inBox; rw [h0]
  exact BitVec.and_zero

/-! ### The words the inner loop yields -/

/-- The quotient by 4 rounded down, as the loop computes it. -/
theorem floorDiv4 : ∀ cc : Fin 16,
    (Scalar.select (Scalar.andi
      (Scalar.cmpi .ne (Scalar.subi (Scalar.extui (Scalar.cmpi .sgt (BitVec.ofNat 32 cc.val) 0#32)) (Scalar.extui (Scalar.cmpi .slt (BitVec.ofNat 32 cc.val) 0#32)))
        (Scalar.subi (Scalar.extui (Scalar.cmpi .sgt 4#32 0#32)) (Scalar.extui (Scalar.cmpi .slt 4#32 0#32))))
      (Scalar.cmpi .ne (Scalar.remsi (BitVec.ofNat 32 cc.val) 4#32) 0#32))
      (Scalar.subi (Scalar.divsi (BitVec.ofNat 32 cc.val) 4#32) 1#32) (Scalar.divsi (BitVec.ofNat 32 cc.val) 4#32) : BitVec 32)
    = BitVec.ofNat 32 (cc.val / 4) := by decide

end Cert.KernelIdeal.Enc
-- ==== Proof.Setup.lean ====
/-
  The program as the launch theorem of the SparseCores sees it: its signature, the resource algebra, the arrays and
  scratch buffers by name, the threads' coordinates.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Kit
public import Idealize.ShloMosaic.Lib.Pipeline.Regions
public import Idealize.ShloMosaic.Lib.Pipeline.Value
public import Idealize.ShloMosaic.Lib.ValueIdx
public import Idealize.ShloMosaic.Lib.LoopRemainder
public import proofs.«01_k».proof.Proof.Gen.KernelIdeal
public import proofs.«01_k».proof.Proof.Gen.KernelIdeal.Launch
public import proofs.«01_k».proof.Proof.Gen.KernelIdeal.Points
public import proofs.«01_k».proof.Proof.Spec

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays and the scratches -/

abbrev tV : Memref sig .scVector .hbm S16x256 .f32 := Memref.whole main_v4_scv
abbrev pV : Memref sig .scVector .hbm S56000 .f32 := Memref.whole main_v7_scv
abbrev cVm : Memref sig .scVector .hbm S14000 .i32 := Memref.whole main_v8_0_scv
abbrev bVm : Memref sig .scVector .hbm S14000x8 .f32 := Memref.whole main_v8_1_scv
/-- A task's copy of the table, its points, the classes and boxes it computes. -/
abbrev sT : Memref sig .scVector .vmem S16x256 .f32 := Memref.whole cc1_scratch0
abbrev sP : Memref sig .scVector .vmem S1792 .f32 := Memref.whole cc1_scratch1
abbrev sC : Memref sig .scVector .vmem S448 .i32 := Memref.whole cc1_scratch2
abbrev sB : Memref sig .scVector .vmem S448x8 .f32 := Memref.whole cc1_scratch3

/-! ## The coordinates of a task -/

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

end Cert.KernelIdeal.Enc
-- ==== Proof.Group.lean ====
/-
  One trip of the innermost loop: box `16·cc + j` against the sixteen points of a group, all lanes at once.
-/
module

public import proofs.«01_k».proof.Proof.Setup

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-- A table index whose row is `r` and whose column is box `n`, on every lane, is within the table. -/
theorem chkC (r : Fin 16) {n : ℕ} (hn : n < 256) :
    ∀ a x, ((![broadcast S16 (BitVec.ofNat 32 r.val), broadcast S16 (BitVec.ofNat 32 n)] : Fin 2 → IVec S16 32) a x).toNat < S16x256.size a := by
  intro a x
  have hr := r.isLt
  match a with
  | 0 => show (BitVec.ofNat 32 r.val).toNat < 16; rw [BitVec.toNat_ofNat]; omega
  | 1 => show (BitVec.ofNat 32 n).toNat < 256; rw [BitVec.toNat_ofNat]; omega

/-- What the indexed load reads there. -/
theorem loadIdx_const (T : Vec F S16x256 .f32) (r : Fin 16) {n : ℕ} (hn : n < 256)
    (h : ∀ a x, ((![broadcast S16 (BitVec.ofNat 32 r.val), broadcast S16 (BitVec.ofNat 32 n)] : Fin 2 → IVec S16 32) a x).toNat < S16x256.size a) :
    loadIdx T ![broadcast S16 (BitVec.ofNat 32 r.val), broadcast S16 (BitVec.ofNat 32 n)] h = fun _ => tb T r n := by
  funext x
  have hr := r.isLt
  show T _ = T _
  congr 1
  funext a
  match a with
  | 0 => exact Fin.ext (show (BitVec.ofNat 32 r.val).toNat = r.val by rw [BitVec.toNat_ofNat]; omega)
  | 1 => exact Fin.ext (show (BitVec.ofNat 32 n).toNat = n % 256 by rw [BitVec.toNat_ofNat]; omega)

/-- A check that holds passes. -/
theorem wp_check {P : Prop} {dec : Decidable P} (hP : P) {α : Type} {thr : Thread nD τ}
    {k : PLift P → Prog (TpuEff nD τ sig (Elt F) Λ₀ thr.2) α} {Q : α → sProp 𝕄} :
    wp frame (wpE (defs₀ (F := F)) 𝒱₀ thr none) Set.univ (k ⟨hP⟩) Q
      ⊢ wp frame (wpE (defs₀ (F := F)) 𝒱₀ thr none) Set.univ (Prog.lift (TpuEff.assume P dec) >>= k) Q :=
  BIBase.Entails.of_eq (wp_assume_of (Q := Q) (defs := defs₀ (F := F)) 𝒱₀ thr none Set.univ (d := dec) (k := k) hP).symm

/-- The indexed load of row `r` of box `n` of the table. -/
theorem wp_gatherC (r : Fin 16) {n : ℕ} (hn : n < 256) {v w : BitVec 32} (hv : v = BitVec.ofNat 32 r.val) (hw : w = BitVec.ofNat 32 n)
    {inb : ∀ a x, ((![broadcast S16 v, broadcast S16 w] : Fin 2 → IVec S16 32) a x).toNat < S16x256.size a}
    {hl : (sT : Memref sig .scVector .vmem S16x256 .f32).view.Loads} {α : Type}
    {k : Vec F S16 .f32 → Prog (TpuEff nD τ sig (Elt F) Λ₀ (.scVector (cV L) (jV L))) α} {q : PosShare TreeShare}
    {T : Vec F S16x256 .f32} {Q : α → sProp 𝕄} :
    ((sT).view.loc (VT d L) ↦{q} T)
      ⊢ iprop((((sT).view.loc (VT d L) ↦{q} T) -∗ wp frame (wpE (defs₀ (F := F)) 𝒱₀ (VT d L) none) Set.univ (k (fun _ => tb T r n)) Q)
        -∗ wp frame (wpE (defs₀ (F := F)) 𝒱₀ (VT d L) none) Set.univ
            (SparseCore.vectorLoadIdx sT ![broadcast S16 v, broadcast S16 w] inb hl >>= k) Q) := by
  subst hv hw
  have e3 := SparseCore.wp_vectorLoadIdx (defs := defs₀ (F := F)) 𝒱₀ (VT d L) none Set.univ (base := (sT : Memref sig .scVector .vmem S16x256 .f32)) (S := Finset.univ) (q := q) (f := T) (Q := Q)
    (idxs := ![broadcast S16 (BitVec.ofNat 32 r.val), broadcast S16 (BitVec.ofNat 32 n)]) (h := inb) (hl := hl) (k := k) (Finset.subset_univ _)
  have e4 : loadIdx ((((sT : Memref sig .scVector .vmem S16x256 .f32).access (.whole S16x256)).read (Elt F) T)) ![broadcast S16 (BitVec.ofNat 32 r.val), broadcast S16 (BitVec.ofNat 32 n)] inb
    = fun _ => tb T r n := by
    rw [show ((sT : Memref sig .scVector .vmem S16x256 .f32).access (.whole S16x256)).read (Elt F) T = T from Memref.read_access_whole (Elt F) cc1_scratch0 T]
    exact loadIdx_const T r hn inb
  rw [e4] at e3
  exact e3

/-- The column word of box `16·cc + j` in trip `j`. -/
theorem colWord (cc j : ℕ) : Scalar.addi (Scalar.muli (BitVec.ofNat 32 cc) 16#32) (Scf.iv 0#32 1#32 j) = BitVec.ofNat 32 (16 * cc + j) := by
  show BitVec.ofNat 32 cc * 16#32 + (0#32 + BitVec.ofNat 32 j * 1#32) = _
  rw [BitVec.mul_one, BitVec.zero_add, show (16#32) = BitVec.ofNat 32 16 from rfl, ← BitVec.ofNat_mul, ← BitVec.ofNat_add, Nat.mul_comm]

/-- The eight rows read by the first half of a trip. -/
theorem wp_part2 {n : ℕ} (hn : n < 256) (X Y Z : Vec F S16 .f32) (w : BitVec 32) (j : Fin k1_t3_loop.trips)
    (hw : Scalar.addi w (Scf.iv 0#32 1#32 j) = BitVec.ofNat 32 n) {q : PosShare TreeShare} {T : Vec F S16x256 .f32} {α : Type}
    {kk : _ → Prog (TpuEff nD τ sig (Elt F) Λ₀ (.scVector (cV L) (jV L))) α} {Q : α → sProp 𝕄} :
    ((sT).view.loc (VT d L) ↦{q} T)
      ⊢ iprop((((sT).view.loc (VT d L) ↦{q} T) -∗ wp frame (wpE (defs₀ (F := F)) 𝒱₀ (VT d L) none) Set.univ
            (kk ⟨Scf.iv 0#32 1#32 j, fun l => dX T (X l) (Y l) n, fun l => dY T (X l) (Y l) n, fun l => dZ T (Z l) n,
              fun l => FloatOps.cmpf .ole (dX T (X l) (Y l) n) (tb T 5 n), fun l => FloatOps.cmpf .ole (dY T (X l) (Y l) n) (tb T 6 n)⟩) Q)
        -∗ wp frame (wpE (defs₀ (F := F)) 𝒱₀ (VT d L) none) Set.univ
            (k1_part2 L tV (Memref.isWhole_whole _) pV (Memref.isWhole_whole _) cVm (Memref.isWhole_whole _) bVm (Memref.isWhole_whole _) sT (Memref.isWhole_whole _) sP (Memref.isWhole_whole _) sC (Memref.isWhole_whole _) sB (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 X Y Z w 0#32 1#32 j >>= kk) Q) := by
  have hK := fun r : Fin 16 => hw ▸ chkC r hn
  iintro H Hk
  unfold k1_part2
  simp only [bind_assoc, pure_bind]
  iapply (wp_check (thr := VT d L) (hK 0))
  iapply (wp_gatherC d L 0 hn (v := BitVec.ofNat 32 0) rfl hw) $$ H
  iintro H
  iapply (wp_check (thr := VT d L) (hK 1))
  iapply (wp_gatherC d L 1 hn (v := BitVec.ofNat 32 1) rfl hw) $$ H
  iintro H
  iapply (wp_check (thr := VT d L) (hK 2))
  iapply (wp_gatherC d L 2 hn (v := BitVec.ofNat 32 2) rfl hw) $$ H
  iintro H
  iapply (wp_check (thr := VT d L) (hK 3))
  iapply (wp_gatherC d L 3 hn (v := BitVec.ofNat 32 3) rfl hw) $$ H
  iintro H
  iapply (wp_check (thr := VT d L) (hK 4))
  iapply (wp_gatherC d L 4 hn (v := BitVec.ofNat 32 4) rfl hw) $$ H
  iintro H
  iapply (wp_check (thr := VT d L) (hK 5))
  iapply (wp_gatherC d L 5 hn (v := BitVec.ofNat 32 5) rfl hw) $$ H
  iintro H
  iapply (wp_check (thr := VT d L) (hK 6))
  iapply (wp_gatherC d L 6 hn (v := BitVec.ofNat 32 6) rfl hw) $$ H
  iintro H
  iapply Hk $$ H

end Cert.KernelIdeal.Enc
-- ==== Proof.Scan.lean ====
/-
  The scan of one group of sixteen points over the boxes, and what is stored of its classes.
-/
module

public import proofs.«01_k».proof.Proof.Group

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-- Sixteen consecutive words of the points' buffer. -/
def sl16 (f : Vec F S1792 .f32) (o : ℕ) : Vec F S16 .f32 := fun l => f (ix1 ⟨(o + (l 0).val) % 1792, Nat.mod_lt _ (by decide)⟩)

theorem wp_loadP {off : Fin 1 → ℕ} {inb : ∀ a, off a + S16.size a ≤ S1792.size a} {o : ℕ} (ho : off = ![o])
    {hl : (sP : Memref sig .scVector .vmem S1792 .f32).view.LoadsAt (Rect.unit (s := S1792) off S16.size inb).toLoadRect} {α : Type}
    {k : Vec F S16 .f32 → Prog (TpuEff nD τ sig (Elt F) Λ₀ (.scVector (cV L) (jV L))) α} {q : PosShare TreeShare}
    {f : Vec F S1792 .f32} {Q : α → sProp 𝕄} :
    ((sP).view.loc (VT d L) ↦{q} f)
      ⊢ iprop((((sP).view.loc (VT d L) ↦{q} f) -∗ wp frame (wpE (defs₀ (F := F)) 𝒱₀ (VT d L) none) Set.univ (k (sl16 f o)) Q)
        -∗ wp frame (wpE (defs₀ (F := F)) 𝒱₀ (VT d L) none) Set.univ
            (Prog.lift (.load sP (Rect.unit (s := S1792) off S16.size inb).toLoadRect hl) >>= k) Q) := by
  have e := wp_load (defs := defs₀ (F := F)) (Γ := .empty) 𝒱₀ (VT d L) none Set.univ (m := (sP : Memref sig .scVector .vmem S1792 .f32)) (S := Finset.univ) (q := q) (f := f) (Q := Q)
    (r := (Rect.unit (s := S1792) off S16.size inb).toLoadRect) (hl := hl) (k := k) (Finset.subset_univ _)
  have e2 : (sP : Memref sig .scVector .vmem S1792 .f32).view.readAt (Elt F) (Rect.unit (s := S1792) off S16.size inb).toLoadRect f = sl16 f o := by
    subst ho
    funext l
    have hi := inb 0
    have hl' : (l 0).val < 16 := (l 0).isLt
    have hi' : o + 16 ≤ 1792 := hi
    show f _ = f _
    congr 1
    funext a
    match a with
    | 0 => exact Fin.ext (show o + 1 * (l 0).val = (o + (l 0).val) % 1792 by omega)
  rw [e2] at e
  exact e

/-- The classes' buffer with the sixteen from `o` on rewritten to `w`. -/
def put16 (f : IVec S448 32) (w : IVec S16 32) (o : ℕ) : IVec S448 32 :=
  fun n => if h : o ≤ (n 0).val ∧ (n 0).val < o + 16 then w (ix1 ⟨(n 0).val - o, by omega⟩) else f n

theorem wp_storeC {off : Fin 1 → ℕ} {inb : ∀ a, off a + S16.size a ≤ S448.size a} {o : ℕ} (ho : off = ![o])
    {w : IVec S16 32}
    {hx : ((sC : Memref sig .scVector .vmem S448 .i32).access (Rect.unit (s := S448) off S16.size inb)).Stores Finset.univ}
    {hm : (Finset.univ : Finset S16.Idx) = Finset.univ ∨ ∀ a, (Rect.unit (s := S448) off S16.size inb).stride a = 1} {α : Type}
    {k : PUnit → Prog (TpuEff nD τ sig (Elt F) Λ₀ (.scVector (cV L) (jV L))) α}
    {f : IVec S448 32} {Q : α → sProp 𝕄} :
    ((sC).view.loc (VT d L) ↦{fullShare} f)
      ⊢ iprop((((sC).view.loc (VT d L) ↦{fullShare} put16 f w o) -∗ wp frame (wpE (defs₀ (F := F)) 𝒱₀ (VT d L) none) Set.univ (k ⟨⟩) Q)
        -∗ wp frame (wpE (defs₀ (F := F)) 𝒱₀ (VT d L) none) Set.univ
            (Prog.lift (.store sC (Rect.unit (s := S448) off S16.size inb) w Finset.univ hx hm) >>= k) Q) := by
  have e := wp_store (defs := defs₀ (F := F)) (Γ := .empty) 𝒱₀ (VT d L) none Set.univ (m := (sC : Memref sig .scVector .vmem S448 .i32)) (S := Finset.univ) (f := f) (Q := Q)
    (r := (Rect.unit (s := S448) off S16.size inb)) (w := w) (Mk := Finset.univ) (hx := hx) (hm := hm) (k := k) (Finset.subset_univ _)
  have e2 : ((sC : Memref sig .scVector .vmem S448 .i32).access (Rect.unit (s := S448) off S16.size inb)).write (Elt F) f w Finset.univ = put16 f w o := by
    subst ho
    refine (View.write_whole_slice_unit (Val := Elt F) cc1_scratch2 ![o] S16.size inb f w).trans ?_
    funext n
    unfold updateSlice put16
    by_cases h : o ≤ (n 0).val ∧ (n 0).val < o + 16
    · rw [dif_pos h, dif_pos (fun a => by match a with | 0 => exact h)]
      congr 1
      funext a
      match a with
      | 0 => rfl
    · rw [dif_neg h, dif_neg (fun hh => h (hh 0))]
  rw [e2] at e
  exact e

/-- A load of the classes' buffer whose result is not used. -/
theorem wp_loadC {off : Fin 1 → ℕ} {inb : ∀ a, off a + S16.size a ≤ S448.size a}
    {hl : (sC : Memref sig .scVector .vmem S448 .i32).view.LoadsAt (Rect.unit (s := S448) off S16.size inb).toLoadRect} {α : Type}
    {k : Prog (TpuEff nD τ sig (Elt F) Λ₀ (.scVector (cV L) (jV L))) α} {f : IVec S448 32} {Q : α → sProp 𝕄} :
    ((sC).view.loc (VT d L) ↦{fullShare} f)
      ⊢ iprop((((sC).view.loc (VT d L) ↦{fullShare} f) -∗ wp frame (wpE (defs₀ (F := F)) 𝒱₀ (VT d L) none) Set.univ k Q)
        -∗ wp frame (wpE (defs₀ (F := F)) 𝒱₀ (VT d L) none) Set.univ
            (Prog.lift (.load sC (Rect.unit (s := S448) off S16.size inb).toLoadRect hl) >>= fun _ => k) Q) :=
  wp_load (defs := defs₀ (F := F)) (Γ := .empty) 𝒱₀ (VT d L) none Set.univ (m := (sC : Memref sig .scVector .vmem S448 .i32)) (S := Finset.univ) (q := fullShare) (f := f) (Q := Q)
    (r := (Rect.unit (s := S448) off S16.size inb).toLoadRect) (hl := hl) (k := fun _ => k) (Finset.subset_univ _)

/-- The trip of the innermost loop takes the scan's invariant one box on. -/
def scanAcc (T : Vec F S16x256 .f32) (X Y Z B : Vec F S16 .f32) (n : ℕ) : IVec S16 32 × IVec S16 32 :=
  (fun l => fhUp (hitG T (X l) (Y l) (Z l) (B l)) n, fun l => eaUp (hitE T (X l) (Y l) (Z l) (B l)) n)

theorem t3_trips : k1_t3_loop.trips = 16 := by decide

/-- What the words at the two ends of a group's batch indices must be for the scan between them to be the scan of all. -/
structure GroupOK (B : Vec F S16 .f32) : Prop where
  le3 : ∀ l, (FloatOps.fptosi 32 (B l) : BitVec 32).toNat ≤ 3
  lo : ∀ l, (FloatOps.fptosi 32 (B (ix1 0)) : BitVec 32).toNat ≤ (FloatOps.fptosi 32 (B l) : BitVec 32).toNat
  hi : ∀ l, (FloatOps.fptosi 32 (B l) : BitVec 32).toNat ≤ (FloatOps.fptosi 32 (B (ix1 15)) : BitVec 32).toNat

theorem ext0 (B : Vec F S16 .f32) : extractAt ![0] (extractStridedSlice S1 ![0] (fptosi 32 B) slices_S16_o0_S1) inpos_S1_p0 = FloatOps.fptosi 32 (B (ix1 0)) := by
  show FloatOps.fptosi 32 (B _) = _
  congr 2
  funext a
  match a with
  | 0 => exact Fin.ext rfl
theorem ext15 (B : Vec F S16 .f32) : extractAt ![0] (extractStridedSlice S1 ![15] (fptosi 32 B) slices_S16_o15_S1) inpos_S1_p0 = FloatOps.fptosi 32 (B (ix1 15)) := by
  show FloatOps.fptosi 32 (B _) = _
  congr 2
  funext a
  match a with
  | 0 => exact Fin.ext rfl

theorem t2_trips : ∀ p e : Fin 4, p ≤ e →
    k1_chk1 (BitVec.ofNat 32 p.val) (BitVec.ofNat 32 e.val)
      ∧ (k1_t2_loop (BitVec.ofNat 32 p.val) (BitVec.ofNat 32 e.val)).trips = 4 * (e.val + 1) - 4 * p.val
      ∧ (k1_t4_loop (BitVec.ofNat 32 p.val) (BitVec.ofNat 32 e.val)).trips = 0 := by decide

/-- The chunk's number in trip `k` of the loop from `4·p`. -/
theorem chunkWord (p k : ℕ) : Scf.iv (Scalar.muli (BitVec.ofNat 32 p) 4#32) 1#32 k = BitVec.ofNat 32 (4 * p + k) := by
  show BitVec.ofNat 32 p * 4#32 + BitVec.ofNat 32 k * 1#32 = _
  rw [BitVec.mul_one, show (4#32) = BitVec.ofNat 32 4 from rfl, ← BitVec.ofNat_mul, ← BitVec.ofNat_add, Nat.mul_comm]

/-- A loop without trips returns what it starts with. -/
theorem for_none {l : Scf.Loop 32} (htr : l.trips = 0) {E : Type → Type} {σ : Type} {ok : l.OK} {init : σ} {body : Fin l.trips → σ → Prog E σ} :
    l.for ok init body = .ret init := Scf.for_eq_ret _ _ _ ok init body htr

/-- The column word in trip `j` of chunk `k`. -/
theorem chunkCol {v : BitVec 32} {p : Fin 4} (hv : v = BitVec.ofNat 32 p.val) (k j : ℕ) :
    Scalar.addi (Scalar.muli (Scf.iv (Scalar.muli v 4#32) 1#32 k) 16#32) (Scf.iv 0#32 1#32 j) = BitVec.ofNat 32 (64 * p.val + 16 * k + j) := by
  rw [hv, chunkWord, colWord]; congr 1; omega

/-- The batch item of the boxes of a chunk, as the loop computes it from the chunk's number. -/
def batchWord (w : BitVec 32) : BitVec 32 :=
  Scalar.select (Scalar.andi
      (Scalar.cmpi .ne (Scalar.subi (Scalar.extui (Scalar.cmpi .sgt w 0#32)) (Scalar.extui (Scalar.cmpi .slt w 0#32)))
        (Scalar.subi (Scalar.extui (Scalar.cmpi .sgt 4#32 0#32)) (Scalar.extui (Scalar.cmpi .slt 4#32 0#32))))
      (Scalar.cmpi .ne (Scalar.remsi w 4#32) 0#32))
      (Scalar.subi (Scalar.divsi w 4#32) 1#32) (Scalar.divsi w 4#32)

theorem chunkBatch {v : BitVec 32} {p : Fin 4} (hv : v = BitVec.ofNat 32 p.val) (k j : ℕ) (hk : 4 * p.val + k < 16) (hj : j < 16) :
    batchWord (Scf.iv (Scalar.muli v 4#32) 1#32 k) = BitVec.ofNat 32 ((64 * p.val + 16 * k + j) / 64) := by
  rw [hv, chunkWord]
  refine (floorDiv4 ⟨4 * p.val + k, hk⟩).trans ?_
  congr 1
  show (4 * p.val + k) / 4 = _
  omega

/-- One box more. -/
theorem scan_step (T : Vec F S16x256 .f32) (X Y Z B : Vec F S16 .f32) {n : ℕ} {w cw : BitVec 32} (hw : w = BitVec.ofNat 32 n)
    (hc : batchWord cw = BitVec.ofNat 32 (n / 64)) :
    (minsi (scanAcc T X Y Z B n).1
      (select (andi (andi (andi (fun l => FloatOps.cmpf .ole (dX T (X l) (Y l) n) (tb T 5 n)) (fun l => FloatOps.cmpf .ole (dY T (X l) (Y l) n) (tb T 6 n)))
          (cmpf .ole (fun l => dZ T (Z l) n) (fun _ => tb T 7 n))) (cmpi .eq (fptosi 32 B) (broadcast S16 (batchWord cw)))) (broadcast S16 w) (broadcast S16 16384#32)),
     select (andi (andi (andi (cmpf .ole (fun l => dX T (X l) (Y l) n) (fun _ => tb T 8 n)) (cmpf .ole (fun l => dY T (X l) (Y l) n) (fun _ => tb T 9 n)))
          (cmpf .ole (fun l => dZ T (Z l) n) (fun _ => tb T 10 n))) (cmpi .eq (fptosi 32 B) (broadcast S16 (batchWord cw)))) (broadcast S16 1#32)
      (scanAcc T X Y Z B n).2)
      = scanAcc T X Y Z B (n + 1) := by
  rw [hw, hc]
  rfl

theorem wp_part4 (t : Fin (k1_t1_loop L).trips) (f7 : Vec F S1792 .f32) (f8 : IVec S448 32) (T : Vec F S16x256 .f32)
    (X Y Z B : Vec F S16 .f32) (hB : sl16 f7 (16 * t.val) = B) (hX : sl16 f7 (448 + 16 * t.val) = X) (hY : sl16 f7 (896 + 16 * t.val) = Y)
    (hZ : sl16 f7 (1344 + 16 * t.val) = Z)
    (hG : GroupOK B) {q : PosShare TreeShare} {α : Type}
    {kk : _ → Prog (TpuEff nD τ sig (Elt F) Λ₀ (.scVector (cV L) (jV L))) α} {Q : α → sProp 𝕄} :
    iprop(((sT).view.loc (VT d L) ↦{q} T) ∗ ((sP).view.loc (VT d L) ↦{q} f7) ∗ ((sC).view.loc (VT d L) ↦{fullShare} f8))
      ⊢ iprop(((((sT).view.loc (VT d L) ↦{q} T) ∗ ((sP).view.loc (VT d L) ↦{q} f7)
              ∗ ((sC).view.loc (VT d L) ↦{fullShare} put16 f8 (fun l => clsOf (fh T (X l) (Y l) (Z l) (B l)) (ea T (X l) (Y l) (Z l) (B l))) (16 * t.val)))
            -∗ wp frame (wpE (defs₀ (F := F)) 𝒱₀ (VT d L) none) Set.univ
            (kk ⟨Scalar.muli (Scf.iv 0#32 1#32 t) 16#32, iota .scVector S16 32 [0] iota_S16_d0_w32_scVector, X, Y, Z,
              fun l => fh T (X l) (Y l) (Z l) (B l), fun l => isFg (fh T (X l) (Y l) (Z l) (B l))⟩) Q)
        -∗ wp frame (wpE (defs₀ (F := F)) 𝒱₀ (VT d L) none) Set.univ
            (k1_part4 L tV (Memref.isWhole_whole _) pV (Memref.isWhole_whole _) cVm (Memref.isWhole_whole _) bVm (Memref.isWhole_whole _) sT (Memref.isWhole_whole _) sP (Memref.isWhole_whole _) sC (Memref.isWhole_whole _) sB (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 16384#32 0#32 1#32 t >>= kk) Q) := by
  obtain ⟨p, hp⟩ : ∃ p : Fin 4, (FloatOps.fptosi 32 (B (ix1 0)) : BitVec 32) = BitVec.ofNat 32 p.val :=
    ⟨⟨_, Nat.lt_succ_of_le (hG.le3 (ix1 0))⟩, by simp⟩
  obtain ⟨e, he⟩ : ∃ p : Fin 4, (FloatOps.fptosi 32 (B (ix1 15)) : BitVec 32) = BitVec.ofNat 32 p.val :=
    ⟨⟨_, Nat.lt_succ_of_le (hG.le3 (ix1 15))⟩, by simp⟩
  have hp' : (FloatOps.fptosi 32 (B (ix1 0)) : BitVec 32).toNat = p.val := by rw [hp, BitVec.toNat_ofNat]; omega
  have he' : (FloatOps.fptosi 32 (B (ix1 15)) : BitVec 32).toNat = e.val := by rw [he, BitVec.toNat_ofNat]; omega
  have hpe : p ≤ e := by have := hG.lo (ix1 15); rw [hp', he'] at this; exact this
  obtain ⟨hchk, htr, htr0⟩ := t2_trips p e hpe
  have hcls : ∀ l c, c < 64 * p.val ∨ 64 * (e.val + 1) ≤ c → c < 256 → (FloatOps.fptosi 32 (B l) : BitVec 32) ≠ BitVec.ofNat 32 (c / 64) := by
    intro l c hc hc' h
    have h1 := hG.lo l; have h2 := hG.hi l
    rw [hp', h, BitVec.toNat_ofNat] at h1; rw [he', h, BitVec.toNat_ofNat] at h2
    omega
  iintro ⟨HT, HP, HC⟩ Hk
  unfold k1_part4
  simp only [bind_assoc, pure_bind]
  iapply (wp_loadP d L (o := 16 * t.val) (k1_off3_eq L t)) $$ HP
  iintro HP
  iapply (wp_loadP d L (o := 448 + 16 * t.val) ((k1_off4_eq L t 0).trans (by simp; omega))) $$ HP
  iintro HP
  iapply (wp_loadP d L (o := 896 + 16 * t.val) ((k1_off4_eq L t 1).trans (by simp; omega))) $$ HP
  iintro HP
  iapply (wp_loadP d L (o := 1344 + 16 * t.val) ((k1_off4_eq L t 2).trans (by simp; omega))) $$ HP
  iintro HP
  rw [hB, hX, hY, hZ]
  have hv38 : extractAt ![0] (extractStridedSlice S1 ![0] (fptosi 32 B) slices_S16_o0_S1) inpos_S1_p0 = BitVec.ofNat 32 p.val := (ext0 B).trans hp
  have hv40 : extractAt ![0] (extractStridedSlice S1 ![15] (fptosi 32 B) slices_S16_o15_S1) inpos_S1_p0 = BitVec.ofNat 32 e.val := (ext15 B).trans he
  rw [← hv38, ← hv40] at hchk htr htr0
  iapply (wp_check (thr := VT d L) hchk)
  sl_for (fun n acc => iprop(((sT).view.loc (VT d L) ↦{q} T) ∗ ⌜acc = scanAcc T X Y Z B (64 * p.val + 16 * n)⌝)) $$ [HT]
  case region =>
    intro k acc
    have hk : k.val < 4 * (e.val + 1) - 4 * p.val := lt_of_lt_of_eq k.isLt htr
    iintro ⟨HT, %hacc⟩
    subst hacc
    sl_for (fun n acc => iprop(((sT).view.loc (VT d L) ↦{q} T) ∗ ⌜acc = scanAcc T X Y Z B (64 * p.val + 16 * k.val + n)⌝)) $$ [HT]
    case region =>
      intro j acc
      have hj : j.val < 16 := lt_of_lt_of_eq j.isLt t3_trips
      iintro ⟨HT, %hacc⟩
      subst hacc
      have hn : 64 * p.val + 16 * k.val + j.val < 256 := by have := e.isLt; omega
      have hw := chunkCol hv38 k.val j.val
      have hK := fun r : Fin 16 => hw ▸ chkC r hn
      iapply (wp_part2 d L hn X Y Z _ j hw) $$ HT
      iintro HT
      iapply (wp_check (thr := VT d L) (hK 7))
      iapply (wp_gatherC d L 7 hn (v := BitVec.ofNat 32 7) rfl hw) $$ HT
      iintro HT
      iapply (wp_check (thr := VT d L) (hK 8))
      iapply (wp_gatherC d L 8 hn (v := BitVec.ofNat 32 8) rfl hw) $$ HT
      iintro HT
      iapply (wp_check (thr := VT d L) (hK 9))
      iapply (wp_gatherC d L 9 hn (v := BitVec.ofNat 32 9) rfl hw) $$ HT
      iintro HT
      iapply (wp_check (thr := VT d L) (hK 10))
      iapply (wp_gatherC d L 10 hn (v := BitVec.ofNat 32 10) rfl hw) $$ HT
      iintro HT
      rw [wp_pure]
      imodintro
      isplitl [HT]
      · iexact HT
      · ipureintro
        exact scan_step T X Y Z B hw (chunkBatch hv38 k.val j.val (by omega) hj)
    · isplitl [HT]
      · iexact HT
      · ipureintro
        rfl
    iintro %acc ⟨HT, %hacc⟩
    subst hacc
    unfold wp_part4.sl.prog.cont_2
    rw [wp_pure]
    imodintro
    isplitl [HT]
    · iexact HT
    · ipureintro
      show scanAcc T X Y Z B (64 * p.val + 16 * k.val + k1_t3_loop.trips) = _
      rw [t3_trips]; congr 1
  · isplitl [HT]
    · iexact HT
    · ipureintro
      refine Prod.ext (funext fun l => (fhUp_none _ fun c hc => inBox_of_ne (hcls l c (Or.inl (by omega)) (by omega))).symm)
        (funext fun l => (eaUp_none _ fun c hc => inBox_of_ne (hcls l c (Or.inl (by omega)) (by omega))).symm)
  iintro %acc ⟨HT, %hacc⟩
  have hfin : acc = (fun l => fh T (X l) (Y l) (Z l) (B l), fun l => ea T (X l) (Y l) (Z l) (B l)) := by
    rw [hacc, show (Scf.trips _ _ _ : ℕ) = 4 * (e.val + 1) - 4 * p.val from htr]
    have hle : p.val ≤ e.val := hpe
    have h4 := e.isLt
    refine Prod.ext (funext fun l => (fhUp_stop _ 256 (by omega) le_rfl fun c h1 h2 => inBox_of_ne (hcls l c (Or.inr (by omega)) h2)).symm)
        (funext fun l => (eaUp_stop _ 256 (by omega) fun c h1 h2 => inBox_of_ne (hcls l c (Or.inr (by omega)) h2)).symm)
  clear hacc
  subst hfin
  unfold wp_part4.sl.prog.cont_1
  rw [for_none htr0]
  simp only [bind_assoc, pure_bind]
  iapply (wp_loadC d L) $$ HC
  iintro HC
  iapply (wp_storeC d L (o := 16 * t.val) (k1_off5_eq L t)) $$ HC
  iintro HC
  iapply Hk
  isplitl [HT]
  · iexact HT
  isplitl [HP]
  · iexact HP
  iexact HC

end Cert.KernelIdeal.Enc
-- ==== Proof.Store.lean ====
/-
  The sixteen encoded boxes of a group: each column's gather of the hit boxes' rows and the store into that column.
-/
module

public import proofs.«01_k».proof.Proof.Scan

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-- The boxes' buffer with column `c` of the sixteen rows from `o` on rewritten to `v`. -/
def putCol (f : Vec F S448x8 .f32) (v : Vec F S16 .f32) (o : ℕ) (c : Fin 8) : Vec F S448x8 .f32 :=
  fun n => if h : (o ≤ (n 0).val ∧ (n 0).val < o + 16) ∧ (n 1).val = c.val then v (ix1 ⟨(n 0).val - o, by omega⟩) else f n

/-- The rows a group's stores name. -/
abbrev rowIdx (w : BitVec 32) : IVec S16 32 := addi (broadcast S16 w) (iota .scVector S16 32 [0] iota_S16_d0_w32_scVector)

theorem rowIdx_toNat {w : BitVec 32} {o : ℕ} (hw : w = BitVec.ofNat 32 o) (ho : o + 16 ≤ 448) (l : S16.Idx) : (rowIdx w l).toNat = o + (l 0).val := by
  subst hw
  have hl : (l 0).val < 16 := (l 0).isLt
  show (BitVec.ofNat 32 o + BitVec.ofNat 32 (0 * 16 + (l 0).val)).toNat = _
  rw [← BitVec.ofNat_add, BitVec.toNat_ofNat]; omega

theorem chkS {w : BitVec 32} {o : ℕ} (hw : w = BitVec.ofNat 32 o) (ho : o + 16 ≤ 448) (c : Fin 8) :
    ∀ a x, ((![rowIdx w, broadcast S16 (BitVec.ofNat 32 c.val)] : Fin 2 → IVec S16 32) a x).toNat < S448x8.size a := by
  intro a x
  have hl : (x 0).val < 16 := (x 0).isLt
  have hc := c.isLt
  match a with
  | 0 => show (rowIdx w x).toNat < 448; rw [rowIdx_toNat hw ho]; omega
  | 1 => show (BitVec.ofNat 32 c.val).toNat < 8; rw [BitVec.toNat_ofNat]; omega

/-- A fold of writes, at an index that no lane of the list names. -/
theorem fold_skip {n : ℕ} (l : List (Fin n)) (R : Fin n → S448x8.Idx → Prop) [∀ k j, Decidable (R k j)] (y : Fin n → F .f32) (f : Vec F S448x8 .f32) (j : S448x8.Idx)
    (H : ∀ k ∈ l, ¬ R k j) : l.foldl (fun g k => fun j => if R k j then y k else g j) f j = f j := by
  induction l generalizing f with
  | nil => rfl
  | cons a l ih => rw [List.foldl_cons, ih _ fun k hk => H k (List.mem_cons_of_mem _ hk)]; exact if_neg (H a List.mem_cons_self)

/-- The same at an index that one lane names. -/
theorem fold_hit {n : ℕ} (l : List (Fin n)) (R : Fin n → S448x8.Idx → Prop) [∀ k j, Decidable (R k j)] (y : Fin n → F .f32) (f : Vec F S448x8 .f32) (j : S448x8.Idx)
    (k : Fin n) (hk : k ∈ l) (hR : R k j) (H : ∀ k', R k' j → k' = k) : l.foldl (fun g k => fun j => if R k j then y k else g j) f j = y k := by
  induction l generalizing f with
  | nil => exact absurd hk List.not_mem_nil
  | cons a l ih =>
    rw [List.foldl_cons]
    by_cases hm : k ∈ l
    · exact ih _ hm
    · have ha : a = k := by rcases List.mem_cons.1 hk with h | h; exacts [h.symm, absurd h hm]
      rw [fold_skip l R y _ j fun k' hk' hR' => hm (H k' hR' ▸ hk')]
      subst ha
      exact if_pos hR

theorem storeIdx_col (f : Vec F S448x8 .f32) (v : Vec F S16 .f32) {w : BitVec 32} {o : ℕ} (hw : w = BitVec.ofNat 32 o) (ho : o + 16 ≤ 448) (c : Fin 8)
    (h : ∀ a x, ((![rowIdx w, broadcast S16 (BitVec.ofNat 32 c.val)] : Fin 2 → IVec S16 32) a x).toNat < S448x8.size a) :
    storeIdx (F := F) (e := .f32) f ![rowIdx w, broadcast S16 (BitVec.ofNat 32 c.val)] v (fun _ => 1#1) false h = putCol f v o c := by
  have hR : ∀ (k : Fin 16) (j : S448x8.Idx),
      (∀ a, (j a).val = (idxAt (s := S448x8) ![rowIdx w, broadcast S16 (BitVec.ofNat 32 c.val)] h (Shape.ofLane (d := ![16]) k) a).val) ↔ ((j 0).val = o + k.val ∧ (j 1).val = c.val) := by
    intro k j
    have hc := c.isLt
    have e0 : (idxAt (s := S448x8) ![rowIdx w, broadcast S16 (BitVec.ofNat 32 c.val)] h (Shape.ofLane (d := ![16]) k) 0).val = o + k.val :=
      rowIdx_toNat hw ho (Shape.ofLane (d := ![16]) k)
    have e1 : (idxAt (s := S448x8) ![rowIdx w, broadcast S16 (BitVec.ofNat 32 c.val)] h (Shape.ofLane (d := ![16]) k) 1).val = c.val := by
      show (BitVec.ofNat 32 c.val).toNat = _; rw [BitVec.toNat_ofNat]; omega
    constructor
    · intro H
      exact ⟨(H 0).trans e0, (H 1).trans e1⟩
    · rintro ⟨h0, h1⟩ a
      match a with
      | 0 => exact h0.trans e0.symm
      | 1 => exact h1.trans e1.symm
  funext j
  have e : storeIdx (F := F) (e := .f32) f ![rowIdx w, broadcast S16 (BitVec.ofNat 32 c.val)] v (fun _ => 1#1) false h
      = (List.finRange 16).foldl (fun g (k : Fin 16) => fun j => if (∀ a, (j a).val = (idxAt (s := S448x8) ![rowIdx w, broadcast S16 (BitVec.ofNat 32 c.val)] h (Shape.ofLane (d := ![16]) k) a).val)
        then v (Shape.ofLane (d := ![16]) k) else g j) f := by
    unfold storeIdx
    simp only [show ((1#1 : BitVec 1) = 1) from rfl, if_true, Bool.false_eq_true, if_false]
    rfl
  rw [e]
  unfold putCol
  split
  · rename_i hj
    refine (fold_hit (List.finRange 16) (fun k j => ∀ a, (j a).val = (idxAt (s := S448x8) ![rowIdx w, broadcast S16 (BitVec.ofNat 32 c.val)] h (Shape.ofLane (d := ![16]) k) a).val)
      (fun k => v (Shape.ofLane (d := ![16]) k)) f j ⟨(j 0).val - o, by omega⟩ (List.mem_finRange _) ((hR _ _).2 ⟨by show (j 0).val = o + ((j 0).val - o); omega, hj.2⟩) ?_).trans ?_
    · intro k' hk'
      have := ((hR _ _).1 hk').1
      exact Fin.ext (by show k'.val = (j 0).val - o; omega)
    · congr 1
      funext a
      match a with
      | 0 => rfl
  · rename_i hj
    refine fold_skip (List.finRange 16) (fun k j => ∀ a, (j a).val = (idxAt (s := S448x8) ![rowIdx w, broadcast S16 (BitVec.ofNat 32 c.val)] h (Shape.ofLane (d := ![16]) k) a).val)
      (fun k => v (Shape.ofLane (d := ![16]) k)) f j fun k _ hk => hj ?_
    have h1 := (hR _ _).1 hk
    have := k.isLt
    exact ⟨⟨by omega, by omega⟩, h1.2⟩

/-- The store of a column of a group. -/
theorem wp_scatter (c : Fin 8) {w u : BitVec 32} {o : ℕ} (hw : w = BitVec.ofNat 32 o) (ho : o + 16 ≤ 448) (hu : u = BitVec.ofNat 32 c.val) {v : Vec F S16 .f32}
    {inb : ∀ a x, ((![rowIdx w, broadcast S16 u] : Fin 2 → IVec S16 32) a x).toNat < S448x8.size a}
    {hs : ((sB : Memref sig .scVector .vmem S448x8 .f32).access (.whole S448x8)).Stores Finset.univ} {α : Type}
    {k : PUnit → Prog (TpuEff nD τ sig (Elt F) Λ₀ (.scVector (cV L) (jV L))) α} {f : Vec F S448x8 .f32} {Q : α → sProp 𝕄} :
    ((sB).view.loc (VT d L) ↦{fullShare} f)
      ⊢ iprop((((sB).view.loc (VT d L) ↦{fullShare} putCol f v o c) -∗ wp frame (wpE (defs₀ (F := F)) 𝒱₀ (VT d L) none) Set.univ (k ⟨⟩) Q)
        -∗ wp frame (wpE (defs₀ (F := F)) 𝒱₀ (VT d L) none) Set.univ
            (SparseCore.vectorStoreIdx sB ![rowIdx w, broadcast S16 u] v (fun _ => 1#1) false inb hs >>= k) Q) := by
  subst hu
  have e3 := SparseCore.wp_vectorStoreIdx (defs := defs₀ (F := F)) 𝒱₀ (VT d L) none Set.univ (base := (sB : Memref sig .scVector .vmem S448x8 .f32)) (f := f) (Q := Q)
    (idxs := ![rowIdx w, broadcast S16 (BitVec.ofNat 32 c.val)]) (v := v) (mask := fun _ => 1#1) (add := false) (h := inb) (hs := hs) (k := k)
  have e4 : ((sB : Memref sig .scVector .vmem S448x8 .f32).access (.whole S448x8)).set = Finset.univ := Memref.set_access_whole cc1_scratch3
  rw [e4, show ((sB : Memref sig .scVector .vmem S448x8 .f32).access (.whole S448x8)).read (Elt F) f = f from Memref.read_access_whole (Elt F) cc1_scratch3 f,
    storeIdx_col f v hw ho c, show ((sB : Memref sig .scVector .vmem S448x8 .f32).access (.whole S448x8)).write (Elt F) f (putCol f v o c) Finset.univ = putCol f v o c from
      Memref.write_access_whole_univ (Elt F) cc1_scratch3 f _] at e3
  exact e3

/-- What a lane gathers of row `r` of the table at its own column. -/
theorem wp_gatherL (r : Fin 16) {v : BitVec 32} (hv : v = BitVec.ofNat 32 r.val) {ws : IVec S16 32}
    {inb : ∀ a x, ((![broadcast S16 v, ws] : Fin 2 → IVec S16 32) a x).toNat < S16x256.size a}
    {hl : (sT : Memref sig .scVector .vmem S16x256 .f32).view.Loads} {α : Type}
    {k : Vec F S16 .f32 → Prog (TpuEff nD τ sig (Elt F) Λ₀ (.scVector (cV L) (jV L))) α} {q : PosShare TreeShare}
    {T : Vec F S16x256 .f32} {Q : α → sProp 𝕄} :
    ((sT).view.loc (VT d L) ↦{q} T)
      ⊢ iprop((((sT).view.loc (VT d L) ↦{q} T) -∗ wp frame (wpE (defs₀ (F := F)) 𝒱₀ (VT d L) none) Set.univ (k (fun l => tb T r (ws l).toNat)) Q)
        -∗ wp frame (wpE (defs₀ (F := F)) 𝒱₀ (VT d L) none) Set.univ
            (SparseCore.vectorLoadIdx sT ![broadcast S16 v, ws] inb hl >>= k) Q) := by
  subst hv
  have e3 := SparseCore.wp_vectorLoadIdx (defs := defs₀ (F := F)) 𝒱₀ (VT d L) none Set.univ (base := (sT : Memref sig .scVector .vmem S16x256 .f32)) (S := Finset.univ) (q := q) (f := T) (Q := Q)
    (idxs := ![broadcast S16 (BitVec.ofNat 32 r.val), ws]) (h := inb) (hl := hl) (k := k) (Finset.subset_univ _)
  have e4 : loadIdx ((((sT : Memref sig .scVector .vmem S16x256 .f32).access (.whole S16x256)).read (Elt F) T)) ![broadcast S16 (BitVec.ofNat 32 r.val), ws] inb
    = fun l => tb T r (ws l).toNat := by
    rw [show ((sT : Memref sig .scVector .vmem S16x256 .f32).access (.whole S16x256)).read (Elt F) T = T from Memref.read_access_whole (Elt F) cc1_scratch0 T]
    funext x
    have hr := r.isLt
    have hx : (ws x).toNat < 256 := inb 1 x
    show T _ = T _
    congr 1
    funext a
    match a with
    | 0 => exact Fin.ext (show (BitVec.ofNat 32 r.val).toNat = r.val by rw [BitVec.toNat_ofNat]; omega)
    | 1 => exact Fin.ext (show (ws x).toNat = (ws x).toNat % 256 by rw [Nat.mod_eq_of_lt hx])
  rw [e4] at e3
  exact e3

theorem chkL (r : Fin 16) {ws : IVec S16 32} (hws : ∀ l, (ws l).toNat < 256) :
    ∀ a x, ((![broadcast S16 (BitVec.ofNat 32 r.val), ws] : Fin 2 → IVec S16 32) a x).toNat < S16x256.size a := by
  intro a x
  have hr := r.isLt
  match a with
  | 0 => show (BitVec.ofNat 32 r.val).toNat < 16; rw [BitVec.toNat_ofNat]; omega
  | 1 => exact hws x

end Cert.KernelIdeal.Enc
-- ==== Proof.Trip.lean ====
/-
  One group of sixteen points: its classes and its eight columns of boxes; and the loop over a task's groups.
-/
module

public import proofs.«01_k».proof.Proof.Scan
public import proofs.«01_k».proof.Proof.Store

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-- The first hits of sixteen points. -/
def fhs (T : Vec F S16x256 .f32) (X Y Z B : Vec F S16 .f32) : IVec S16 32 := fun l => fh T (X l) (Y l) (Z l) (B l)
/-- The rows of the table they read. -/
def safes (T : Vec F S16x256 .f32) (X Y Z B : Vec F S16 .f32) : IVec S16 32 := fun l => safeOf (fhs T X Y Z B l)
/-- Column `k` of their boxes. -/
def boxCol (T : Vec F S16x256 .f32) (X Y Z B : Vec F S16 .f32) (k : Fin 8) : Vec F S16 .f32 :=
  fun l => boxOf T (X l) (Y l) (Z l) (fhs T X Y Z B l) k

theorem safes_lt (T : Vec F S16x256 .f32) (X Y Z B : Vec F S16 .f32) (l : S16.Idx) : (safes T X Y Z B l).toNat < 256 :=
  safeOf_lt _

/-- The first four columns of a group's boxes, stored. -/
def putBox4 (f : Vec F S448x8 .f32) (T : Vec F S16x256 .f32) (X Y Z B : Vec F S16 .f32) (o : ℕ) : Vec F S448x8 .f32 :=
  putCol (putCol (putCol (putCol f (boxCol T X Y Z B 0) o 0) (boxCol T X Y Z B 1) o 1) (boxCol T X Y Z B 2) o 2) (boxCol T X Y Z B 3) o 3
/-- All eight. -/
def putBox (f : Vec F S448x8 .f32) (T : Vec F S16x256 .f32) (X Y Z B : Vec F S16 .f32) (o : ℕ) : Vec F S448x8 .f32 :=
  putCol (putCol (putCol (putCol (putBox4 f T X Y Z B o) (boxCol T X Y Z B 4) o 4) (boxCol T X Y Z B 5) o 5) (boxCol T X Y Z B 6) o 6) (boxCol T X Y Z B 7) o 7

theorem wp_part5 {o : ℕ} {w : BitVec 32} (hw : w = BitVec.ofNat 32 o) (ho : o + 16 ≤ 448) (T : Vec F S16x256 .f32) (X Y Z B : Vec F S16 .f32)
    (f : Vec F S448x8 .f32) {q : PosShare TreeShare} {α : Type}
    {kk : (Σ' (v64 : IVec S16 32), IVec S16 32) → Prog (TpuEff nD τ sig (Elt F) Λ₀ (.scVector (cV L) (jV L))) α} {Q : α → sProp 𝕄} :
    iprop(((sT).view.loc (VT d L) ↦{q} T) ∗ ((sB).view.loc (VT d L) ↦{fullShare} f))
      ⊢ iprop((iprop(((sT).view.loc (VT d L) ↦{q} T) ∗ ((sB).view.loc (VT d L) ↦{fullShare} putBox4 f T X Y Z B o))
          -∗ wp frame (wpE (defs₀ (F := F)) 𝒱₀ (VT d L) none) Set.univ (kk ⟨safes T X Y Z B, broadcast S16 12#32⟩) Q)
        -∗ wp frame (wpE (defs₀ (F := F)) 𝒱₀ (VT d L) none) Set.univ
            (k1_part5 L tV (Memref.isWhole_whole _) pV (Memref.isWhole_whole _) cVm (Memref.isWhole_whole _) bVm (Memref.isWhole_whole _)
              sT (Memref.isWhole_whole _) sP (Memref.isWhole_whole _) sC (Memref.isWhole_whole _) sB (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12 w (iota .scVector S16 32 [0] iota_S16_d0_w32_scVector) X Y Z
              (fhs T X Y Z B) (fun l => isFg (fhs T X Y Z B l)) >>= kk) Q) := by
  have hs := safes_lt T X Y Z B
  iintro ⟨HT, HB⟩ Hk
  unfold k1_part5
  simp only [bind_assoc, pure_bind]
  iapply (wp_check (thr := VT d L) (chkL 0 hs))
  iapply (wp_gatherL d L 0 rfl) $$ HT
  iintro HT
  iapply (wp_check (thr := VT d L) (chkS hw ho 0))
  iapply (wp_scatter d L 0 hw ho rfl) $$ HB
  iintro HB
  iapply (wp_check (thr := VT d L) (chkL 1 hs))
  iapply (wp_gatherL d L 1 rfl) $$ HT
  iintro HT
  iapply (wp_check (thr := VT d L) (chkS hw ho 1))
  iapply (wp_scatter d L 1 hw ho rfl) $$ HB
  iintro HB
  iapply (wp_check (thr := VT d L) (chkL 2 hs))
  iapply (wp_gatherL d L 2 rfl) $$ HT
  iintro HT
  iapply (wp_check (thr := VT d L) (chkS hw ho 2))
  iapply (wp_scatter d L 2 hw ho rfl) $$ HB
  iintro HB
  iapply (wp_check (thr := VT d L) (chkL 11 hs))
  iapply (wp_gatherL d L 11 rfl) $$ HT
  iintro HT
  iapply (wp_check (thr := VT d L) (chkS hw ho 3))
  iapply (wp_scatter d L 3 hw ho rfl) $$ HB
  iintro HB
  iapply Hk
  isplitl [HT]
  · iexact HT
  iexact HB

/-! ### The loop over the groups -/

/-- Word `n` of row `r` of a task's points. -/
def pw (f : Vec F S1792 .f32) (r n : ℕ) : F .f32 := f (ix1 ⟨(448 * r + n) % 1792, Nat.mod_lt _ (by decide)⟩)

/-- A task's classes when its first `m` groups are done. -/
def tileC (T : Vec F S16x256 .f32) (f7 : Vec F S1792 .f32) (f8 : IVec S448 32) (m : ℕ) : IVec S448 32 := fun n =>
  if (n 0).val < 16 * m then
    clsOf (fh T (pw f7 1 (n 0).val) (pw f7 2 (n 0).val) (pw f7 3 (n 0).val) (pw f7 0 (n 0).val))
      (ea T (pw f7 1 (n 0).val) (pw f7 2 (n 0).val) (pw f7 3 (n 0).val) (pw f7 0 (n 0).val))
  else f8 n

/-- Its boxes. -/
def tileB (T : Vec F S16x256 .f32) (f7 : Vec F S1792 .f32) (f9 : Vec F S448x8 .f32) (m : ℕ) : Vec F S448x8 .f32 := fun n =>
  if (n 0).val < 16 * m then
    boxOf T (pw f7 1 (n 0).val) (pw f7 2 (n 0).val) (pw f7 3 (n 0).val)
      (fh T (pw f7 1 (n 0).val) (pw f7 2 (n 0).val) (pw f7 3 (n 0).val) (pw f7 0 (n 0).val)) (n 1)
  else f9 n

theorem tileC_zero (T : Vec F S16x256 .f32) (f7 : Vec F S1792 .f32) (f8 : IVec S448 32) : tileC T f7 f8 0 = f8 := by
  funext n; exact if_neg (by omega)
theorem tileB_zero (T : Vec F S16x256 .f32) (f7 : Vec F S1792 .f32) (f9 : Vec F S448x8 .f32) : tileB T f7 f9 0 = f9 := by
  funext n; exact if_neg (by omega)

theorem sl16_pw (f7 : Vec F S1792 .f32) (r n : ℕ) (l : Fin 16) : sl16 f7 (448 * r + n) (ix1 l) = pw f7 r (n + l.val) := by
  unfold sl16 pw
  congr 2
  apply Fin.ext
  show (448 * r + n + l.val) % 1792 = (448 * r + (n + l.val)) % 1792
  congr 1; omega

theorem tileC_succ (T : Vec F S16x256 .f32) (f7 : Vec F S1792 .f32) (f8 : IVec S448 32) (m : ℕ) :
    put16 (tileC T f7 f8 m) (fun l => clsOf (fh T (sl16 f7 (448 + 16 * m) l) (sl16 f7 (896 + 16 * m) l) (sl16 f7 (1344 + 16 * m) l) (sl16 f7 (16 * m) l))
      (ea T (sl16 f7 (448 + 16 * m) l) (sl16 f7 (896 + 16 * m) l) (sl16 f7 (1344 + 16 * m) l) (sl16 f7 (16 * m) l))) (16 * m) = tileC T f7 f8 (m + 1) := by
  funext n
  unfold put16 tileC
  by_cases h : 16 * m ≤ (n 0).val ∧ (n 0).val < 16 * m + 16
  · rw [dif_pos h, if_pos (by omega)]
    have e : ∀ r, sl16 f7 (448 * r + 16 * m) (ix1 ⟨(n 0).val - 16 * m, by omega⟩) = pw f7 r (n 0).val := fun r => by
      rw [sl16_pw]; congr 1; show 16 * m + ((n 0).val - 16 * m) = _; omega
    have e0 := e 0; have e1 := e 1; have e2 := e 2; have e3 := e 3
    simp only [Nat.mul_zero, Nat.zero_add, Nat.mul_one, show 448 * 2 = 896 from rfl, show 448 * 3 = 1344 from rfl] at e0 e1 e2 e3
    beta_reduce
    rw [e0, e1, e2, e3]
  · rw [dif_neg h]
    by_cases h' : (n 0).val < 16 * m
    · rw [if_pos h', if_pos (by omega)]
    · rw [if_neg h', if_neg (by omega)]

theorem putBox_eq (f : Vec F S448x8 .f32) (T : Vec F S16x256 .f32) (X Y Z B : Vec F S16 .f32) (o : ℕ) (n : S448x8.Idx) :
    putBox f T X Y Z B o n = if h : o ≤ (n 0).val ∧ (n 0).val < o + 16 then boxCol T X Y Z B (n 1) (ix1 ⟨(n 0).val - o, by omega⟩) else f n := by
  unfold putBox putBox4 putCol
  by_cases h : o ≤ (n 0).val ∧ (n 0).val < o + 16
  · have h8 : (n 1).val < 8 := (n 1).isLt
    have hk : ∀ k : Fin 8, (n 1).val = k.val → n 1 = k := fun k hk => Fin.ext hk
    simp only [h, and_self, true_and, dif_pos]
    rcases (by omega : (n 1).val = 0 ∨ (n 1).val = 1 ∨ (n 1).val = 2 ∨ (n 1).val = 3 ∨ (n 1).val = 4 ∨ (n 1).val = 5 ∨ (n 1).val = 6 ∨ (n 1).val = 7) with e | e | e | e | e | e | e | e
    · rw [show boxCol T X Y Z B (n 1) = boxCol T X Y Z B 0 from congrArg (boxCol T X Y Z B) (hk 0 e)]; simp [e]
    · rw [show boxCol T X Y Z B (n 1) = boxCol T X Y Z B 1 from congrArg (boxCol T X Y Z B) (hk 1 e)]; simp [e]
    · rw [show boxCol T X Y Z B (n 1) = boxCol T X Y Z B 2 from congrArg (boxCol T X Y Z B) (hk 2 e)]; simp [e]
    · rw [show boxCol T X Y Z B (n 1) = boxCol T X Y Z B 3 from congrArg (boxCol T X Y Z B) (hk 3 e)]; simp [e]
    · rw [show boxCol T X Y Z B (n 1) = boxCol T X Y Z B 4 from congrArg (boxCol T X Y Z B) (hk 4 e)]; simp [e]
    · rw [show boxCol T X Y Z B (n 1) = boxCol T X Y Z B 5 from congrArg (boxCol T X Y Z B) (hk 5 e)]; simp [e]
    · rw [show boxCol T X Y Z B (n 1) = boxCol T X Y Z B 6 from congrArg (boxCol T X Y Z B) (hk 6 e)]; simp [e]
    · rw [show boxCol T X Y Z B (n 1) = boxCol T X Y Z B 7 from congrArg (boxCol T X Y Z B) (hk 7 e)]; simp [e]
  · simp only [h, false_and, dif_neg, not_false_eq_true]

theorem tileB_succ (T : Vec F S16x256 .f32) (f7 : Vec F S1792 .f32) (f9 : Vec F S448x8 .f32) (m : ℕ) :
    putBox (tileB T f7 f9 m) T (sl16 f7 (448 + 16 * m)) (sl16 f7 (896 + 16 * m)) (sl16 f7 (1344 + 16 * m)) (sl16 f7 (16 * m)) (16 * m) = tileB T f7 f9 (m + 1) := by
  funext n
  rw [putBox_eq]
  unfold tileB
  by_cases h : 16 * m ≤ (n 0).val ∧ (n 0).val < 16 * m + 16
  · rw [dif_pos h, if_pos (by omega)]
    have e : ∀ r, sl16 f7 (448 * r + 16 * m) (ix1 ⟨(n 0).val - 16 * m, by omega⟩) = pw f7 r (n 0).val := fun r => by
      rw [sl16_pw]; congr 1; show 16 * m + ((n 0).val - 16 * m) = _; omega
    have e0 := e 0; have e1 := e 1; have e2 := e 2; have e3 := e 3
    simp only [Nat.mul_zero, Nat.zero_add, Nat.mul_one, show 448 * 2 = 896 from rfl, show 448 * 3 = 1344 from rfl] at e0 e1 e2 e3
    unfold boxCol fhs
    rw [e0, e1, e2, e3]
  · rw [dif_neg h]
    by_cases h' : (n 0).val < 16 * m
    · rw [if_pos h', if_pos (by omega)]
    · rw [if_neg h', if_neg (by omega)]

end Cert.KernelIdeal.Enc
-- ==== Proof.Copy.lean ====
/-
  A task's copies, each started and waited for at once, and what each leaves in its destination.
-/
module

public import proofs.«01_k».proof.Proof.Setup
public import Idealize.ShloMosaic.Lib.Pipeline.ValueKit.Geometry

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-- What a task owes, whatever of its own waits it has recorded. -/
def owesUp (O : CellTallies nD τ sig (HIx 1)) (W : Waits sig (HIx 1)) : sProp 𝕄 :=
  iprop(∃ W', ⌜∀ p ∈ W', p ∈ W ∨ p.2 = none⌝ ∗ owes (VT d L) O W')

/-- A copy within the task's reach, started and waited for. -/
theorem wp_copy {sp sp' : Space} {s : Shape} {e : EltTy} (hs : 0 < s.numel)
    {src : Memref sig .scVector sp s e} {dst : Memref sig .scVector sp' s e} {sm : DmaSem sig}
    {h1 h1' : src.view.WordExact} {h2 h2' : dst.view.WordExact} {h3 : DmaTarget.Typed (nD := nD) (τ := τ) (p := (.scVector (cV L) (jV L))) sp (.dma sm) (.here dst)}
    {O : CellTallies nD τ sig (HIx 1)} {W : Waits sig (HIx 1)}
    {Ss : Finset (Idx (src.view.loc (VT d L)))} (hSs : src.view.set ⊆ Ss)
    {Sd : Finset (Idx (dst.view.loc (VT d L)))} (hSd : dst.view.set ⊆ Sd)
    {q : PosShare TreeShare} {fs : Buf (Elt F) (src.view.loc (VT d L))} {fd : Buf (Elt F) (dst.view.loc (VT d L))} {α : Type}
    {k : PUnit → Prog (TpuEff nD τ sig (Elt F) Λ₀ (.scVector (cV L) (jV L))) α} {Q : α → sProp 𝕄} :
    iprop(Transfers.MayWaits (VT d L) (default : HIx 1) O ∗ (src.view.loc (VT d L) ↦[Ss]{q} fs) ∗ (dst.view.loc (VT d L) ↦[Sd]{fullShare} fd)
        ∗ semVal (VT d L, SemLoc.dma sm) 0 ∗ owesUp d L O W)
      ⊢ iprop((iprop((src.view.loc (VT d L) ↦[Ss]{q} fs)
            ∗ (dst.view.loc (VT d L) ↦[Sd]{fullShare} (dst.view.write (Elt F) fd (src.view.read (Elt F) fs) Finset.univ))
            ∗ semVal (VT d L, SemLoc.dma sm) 0 ∗ owesUp d L O W)
          -∗ wp frame (wpE (defs₀ (F := F)) 𝒱₀ (VT d L) none) Set.univ (k ⟨⟩) Q)
        -∗ wp frame (wpE (defs₀ (F := F)) 𝒱₀ (VT d L) none) Set.univ
            (Prog.lift (TpuEff.enqueueDma src (.here dst) (.dma sm) h1 h2 h3) >>= fun _ => Prog.lift (TpuEff.waitDma2 sm src dst h1' h2') >>= k) Q) := by
  have hN : 0 < dst.view.dmaCredit := View.dmaCredit_pos _ hs
  iintro ⟨#Hmw, Hs, Hd, Hc, HO⟩ Hk
  ihave Hs' := (pointsTo_split_subset hSs).1 $$ Hs
  icases Hs' with ⟨Hs, Hr⟩
  have e1 := Transfers.wp_dmaLocal (defs := defs₀ (F := F)) (countersEmb (U := UU)) 𝒱₀ (VT d L) none (src := src) (dst := dst) (via := .same) (sm := .dma sm) (hsrc := h1) (hdst := h2) (hsem := h3)
    (k := fun _ => Prog.lift (TpuEff.waitDma2 sm src dst h1' h2') >>= k) (q := q) (fs := fs) (Sd := Sd) (fd := fd) (Q := Q) (default : HIx 1) dst.view.dmaCredit rfl hN hSd
  iapply e1 $$ [Hs Hd Hc]
  · isplitl [Hs]; · iexact Hs
    isplitl [Hd]; · iexact Hd
    iexact Hc
  iintro Hf
  unfold owesUp
  icases HO with ⟨%W', %hW', HO⟩
  have e2 := Transfers.wp_waitLocalO (defs := defs₀ (F := F)) (countersEmb (U := UU)) 𝒱₀ (VT d L) none (sem := sm) (srcw := src) (dstw := dst) (hsrc := h1') (hdst := h2') (k := k) (Q := Q)
    (default : HIx 1) (N := dst.view.dmaCredit) rfl (O := O) (W := W')
    (D := iprop((dst.view.loc (VT d L) ↦[Sd]{fullShare} (dst.view.write (Elt F) fd ((ReadAs.same (Val := Elt F)).apply (src.view.read (Elt F) fs)) Finset.univ))
      ∗ (src.view.loc (VT d L) ↦[src.view.set]{q} fs)))
  iapply e2 $$ [Hf HO]
  · isplitl [Hf]; · iexact Hf
    isplitl [HO]; · iexact HO
    iapply (Transfers.MayWaits.elim (SemLoc.dma sm)) $$ Hmw
  iintro ⟨⟨Hd, Hs⟩, Hc, HO⟩
  iapply Hk
  isplitl [Hs Hr]
  · iapply (pointsTo_split_subset hSs).2
    isplitl [Hs]; · iexact Hs
    iexact Hr
  isplitl [Hd]; · iexact Hd
  isplitl [Hc]; · iexact Hc
  iexists (insert (SemLoc.dma sm, (default : HIx 1)) W')
  isplitr
  · ipureintro
    intro p hp
    rcases Finset.mem_insert.mp hp with rfl | hp
    · exact Or.inr rfl
    · exact hW' p hp
  iexact HO

/-! ### What the copies leave -/

/-- `n` words of the points, from word `s` on, put at word `o` of the task's buffer. -/
def putP (f : Vec F S1792 .f32) (g : Vec F S56000 .f32) (o s n : ℕ) : Vec F S1792 .f32 :=
  fun i => if o ≤ (i 0).val ∧ (i 0).val < o + n then g (ix1 ⟨(s + ((i 0).val - o)) % 56000, Nat.mod_lt _ (by decide)⟩) else f i

theorem copyP {od os : Fin 1 → ℕ} {o s n : ℕ} (hd : od = ![o]) (hs : os = ![s])
    {inbd : ∀ a, od a + (![n] : Fin 1 → ℕ) a ≤ S1792.size a} {inbs : ∀ a, os a + (![n] : Fin 1 → ℕ) a ≤ S56000.size a} (f : Vec F S1792 .f32) (g : Vec F S56000 .f32) :
    ((View.whole cc1_scratch1).slice (Rect.unit (s := S1792) od ![n] inbd)).write (Elt F) f
      (((View.whole main_v7_scv).slice (Rect.unit (s := S56000) os ![n] inbs)).read (Elt F) g) Finset.univ = putP f g o s n := by
  subst hd hs
  refine (View.write_whole_slice_unit (Val := Elt F) cc1_scratch1 ![o] ![n] inbd f _).trans ?_
  have hb : s + n ≤ 56000 := inbs 0
  funext i
  unfold updateSlice putP
  by_cases h : o ≤ (i 0).val ∧ (i 0).val < o + n
  · rw [if_pos h, dif_pos (by intro a; match a with | 0 => exact h)]
    show g _ = g _
    congr 1
    funext a
    match a with
    | 0 =>
      apply Fin.ext
      refine (ValueKit.view_emb_slice_whole_unit_val main_v7_scv ![s] ![n] inbs _ 0).trans ?_
      show s + ((i 0).val - o) = (s + ((i 0).val - o)) % 56000
      rw [Nat.mod_eq_of_lt (by omega)]
  · rw [if_neg h, dif_neg (fun H => h (H 0))]

/-- `n` classes of the task's, from class `o` on, put at point `s`. -/
def putCls (f : IVec S14000 32) (g : IVec S448 32) (s o n : ℕ) : IVec S14000 32 :=
  fun i => if s ≤ (i 0).val ∧ (i 0).val < s + n then g (ix1 ⟨(o + ((i 0).val - s)) % 448, Nat.mod_lt _ (by decide)⟩) else f i

theorem copyCls {od os : Fin 1 → ℕ} {o s n : ℕ} (hd : od = ![s]) (hs : os = ![o])
    {inbd : ∀ a, od a + (![n] : Fin 1 → ℕ) a ≤ S14000.size a} {inbs : ∀ a, os a + (![n] : Fin 1 → ℕ) a ≤ S448.size a} (f : IVec S14000 32) (g : IVec S448 32) :
    ((View.whole main_v8_0_scv).slice (Rect.unit (s := S14000) od ![n] inbd)).write (Elt F) f
      (((View.whole cc1_scratch2).slice (Rect.unit (s := S448) os ![n] inbs)).read (Elt F) g) Finset.univ = putCls f g s o n := by
  subst hd hs
  refine (View.write_whole_slice_unit (Val := Elt F) main_v8_0_scv ![s] ![n] inbd f _).trans ?_
  have hb : o + n ≤ 448 := inbs 0
  funext i
  unfold updateSlice putCls
  by_cases h : s ≤ (i 0).val ∧ (i 0).val < s + n
  · rw [if_pos h, dif_pos (by intro a; match a with | 0 => exact h)]
    show g _ = g _
    congr 1
    funext a
    match a with
    | 0 =>
      apply Fin.ext
      refine (ValueKit.view_emb_slice_whole_unit_val cc1_scratch2 ![o] ![n] inbs _ 0).trans ?_
      show o + ((i 0).val - s) = (o + ((i 0).val - s)) % 448
      rw [Nat.mod_eq_of_lt (by omega)]
  · rw [if_neg h, dif_neg (fun H => h (H 0))]

/-- `n` boxes of the task's, from box `o` on, put at point `s`. -/
def putBx (f : Vec F S14000x8 .f32) (g : Vec F S448x8 .f32) (s o n : ℕ) : Vec F S14000x8 .f32 :=
  fun i => if s ≤ (i 0).val ∧ (i 0).val < s + n then g (ix2 ⟨(o + ((i 0).val - s)) % 448, Nat.mod_lt _ (by decide)⟩ (i 1)) else f i

theorem copyBx {od os : Fin 2 → ℕ} {o s n : ℕ} (hd : od = ![s, 0]) (hs : os = ![o, 0])
    {inbd : ∀ a, od a + (![n, 8] : Fin 2 → ℕ) a ≤ S14000x8.size a} {inbs : ∀ a, os a + (![n, 8] : Fin 2 → ℕ) a ≤ S448x8.size a} (f : Vec F S14000x8 .f32) (g : Vec F S448x8 .f32) :
    ((View.whole main_v8_1_scv).slice (Rect.unit (s := S14000x8) od ![n, 8] inbd)).write (Elt F) f
      (((View.whole cc1_scratch3).slice (Rect.unit (s := S448x8) os ![n, 8] inbs)).read (Elt F) g) Finset.univ = putBx f g s o n := by
  subst hd hs
  refine (View.write_whole_slice_unit (Val := Elt F) main_v8_1_scv ![s, 0] ![n, 8] inbd f _).trans ?_
  have hb : o + n ≤ 448 := inbs 0
  funext i
  have h8 : (i 1).val < 8 := (i 1).isLt
  unfold updateSlice putBx
  by_cases h : s ≤ (i 0).val ∧ (i 0).val < s + n
  · rw [if_pos h, dif_pos (by
      intro a
      match a with
      | 0 => exact h
      | 1 => exact ⟨Nat.zero_le _, by show (i 1).val < 0 + 8; omega⟩)]
    show g _ = g _
    congr 1
    funext a
    match a with
    | 0 =>
      apply Fin.ext
      refine (ValueKit.view_emb_slice_whole_unit_val cc1_scratch3 ![o, 0] ![n, 8] inbs _ 0).trans ?_
      show o + ((i 0).val - s) = (o + ((i 0).val - s)) % 448
      rw [Nat.mod_eq_of_lt (by omega)]
    | 1 =>
      apply Fin.ext
      refine (ValueKit.view_emb_slice_whole_unit_val cc1_scratch3 ![o, 0] ![n, 8] inbs _ 1).trans ?_
      show 0 + ((i 1).val - 0) = (i 1).val
      omega
  · rw [if_neg h, dif_neg (fun H => h (H 0))]

end Cert.KernelIdeal.Enc
-- ==== Proof.Task.lean ====
/-
  One task of the SparseCore call: its points in, its groups, its classes and boxes out.
-/
module

public import proofs.«01_k».proof.Proof.Trip
public import proofs.«01_k».proof.Proof.Copy

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-! ### A task's points -/

/-- The task's first point, how many groups of sixteen it has, how many points. -/
def base : ℕ := 864 * (L 1).val + 432 * (L 0).val + 16 * (min (2 * (L 1).val + (L 0).val) 11)
def nGrp : ℕ := if 2 * (L 1).val + (L 0).val < 11 then 28 else 27
abbrev nPts : ℕ := 16 * nGrp L

theorem nGrp_le : nGrp L ≤ 28 := by unfold nGrp; split <;> omega
theorem nGrp_ge : 27 ≤ nGrp L := by unfold nGrp; split <;> omega
theorem base_le : base L + nPts L ≤ 14000 := by
  have h0 : (L 0).val < 2 := (L 0).isLt
  have h1 : (L 1).val < 16 := (L 1).isLt
  unfold nPts nGrp base; split <;> omega

theorem trips1 : ∀ L : grid1.Coords, (k1_t1_loop L).trips = nGrp L := by decide +kernel
theorem trips6 (L : grid1.Coords) : (k1_t6_loop L).trips = 0 := Nat.le_zero.mp (k1_t6_abs L).2.1
theorem cond1_iff : ∀ L : grid1.Coords, k1_cond1 L = 1#1 ↔ nGrp L = 28 := by decide +kernel
theorem cond2_iff : ∀ L : grid1.Coords, k1_cond2 L = 1#1 ↔ nGrp L = 28 := by decide +kernel

/-- Word `n` of row `r` of the points (rows of 14000). -/
def gw (P : Vec F S56000 .f32) (r n : ℕ) : F .f32 := P (ix1 ⟨(14000 * r + n) % 56000, Nat.mod_lt _ (by decide)⟩)

/-- The points' batch items are 0 to 3, in order. -/
structure PtsOK (P : Vec F S56000 .f32) : Prop where
  le3 : ∀ n, n < 14000 → (FloatOps.fptosi 32 (gw P 0 n) : BitVec 32).toNat ≤ 3
  mono : ∀ n m, n ≤ m → m < 14000 → (FloatOps.fptosi 32 (gw P 0 n) : BitVec 32).toNat ≤ (FloatOps.fptosi 32 (gw P 0 m) : BitVec 32).toNat

/-- The classes of the SparseCore's points, and their boxes. -/
def CLS (T : Vec F S16x256 .f32) (P : Vec F S56000 .f32) : IVec S14000 32 := fun n =>
  clsOf (fh T (gw P 1 (n 0).val) (gw P 2 (n 0).val) (gw P 3 (n 0).val) (gw P 0 (n 0).val))
    (ea T (gw P 1 (n 0).val) (gw P 2 (n 0).val) (gw P 3 (n 0).val) (gw P 0 (n 0).val))
def BOX (T : Vec F S16x256 .f32) (P : Vec F S56000 .f32) : Vec F S14000x8 .f32 := fun n =>
  boxOf T (gw P 1 (n 0).val) (gw P 2 (n 0).val) (gw P 3 (n 0).val)
    (fh T (gw P 1 (n 0).val) (gw P 2 (n 0).val) (gw P 3 (n 0).val) (gw P 0 (n 0).val)) (n 1)

/-- The task's buffer holds its points. -/
def Loaded (P : Vec F S56000 .f32) (f7 : Vec F S1792 .f32) : Prop := ∀ r n, r < 4 → n < nPts L → pw f7 r n = gw P r (base L + n)

theorem group_ok {P : Vec F S56000 .f32} (hP : PtsOK P) {f7 : Vec F S1792 .f32} (h7 : Loaded L P f7) {t : ℕ} (ht : t < nGrp L) :
    GroupOK (sl16 f7 (16 * t)) := by
  have hb := base_le L
  have e : ∀ l : Fin 16, sl16 f7 (16 * t) (ix1 l) = gw P 0 (base L + (16 * t + l.val)) := fun l => by
    have h := sl16_pw f7 0 (16 * t) l
    rw [show 448 * 0 + 16 * t = 16 * t by omega] at h
    have hl := l.isLt
    rw [h, h7 0 _ (by omega) (by unfold nPts; omega)]
  have e' : ∀ x : S16.Idx, sl16 f7 (16 * t) x = gw P 0 (base L + (16 * t + (x 0).val)) := fun x =>
    (congrArg (sl16 f7 (16 * t)) (show x = ix1 (x 0) from funext fun a => match a with | 0 => rfl)).trans (e (x 0))
  have hl : ∀ x : S16.Idx, (x 0).val < 16 := fun x => (x 0).isLt
  unfold nPts at hb
  constructor
  · intro x; rw [e']; have := hl x; exact hP.le3 _ (by omega)
  · intro x; rw [e', e']; have := hl x; exact hP.mono _ _ (by show _ + (_ + 0) ≤ _; omega) (by omega)
  · intro x; rw [e', e']; have := hl x; exact hP.mono _ _ (by show _ ≤ _ + (_ + 15); omega) (by show _ + (_ + 15) < _; omega)

/-! ### The copies at the task's arrays -/

theorem wp_copyT {sm : DmaSem sig} {h1 h1' h2 h2'} {h3 : DmaTarget.Typed (nD := nD) (τ := τ) (p := (.scVector (cV L) (jV L))) .hbm (.dma sm) (.here sT)}
    {O : CellTallies nD τ sig (HIx 1)} {W : Waits sig (HIx 1)} {q : PosShare TreeShare} {f : Vec F S16x256 .f32} {g : Vec F S16x256 .f32} {α : Type}
    {k : PUnit → Prog (TpuEff nD τ sig (Elt F) Λ₀ (.scVector (cV L) (jV L))) α} {Q : α → sProp 𝕄} :
    iprop(Transfers.MayWaits (VT d L) (default : HIx 1) O ∗ ((tV).view.loc (VT d L) ↦{q} g) ∗ ((sT).view.loc (VT d L) ↦{fullShare} f)
        ∗ semVal (VT d L, SemLoc.dma sm) 0 ∗ owesUp d L O W)
      ⊢ iprop((iprop(((tV).view.loc (VT d L) ↦{q} g) ∗ ((sT).view.loc (VT d L) ↦{fullShare} g)
            ∗ semVal (VT d L, SemLoc.dma sm) 0 ∗ owesUp d L O W)
          -∗ wp frame (wpE (defs₀ (F := F)) 𝒱₀ (VT d L) none) Set.univ (k ⟨⟩) Q)
        -∗ wp frame (wpE (defs₀ (F := F)) 𝒱₀ (VT d L) none) Set.univ
            (Prog.lift (TpuEff.enqueueDma tV (.here sT) (.dma sm) h1 h2 h3) >>= fun _ => Prog.lift (TpuEff.waitDma2 sm tV sT h1' h2') >>= k) Q) := by
  have e := wp_copy d L (s := S16x256) (by decide) (src := tV) (dst := sT) (sm := sm) (h1 := h1) (h1' := h1') (h2 := h2) (h2' := h2') (h3 := h3) (O := O) (W := W)
    (Ss := Finset.univ) (Finset.subset_univ _) (Sd := Finset.univ) (Finset.subset_univ _) (q := q) (fs := g) (fd := f) (k := k) (Q := Q)
  have ew : (sT).view.write (Elt F) f ((tV).view.read (Elt F) g) Finset.univ = g := by
    show (View.whole cc1_scratch0).write (Elt F) f ((View.whole main_v4_scv).read (Elt F) g) Finset.univ = g
    exact View.write_whole_univ _ _ _
  rw [ew] at e
  exact e

theorem wp_copyP {o s n : ℕ} (hn : 0 < n) {od os : Fin 1 → ℕ} (hd : od = ![o]) (hs : os = ![s]) {sm : DmaSem sig}
    {inbd : ∀ a, od a + (![n] : Fin 1 → ℕ) a ≤ S1792.size a} {inbs : ∀ a, os a + (![n] : Fin 1 → ℕ) a ≤ S56000.size a}
    {h1 h1' h2 h2'} {h3 : DmaTarget.Typed (nD := nD) (τ := τ) (p := (.scVector (cV L) (jV L))) .hbm (.dma sm) (.here (sP.slice (Rect.unit (s := S1792) od ![n] inbd) (fun _ => rfl)))}
    {O : CellTallies nD τ sig (HIx 1)} {W : Waits sig (HIx 1)} {q : PosShare TreeShare} {f : Vec F S1792 .f32} {g : Vec F S56000 .f32} {α : Type}
    {k : PUnit → Prog (TpuEff nD τ sig (Elt F) Λ₀ (.scVector (cV L) (jV L))) α} {Q : α → sProp 𝕄} :
    iprop(Transfers.MayWaits (VT d L) (default : HIx 1) O ∗ ((pV).view.loc (VT d L) ↦{q} g) ∗ ((sP).view.loc (VT d L) ↦{fullShare} f)
        ∗ semVal (VT d L, SemLoc.dma sm) 0 ∗ owesUp d L O W)
      ⊢ iprop((iprop(((pV).view.loc (VT d L) ↦{q} g) ∗ ((sP).view.loc (VT d L) ↦{fullShare} putP f g o s n)
            ∗ semVal (VT d L, SemLoc.dma sm) 0 ∗ owesUp d L O W)
          -∗ wp frame (wpE (defs₀ (F := F)) 𝒱₀ (VT d L) none) Set.univ (k ⟨⟩) Q)
        -∗ wp frame (wpE (defs₀ (F := F)) 𝒱₀ (VT d L) none) Set.univ
            (Prog.lift (TpuEff.enqueueDma (pV.slice (Rect.unit (s := S56000) os ![n] inbs) (fun _ => rfl)) (.here (sP.slice (Rect.unit (s := S1792) od ![n] inbd) (fun _ => rfl))) (.dma sm) h1 h2 h3)
              >>= fun _ => Prog.lift (TpuEff.waitDma2 sm (pV.slice (Rect.unit (s := S56000) os ![n] inbs) (fun _ => rfl)) (sP.slice (Rect.unit (s := S1792) od ![n] inbd) (fun _ => rfl)) h1' h2') >>= k) Q) := by
  have e := wp_copy d L (s := ⟨1, ![n]⟩) (by simpa [Shape.numel] using hn) (src := pV.slice (Rect.unit (s := S56000) os ![n] inbs) (fun _ => rfl)) (dst := sP.slice (Rect.unit (s := S1792) od ![n] inbd) (fun _ => rfl)) (sm := sm) (h1 := h1) (h1' := h1') (h2 := h2) (h2' := h2') (h3 := h3) (O := O) (W := W)
    (Ss := Finset.univ) (Finset.subset_univ _) (Sd := Finset.univ) (Finset.subset_univ _) (q := q) (fs := g) (fd := f) (k := k) (Q := Q)
  have ew := copyP (F := F) hd hs (inbd := inbd) (inbs := inbs) f g
  rw [← ew]
  exact e

/-- The points of the task, among the classes and among the boxes. -/
def setC : Finset S14000.Idx := Finset.univ.filter fun i => base L ≤ (i 0).val ∧ (i 0).val < base L + nPts L
def setB : Finset S14000x8.Idx := Finset.univ.filter fun i => base L ≤ (i 0).val ∧ (i 0).val < base L + nPts L

theorem wp_copyC {o s n : ℕ} (hn : 0 < n) {od os : Fin 1 → ℕ} (hd : od = ![s]) (hs : os = ![o]) (hb : base L ≤ s) (hb' : s + n ≤ base L + nPts L) {sm : DmaSem sig}
    {inbd : ∀ a, od a + (![n] : Fin 1 → ℕ) a ≤ S14000.size a} {inbs : ∀ a, os a + (![n] : Fin 1 → ℕ) a ≤ S448.size a}
    {h1 h1' h2 h2'} {h3 : DmaTarget.Typed (nD := nD) (τ := τ) (p := (.scVector (cV L) (jV L))) .vmem (.dma sm) (.here (cVm.slice (Rect.unit (s := S14000) od ![n] inbd) (fun _ => rfl)))}
    {O : CellTallies nD τ sig (HIx 1)} {W : Waits sig (HIx 1)} {f : IVec S14000 32} {g : IVec S448 32} {α : Type}
    {k : PUnit → Prog (TpuEff nD τ sig (Elt F) Λ₀ (.scVector (cV L) (jV L))) α} {Q : α → sProp 𝕄} :
    iprop(Transfers.MayWaits (VT d L) (default : HIx 1) O ∗ ((sC).view.loc (VT d L) ↦{fullShare} g) ∗ ((cVm).view.loc (VT d L) ↦[setC L]{fullShare} f)
        ∗ semVal (VT d L, SemLoc.dma sm) 0 ∗ owesUp d L O W)
      ⊢ iprop((iprop(((sC).view.loc (VT d L) ↦{fullShare} g) ∗ ((cVm).view.loc (VT d L) ↦[setC L]{fullShare} putCls f g s o n)
            ∗ semVal (VT d L, SemLoc.dma sm) 0 ∗ owesUp d L O W)
          -∗ wp frame (wpE (defs₀ (F := F)) 𝒱₀ (VT d L) none) Set.univ (k ⟨⟩) Q)
        -∗ wp frame (wpE (defs₀ (F := F)) 𝒱₀ (VT d L) none) Set.univ
            (Prog.lift (TpuEff.enqueueDma (sC.slice (Rect.unit (s := S448) os ![n] inbs) (fun _ => rfl)) (.here (cVm.slice (Rect.unit (s := S14000) od ![n] inbd) (fun _ => rfl))) (.dma sm) h1 h2 h3)
              >>= fun _ => Prog.lift (TpuEff.waitDma2 sm (sC.slice (Rect.unit (s := S448) os ![n] inbs) (fun _ => rfl)) (cVm.slice (Rect.unit (s := S14000) od ![n] inbd) (fun _ => rfl)) h1' h2') >>= k) Q) := by
  have hsub : ((View.whole main_v8_0_scv).slice (Rect.unit (s := S14000) od ![n] inbd)).set ⊆ setC L := by
    intro i hi
    rw [View.set_slice_whole] at hi
    have h := Rect.mem_set_unit.mp hi 0
    subst hd
    have h' : s ≤ (i 0).val ∧ (i 0).val < s + n := h
    exact Finset.mem_filter.mpr ⟨Finset.mem_univ _, by omega⟩
  have e := wp_copy d L (s := ⟨1, ![n]⟩) (by simpa [Shape.numel] using hn) (src := sC.slice (Rect.unit (s := S448) os ![n] inbs) (fun _ => rfl)) (dst := cVm.slice (Rect.unit (s := S14000) od ![n] inbd) (fun _ => rfl)) (sm := sm) (h1 := h1) (h1' := h1') (h2 := h2) (h2' := h2') (h3 := h3) (O := O) (W := W)
    (Ss := Finset.univ) (Finset.subset_univ _) (Sd := setC L) hsub (q := fullShare) (fs := g) (fd := f) (k := k) (Q := Q)
  have ew := copyCls (F := F) hd hs (inbd := inbd) (inbs := inbs) f g
  rw [← ew]
  exact e

theorem wp_copyB {o s n : ℕ} (hn : 0 < n) {od os : Fin 2 → ℕ} (hd : od = ![s, 0]) (hs : os = ![o, 0]) (hb : base L ≤ s) (hb' : s + n ≤ base L + nPts L) {sm : DmaSem sig}
    {inbd : ∀ a, od a + (![n, 8] : Fin 2 → ℕ) a ≤ S14000x8.size a} {inbs : ∀ a, os a + (![n, 8] : Fin 2 → ℕ) a ≤ S448x8.size a}
    {h1 h1' h2 h2'} {h3 : DmaTarget.Typed (nD := nD) (τ := τ) (p := (.scVector (cV L) (jV L))) .vmem (.dma sm) (.here (bVm.slice (Rect.unit (s := S14000x8) od ![n, 8] inbd) (fun _ => rfl)))}
    {O : CellTallies nD τ sig (HIx 1)} {W : Waits sig (HIx 1)} {f : Vec F S14000x8 .f32} {g : Vec F S448x8 .f32} {α : Type}
    {k : PUnit → Prog (TpuEff nD τ sig (Elt F) Λ₀ (.scVector (cV L) (jV L))) α} {Q : α → sProp 𝕄} :
    iprop(Transfers.MayWaits (VT d L) (default : HIx 1) O ∗ ((sB).view.loc (VT d L) ↦{fullShare} g) ∗ ((bVm).view.loc (VT d L) ↦[setB L]{fullShare} f)
        ∗ semVal (VT d L, SemLoc.dma sm) 0 ∗ owesUp d L O W)
      ⊢ iprop((iprop(((sB).view.loc (VT d L) ↦{fullShare} g) ∗ ((bVm).view.loc (VT d L) ↦[setB L]{fullShare} putBx f g s o n)
            ∗ semVal (VT d L, SemLoc.dma sm) 0 ∗ owesUp d L O W)
          -∗ wp frame (wpE (defs₀ (F := F)) 𝒱₀ (VT d L) none) Set.univ (k ⟨⟩) Q)
        -∗ wp frame (wpE (defs₀ (F := F)) 𝒱₀ (VT d L) none) Set.univ
            (Prog.lift (TpuEff.enqueueDma (sB.slice (Rect.unit (s := S448x8) os ![n, 8] inbs) (fun _ => rfl)) (.here (bVm.slice (Rect.unit (s := S14000x8) od ![n, 8] inbd) (fun _ => rfl))) (.dma sm) h1 h2 h3)
              >>= fun _ => Prog.lift (TpuEff.waitDma2 sm (sB.slice (Rect.unit (s := S448x8) os ![n, 8] inbs) (fun _ => rfl)) (bVm.slice (Rect.unit (s := S14000x8) od ![n, 8] inbd) (fun _ => rfl)) h1' h2') >>= k) Q) := by
  have hsub : ((View.whole main_v8_1_scv).slice (Rect.unit (s := S14000x8) od ![n, 8] inbd)).set ⊆ setB L := by
    intro i hi
    rw [View.set_slice_whole] at hi
    have h := Rect.mem_set_unit.mp hi 0
    subst hd
    have h' : s ≤ (i 0).val ∧ (i 0).val < s + n := h
    exact Finset.mem_filter.mpr ⟨Finset.mem_univ _, by omega⟩
  have e := wp_copy d L (s := ⟨2, ![n, 8]⟩) (by simpa [Shape.numel] using hn) (src := sB.slice (Rect.unit (s := S448x8) os ![n, 8] inbs) (fun _ => rfl)) (dst := bVm.slice (Rect.unit (s := S14000x8) od ![n, 8] inbd) (fun _ => rfl)) (sm := sm) (h1 := h1) (h1' := h1') (h2 := h2) (h2' := h2') (h3 := h3) (O := O) (W := W)
    (Ss := Finset.univ) (Finset.subset_univ _) (Sd := setB L) hsub (q := fullShare) (fs := g) (fd := f) (k := k) (Q := Q)
  have ew := copyBx (F := F) hd hs (inbd := inbd) (inbs := inbs) f g
  rw [← ew]
  exact e

end Cert.KernelIdeal.Enc
-- ==== Proof.TileRun.lean ====
/-
  The whole run of one task of the SparseCore call.
-/
module

public import proofs.«01_k».proof.Proof.Task

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

theorem iv_toNat {n : ℕ} (hn : n < 28) : Scalar.muli (Scf.iv 0#32 1#32 n) 16#32 = BitVec.ofNat 32 (16 * n) := by
  apply BitVec.eq_of_toNat_eq
  unfold Scalar.muli Scf.iv
  simp only [IntOp.muli, BitVec.toNat_mul, BitVec.toNat_add, BitVec.toNat_ofNat]
  omega

theorem off1_0 : k1_off1 L 0#32 = ![base L] := (k1_off1_eq L 0).trans (by unfold base; congr 1; simp)
theorem off1_1 : k1_off1 L 14000#32 = ![14000 + base L] := (k1_off1_eq L 1).trans (by unfold base; congr 1; simp; omega)
theorem off1_2 : k1_off1 L 28000#32 = ![28000 + base L] := (k1_off1_eq L 2).trans (by unfold base; congr 1; simp; omega)
theorem off1_3 : k1_off1 L 42000#32 = ![42000 + base L] := (k1_off1_eq L 3).trans (by unfold base; congr 1; simp; omega)
theorem off2_0 : k1_off2 L 0#32 = ![base L + 432] := (k1_off2_eq L 0).trans (by unfold base; congr 1; simp)
theorem off2_1 : k1_off2 L 14000#32 = ![14000 + base L + 432] := (k1_off2_eq L 1).trans (by unfold base; congr 1; simp; omega)
theorem off2_2 : k1_off2 L 28000#32 = ![28000 + base L + 432] := (k1_off2_eq L 2).trans (by unfold base; congr 1; simp; omega)
theorem off2_3 : k1_off2 L 42000#32 = ![42000 + base L + 432] := (k1_off2_eq L 3).trans (by unfold base; congr 1; simp; omega)
theorem off9 : k1_off9 L = ![base L] := k1_off9_eq L
theorem off10 : k1_off10 L = ![base L, 0] := k1_off10_eq L
theorem off11 : k1_off11 L = ![base L + 432] := k1_off11_eq L
theorem off12 : k1_off12 L = ![base L + 432, 0] := k1_off12_eq L

/-- The first 432 points' words in, row by row. -/
abbrev head (f : Vec F S1792 .f32) (P : Vec F S56000 .f32) (b : ℕ) : Vec F S1792 .f32 :=
  putP (putP (putP (putP f P 0 b 432) P 448 (14000 + b) 432) P 896 (28000 + b) 432) P 1344 (42000 + b) 432
/-- The last sixteen. -/
abbrev tail (f : Vec F S1792 .f32) (P : Vec F S56000 .f32) (b : ℕ) : Vec F S1792 .f32 :=
  putP (putP (putP (putP f P 432 (b + 432) 16) P 880 (14000 + b + 432) 16) P 1328 (28000 + b + 432) 16) P 1776 (42000 + b + 432) 16

theorem pw_putP (f : Vec F S1792 .f32) (P : Vec F S56000 .f32) (o s n r i : ℕ) (hr : r < 4) (hi : i < 448) :
    pw (putP f P o s n) r i = if o ≤ 448 * r + i ∧ 448 * r + i < o + n then P (ix1 ⟨(s + (448 * r + i - o)) % 56000, Nat.mod_lt _ (by decide)⟩) else pw f r i := by
  unfold pw putP
  have e : (448 * r + i) % 1792 = 448 * r + i := Nat.mod_eq_of_lt (by omega)
  show (if o ≤ (448 * r + i) % 1792 ∧ (448 * r + i) % 1792 < o + n then P (ix1 ⟨(s + ((448 * r + i) % 1792 - o)) % 56000, _⟩) else _) = _
  simp only [e]

theorem word_congr (P : Vec F S56000 .f32) {a b : ℕ} (h : a = b) :
    P (ix1 ⟨a % 56000, Nat.mod_lt _ (by decide)⟩) = P (ix1 ⟨b % 56000, Nat.mod_lt _ (by decide)⟩) := by subst h; rfl

theorem pw_head (f : Vec F S1792 .f32) (P : Vec F S56000 .f32) (b r i : ℕ) (hr : r < 4) (hi : i < 432) :
    pw (head f P b) r i = gw P r (b + i) := by
  unfold head
  simp only [pw_putP _ _ _ _ _ _ _ hr (show i < 448 by omega)]
  unfold gw
  rcases (by omega : r = 0 ∨ r = 1 ∨ r = 2 ∨ r = 3) with rfl | rfl | rfl | rfl
  · rw [if_neg (by omega), if_neg (by omega), if_neg (by omega), if_pos (by omega)]; exact word_congr P (by omega)
  · rw [if_neg (by omega), if_neg (by omega), if_pos (by omega)]; exact word_congr P (by omega)
  · rw [if_neg (by omega), if_pos (by omega)]; exact word_congr P (by omega)
  · rw [if_pos (by omega)]; exact word_congr P (by omega)

theorem pw_tail (f : Vec F S1792 .f32) (P : Vec F S56000 .f32) (b r i : ℕ) (hr : r < 4) (hi : i < 448) :
    pw (tail f P b) r i = if 432 ≤ i then gw P r (b + i) else pw f r i := by
  unfold tail
  simp only [pw_putP _ _ _ _ _ _ _ hr hi]
  unfold gw
  by_cases h : 432 ≤ i
  · rw [if_pos h]
    rcases (by omega : r = 0 ∨ r = 1 ∨ r = 2 ∨ r = 3) with rfl | rfl | rfl | rfl
    · rw [if_neg (by omega), if_neg (by omega), if_neg (by omega), if_pos (by omega)]; exact word_congr P (by omega)
    · rw [if_neg (by omega), if_neg (by omega), if_pos (by omega)]; exact word_congr P (by omega)
    · rw [if_neg (by omega), if_pos (by omega)]; exact word_congr P (by omega)
    · rw [if_pos (by omega)]; exact word_congr P (by omega)
  · rw [if_neg h, if_neg (by omega), if_neg (by omega), if_neg (by omega), if_neg (by omega)]

theorem loaded_head (h : ¬ nGrp L = 28) (P : Vec F S56000 .f32) (f : Vec F S1792 .f32) : Loaded L P (head f P (base L)) := by
  intro r n hr hn
  have := nGrp_le L; have := nGrp_ge L
  unfold nPts at hn
  exact pw_head f P _ r n hr (by omega)

theorem loaded_tail (P : Vec F S56000 .f32) (f : Vec F S1792 .f32) : Loaded L P (tail (head f P (base L)) P (base L)) := by
  intro r n hr hn
  have := nGrp_le L
  unfold nPts at hn
  rw [pw_tail _ P _ r n hr (by omega)]
  by_cases h : 432 ≤ n
  · rw [if_pos h]
  · rw [if_neg h]; exact pw_head f P _ r n hr (by omega)

/-- The tasks of twenty-eight groups fetch their last sixteen points. -/
theorem wp_tail (O : CellTallies nD τ sig (HIx 1)) (W : Waits sig (HIx 1)) {qp : PosShare TreeShare} (P : Vec F S56000 .f32) (p0 : Vec F S1792 .f32) {v6 : BitVec 32}
    {α β : Type} {kk : Prog (TpuEff nD τ sig (Elt F) Λ₀ (.scVector (cV L) (jV L))) β}
    {k : β → Prog (TpuEff nD τ sig (Elt F) Λ₀ (.scVector (cV L) (jV L))) α} {Q : α → sProp 𝕄} :
    (iprop(Transfers.MayWaits (VT d L) (default : HIx 1) O
        ∗ ((pV).view.loc (VT d L) ↦{qp} P) ∗ ((sP).view.loc (VT d L) ↦{fullShare} head p0 P (base L))
        ∗ semVal (VT d L, SemLoc.dma cc1_scoped5.sem) 0 ∗ semVal (VT d L, SemLoc.dma cc1_scoped6.sem) 0 ∗ semVal (VT d L, SemLoc.dma cc1_scoped7.sem) 0
        ∗ semVal (VT d L, SemLoc.dma cc1_scoped8.sem) 0 ∗ owesUp d L O W) : sProp 𝕄)
      ⊢ iprop((∀ f7, ⌜Loaded L P f7⌝ -∗ ((pV).view.loc (VT d L) ↦{qp} P) -∗ ((sP).view.loc (VT d L) ↦{fullShare} f7)
          -∗ semVal (VT d L, SemLoc.dma cc1_scoped5.sem) 0 -∗ semVal (VT d L, SemLoc.dma cc1_scoped6.sem) 0 -∗ semVal (VT d L, SemLoc.dma cc1_scoped7.sem) 0
          -∗ semVal (VT d L, SemLoc.dma cc1_scoped8.sem) 0 -∗ owesUp d L O W
          -∗ wp frame (wpE (defs₀ (F := F)) 𝒱₀ (VT d L) none) Set.univ (kk >>= k) Q)
        -∗ wp frame (wpE (defs₀ (F := F)) 𝒱₀ (VT d L) none) Set.univ
            ((if k1_h1 : k1_cond1 L = 1#1 then
              k1_part1 L tV (Memref.isWhole_whole _) pV (Memref.isWhole_whole _) cVm (Memref.isWhole_whole _) bVm (Memref.isWhole_whole _)
              sT (Memref.isWhole_whole _) sP (Memref.isWhole_whole _) sC (Memref.isWhole_whole _) sB (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12 v6 k1_h1 >>= fun _ =>
                Prog.lift (TpuEff.enqueueDma (pV.slice (Rect.unit (s := S56000) (k1_off2 L 42000#32) S16.size (k1_off2_inb L k1_h1 3)) (fun _ => rfl)) (.here (sP.slice (Rect.unit (s := S1792) ![1776] S16.size inb_S1792_S16_1776) (fun _ => rfl))) (.dma cc1_scoped8.sem) (View.wordExact_bits rfl) (View.wordExact_bits rfl) ⟨Or.inl rfl, trivial⟩) >>= fun _ =>
                Prog.lift (TpuEff.waitDma2 cc1_scoped8.sem (pV.slice (Rect.unit (s := S56000) (k1_off2 L 42000#32) S16.size (k1_off2_inb L k1_h1 3)) (fun _ => rfl)) (sP.slice (Rect.unit (s := S1792) ![1776] S16.size inb_S1792_S16_1776) (fun _ => rfl)) (View.wordExact_bits rfl) (View.wordExact_bits rfl)) >>= fun _ => kk
              else kk) >>= k) Q) := by
  iintro ⟨#Hmw, HP, HsP, H5, H6, H7, H8, HO⟩ Hk
  by_cases h : k1_cond1 L = 1#1
  · rw [dif_pos h]
    unfold k1_part1
    simp only [bind_assoc, pure_bind]
    iapply (wp_copyP d L (o := 432) (s := base L + 432) (n := 16) (by decide) rfl (off2_0 L)) $$ [HP HsP H5 HO]
    · isplitr; · iexact Hmw
      isplitl [HP]; · iexact HP
      isplitl [HsP]; · iexact HsP
      isplitl [H5]; · iexact H5
      iexact HO
    iintro ⟨HP, HsP, H5, HO⟩
    iapply (wp_copyP d L (o := 880) (s := 14000 + base L + 432) (n := 16) (by decide) rfl (off2_1 L)) $$ [HP HsP H6 HO]
    · isplitr; · iexact Hmw
      isplitl [HP]; · iexact HP
      isplitl [HsP]; · iexact HsP
      isplitl [H6]; · iexact H6
      iexact HO
    iintro ⟨HP, HsP, H6, HO⟩
    iapply (wp_copyP d L (o := 1328) (s := 28000 + base L + 432) (n := 16) (by decide) rfl (off2_2 L)) $$ [HP HsP H7 HO]
    · isplitr; · iexact Hmw
      isplitl [HP]; · iexact HP
      isplitl [HsP]; · iexact HsP
      isplitl [H7]; · iexact H7
      iexact HO
    iintro ⟨HP, HsP, H7, HO⟩
    iapply (wp_copyP d L (o := 1776) (s := 42000 + base L + 432) (n := 16) (by decide) rfl (off2_3 L)) $$ [HP HsP H8 HO]
    · isplitr; · iexact Hmw
      isplitl [HP]; · iexact HP
      isplitl [HsP]; · iexact HsP
      isplitl [H8]; · iexact H8
      iexact HO
    iintro ⟨HP, HsP, H8, HO⟩
    iapply Hk $$ %_ %(loaded_tail L P p0) HP HsP H5 H6 H7 H8 HO
  · rw [dif_neg h]
    iapply Hk $$ %_ %(loaded_head L (fun e => h ((cond1_iff L).mpr e)) P p0) HP HsP H5 H6 H7 H8 HO

/-- Once every group is done, the buffer holds the task's classes. -/
theorem tileC_at (T : Vec F S16x256 .f32) {P : Vec F S56000 .f32} {f7 : Vec F S1792 .f32} (h7 : Loaded L P f7) (c0 : IVec S448 32) {i : S14000.Idx} {m : ℕ}
    (hm : m < nPts L) (hi : (i 0).val = base L + m) : tileC T f7 c0 (nGrp L) (ix1 ⟨m % 448, Nat.mod_lt _ (by decide)⟩) = CLS T P i := by
  have hle := nGrp_le L
  have hm' : m < 16 * nGrp L := hm
  have e : m % 448 = m := Nat.mod_eq_of_lt (by omega)
  have hr : ∀ r, r < 4 → pw f7 r m = gw P r (i 0).val := fun r hr => by rw [hi]; exact h7 r m hr hm
  show (if m % 448 < 16 * nGrp L then clsOf (fh T (pw f7 1 (m % 448)) (pw f7 2 (m % 448)) (pw f7 3 (m % 448)) (pw f7 0 (m % 448)))
      (ea T (pw f7 1 (m % 448)) (pw f7 2 (m % 448)) (pw f7 3 (m % 448)) (pw f7 0 (m % 448))) else _) = _
  rw [if_pos (by omega), e, hr 0 (by decide), hr 1 (by decide), hr 2 (by decide), hr 3 (by decide)]
  rfl

/-- And its boxes. -/
theorem tileB_at (T : Vec F S16x256 .f32) {P : Vec F S56000 .f32} {f7 : Vec F S1792 .f32} (h7 : Loaded L P f7) (b0 : Vec F S448x8 .f32) {i : S14000x8.Idx} {m : ℕ}
    (hm : m < nPts L) (hi : (i 0).val = base L + m) : tileB T f7 b0 (nGrp L) (ix2 ⟨m % 448, Nat.mod_lt _ (by decide)⟩ (i 1)) = BOX T P i := by
  have hle := nGrp_le L
  have hm' : m < 16 * nGrp L := hm
  have e : m % 448 = m := Nat.mod_eq_of_lt (by omega)
  have hr : ∀ r, r < 4 → pw f7 r m = gw P r (i 0).val := fun r hr => by rw [hi]; exact h7 r m hr hm
  show (if m % 448 < 16 * nGrp L then boxOf T (pw f7 1 (m % 448)) (pw f7 2 (m % 448)) (pw f7 3 (m % 448))
      (fh T (pw f7 1 (m % 448)) (pw f7 2 (m % 448)) (pw f7 3 (m % 448)) (pw f7 0 (m % 448))) (i 1) else _) = _
  rw [if_pos (by omega), e, hr 0 (by decide), hr 1 (by decide), hr 2 (by decide), hr 3 (by decide)]
  rfl

theorem putCls_whole (T : Vec F S16x256 .f32) {P : Vec F S56000 .f32} {f7 : Vec F S1792 .f32} (h7 : Loaded L P f7) (c0 : IVec S448 32) (f : IVec S14000 32) {s o n : ℕ}
    (hs : s = base L + o) (hn : o + n ≤ nPts L) (i : S14000.Idx) :
    putCls f (tileC T f7 c0 (nGrp L)) s o n i = if s ≤ (i 0).val ∧ (i 0).val < s + n then CLS T P i else f i := by
  unfold putCls
  split
  · exact tileC_at L T h7 c0 (by omega) (by omega)
  · rfl

theorem putBx_whole (T : Vec F S16x256 .f32) {P : Vec F S56000 .f32} {f7 : Vec F S1792 .f32} (h7 : Loaded L P f7) (b0 : Vec F S448x8 .f32) (f : Vec F S14000x8 .f32) {s o n : ℕ}
    (hs : s = base L + o) (hn : o + n ≤ nPts L) (i : S14000x8.Idx) :
    putBx f (tileB T f7 b0 (nGrp L)) s o n i = if s ≤ (i 0).val ∧ (i 0).val < s + n then BOX T P i else f i := by
  unfold putBx
  split
  · exact tileB_at L T h7 b0 (by omega) (by omega)
  · rfl

/-- The thirteen cells a task's copies count on, at zero. -/
abbrev cells0 : sProp 𝕄 :=
  iprop(semVal (VT d L, SemLoc.dma cc1_scoped0.sem) 0 ∗ semVal (VT d L, SemLoc.dma cc1_scoped1.sem) 0 ∗ semVal (VT d L, SemLoc.dma cc1_scoped2.sem) 0
    ∗ semVal (VT d L, SemLoc.dma cc1_scoped3.sem) 0 ∗ semVal (VT d L, SemLoc.dma cc1_scoped4.sem) 0 ∗ semVal (VT d L, SemLoc.dma cc1_scoped5.sem) 0
    ∗ semVal (VT d L, SemLoc.dma cc1_scoped6.sem) 0 ∗ semVal (VT d L, SemLoc.dma cc1_scoped7.sem) 0 ∗ semVal (VT d L, SemLoc.dma cc1_scoped8.sem) 0
    ∗ semVal (VT d L, SemLoc.dma cc1_scoped9.sem) 0 ∗ semVal (VT d L, SemLoc.dma cc1_scoped10.sem) 0 ∗ semVal (VT d L, SemLoc.dma cc1_scoped11.sem) 0
    ∗ semVal (VT d L, SemLoc.dma cc1_scoped12.sem) 0)

set_option maxHeartbeats 2000000 in
theorem tile_run (O : CellTallies nD τ sig (HIx 1)) (W : Waits sig (HIx 1)) {qt qp : PosShare TreeShare}
    (T : Vec F S16x256 .f32) (P : Vec F S56000 .f32) (hP : PtsOK P) (fc : IVec S14000 32) (fb : Vec F S14000x8 .f32)
    (t0 : Vec F S16x256 .f32) (p0 : Vec F S1792 .f32) (c0 : IVec S448 32) (b0 : Vec F S448x8 .f32) :
    (iprop(Transfers.MayWaits (VT d L) (default : HIx 1) O
        ∗ ((tV).view.loc (VT d L) ↦{qt} T) ∗ ((pV).view.loc (VT d L) ↦{qp} P)
        ∗ ((cVm).view.loc (VT d L) ↦[setC L]{fullShare} fc) ∗ ((bVm).view.loc (VT d L) ↦[setB L]{fullShare} fb)
        ∗ ((sT).view.loc (VT d L) ↦{fullShare} t0) ∗ ((sP).view.loc (VT d L) ↦{fullShare} p0)
        ∗ ((sC).view.loc (VT d L) ↦{fullShare} c0) ∗ ((sB).view.loc (VT d L) ↦{fullShare} b0)
        ∗ cells0 d L ∗ owesUp d L O W) : sProp 𝕄)
      ⊢ wp frame (wpE (defs₀ (F := F)) 𝒱₀ (VT d L) none) Set.univ
          (cc1__sc_body L tV (Memref.isWhole_whole _) pV (Memref.isWhole_whole _) cVm (Memref.isWhole_whole _) bVm (Memref.isWhole_whole _)
              sT (Memref.isWhole_whole _) sP (Memref.isWhole_whole _) sC (Memref.isWhole_whole _) sB (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12)
          fun _ => iprop(((tV).view.loc (VT d L) ↦{qt} T) ∗ ((pV).view.loc (VT d L) ↦{qp} P)
            ∗ ((cVm).view.loc (VT d L) ↦[setC L]{fullShare} CLS T P) ∗ ((bVm).view.loc (VT d L) ↦[setB L]{fullShare} BOX T P)
            ∗ (∃ f, (sT).view.loc (VT d L) ↦{fullShare} f) ∗ (∃ f, (sP).view.loc (VT d L) ↦{fullShare} f)
            ∗ (∃ f, (sC).view.loc (VT d L) ↦{fullShare} f) ∗ (∃ f, (sB).view.loc (VT d L) ↦{fullShare} f)
            ∗ cells0 d L ∗ owesUp d L O W) := by
  iintro ⟨#Hmw, HT, HP, HC, HB, HsT, HsP, HsC, HsB, ⟨H0, H1, H2, H3, H4, H5, H6, H7, H8, H9, H10, H11, H12⟩, HO⟩
  unfold cc1__sc_body k1_part10 k1_part11
  simp only [bind_assoc, pure_bind]
  iapply (wp_copyT d L) $$ [HT HsT H0 HO]
  · isplitr; · iexact Hmw
    isplitl [HT]; · iexact HT
    isplitl [HsT]; · iexact HsT
    isplitl [H0]; · iexact H0
    iexact HO
  iintro ⟨HT, HsT, H0, HO⟩
  iapply (wp_copyP d L (o := 0) (s := base L) (n := 432) (by decide) rfl (off1_0 L)) $$ [HP HsP H1 HO]
  · isplitr; · iexact Hmw
    isplitl [HP]; · iexact HP
    isplitl [HsP]; · iexact HsP
    isplitl [H1]; · iexact H1
    iexact HO
  iintro ⟨HP, HsP, H1, HO⟩
  iapply (wp_copyP d L (o := 448) (s := 14000 + base L) (n := 432) (by decide) rfl (off1_1 L)) $$ [HP HsP H2 HO]
  · isplitr; · iexact Hmw
    isplitl [HP]; · iexact HP
    isplitl [HsP]; · iexact HsP
    isplitl [H2]; · iexact H2
    iexact HO
  iintro ⟨HP, HsP, H2, HO⟩
  iapply (wp_copyP d L (o := 896) (s := 28000 + base L) (n := 432) (by decide) rfl (off1_2 L)) $$ [HP HsP H3 HO]
  · isplitr; · iexact Hmw
    isplitl [HP]; · iexact HP
    isplitl [HsP]; · iexact HsP
    isplitl [H3]; · iexact H3
    iexact HO
  iintro ⟨HP, HsP, H3, HO⟩
  iapply (wp_copyP d L (o := 1344) (s := 42000 + base L) (n := 432) (by decide) rfl (off1_3 L)) $$ [HP HsP H4 HO]
  · isplitr; · iexact Hmw
    isplitl [HP]; · iexact HP
    isplitl [HsP]; · iexact HsP
    isplitl [H4]; · iexact H4
    iexact HO
  iintro ⟨HP, HsP, H4, HO⟩
  iapply (wp_tail d L O W P p0) $$ [HP HsP H5 H6 H7 H8 HO]
  · isplitr; · iexact Hmw
    isplitl [HP]; · iexact HP
    isplitl [HsP]; · iexact HsP
    isplitl [H5]; · iexact H5
    isplitl [H6]; · iexact H6
    isplitl [H7]; · iexact H7
    isplitl [H8]; · iexact H8
    iexact HO
  iintro %f7 %h7 HP HsP H5 H6 H7 H8 HO
  simp only [bind_assoc, pure_bind]
  sl_for (fun n acc => iprop(((sT).view.loc (VT d L) ↦{fullShare} T) ∗ ((sP).view.loc (VT d L) ↦{fullShare} f7)
        ∗ ((sC).view.loc (VT d L) ↦{fullShare} tileC T f7 c0 n) ∗ ((sB).view.loc (VT d L) ↦{fullShare} tileB T f7 b0 n))) $$ [HsT HsP HsC HsB]
  case region =>
    intro t acc
    have htn : t.val < nGrp L := lt_of_lt_of_eq t.isLt (trips1 L)
    have ht28 : t.val < 28 := lt_of_lt_of_le htn (nGrp_le L)
    iintro ⟨HsT, HsP, HsC, HsB⟩
    iapply (wp_part4 d L t f7 (tileC T f7 c0 t.val) T _ _ _ _ rfl rfl rfl rfl (group_ok L hP h7 htn)) $$ [HsT HsP HsC]
    · isplitl [HsT]; · iexact HsT
      isplitl [HsP]; · iexact HsP
      iexact HsC
    iintro ⟨HsT, HsP, HsC⟩
    have hw := iv_toNat ht28
    have ho : 16 * t.val + 16 ≤ 448 := by omega
    have hs := safes_lt T (sl16 f7 (448 + 16 * t.val)) (sl16 f7 (896 + 16 * t.val)) (sl16 f7 (1344 + 16 * t.val)) (sl16 f7 (16 * t.val))
    iapply (wp_part5 d L hw ho T (sl16 f7 (448 + 16 * t.val)) (sl16 f7 (896 + 16 * t.val)) (sl16 f7 (1344 + 16 * t.val)) (sl16 f7 (16 * t.val))) $$ [HsT HsB]
    · isplitl [HsT]; · iexact HsT
      iexact HsB
    iintro ⟨HsT, HsB⟩
    iapply (wp_check (thr := VT d L) (chkL 12 hs))
    iapply (wp_gatherL d L 12 rfl) $$ HsT
    iintro HsT
    iapply (wp_check (thr := VT d L) (chkS hw ho 4))
    iapply (wp_scatter d L 4 hw ho rfl) $$ HsB
    iintro HsB
    iapply (wp_check (thr := VT d L) (chkL 13 hs))
    iapply (wp_gatherL d L 13 rfl) $$ HsT
    iintro HsT
    iapply (wp_check (thr := VT d L) (chkS hw ho 5))
    iapply (wp_scatter d L 5 hw ho rfl) $$ HsB
    iintro HsB
    iapply (wp_check (thr := VT d L) (chkL 3 hs))
    iapply (wp_gatherL d L 3 rfl) $$ HsT
    iintro HsT
    iapply (wp_check (thr := VT d L) (chkS hw ho 6))
    iapply (wp_scatter d L 6 hw ho rfl) $$ HsB
    iintro HsB
    iapply (wp_check (thr := VT d L) (chkL 4 hs))
    iapply (wp_gatherL d L 4 rfl) $$ HsT
    iintro HsT
    iapply (wp_check (thr := VT d L) (chkS hw ho 7))
    iapply (wp_scatter d L 7 hw ho rfl) $$ HsB
    iintro HsB
    rw [wp_pure]
    imodintro
    isplitl [HsT]; · iexact HsT
    isplitl [HsP]; · iexact HsP
    rw [← tileC_succ, ← tileB_succ]
    isplitl [HsC]; · iexact HsC
    iexact HsB
  · rw [tileC_zero, tileB_zero]
    isplitl [HsT]; · iexact HsT
    isplitl [HsP]; · iexact HsP
    isplitl [HsC]; · iexact HsC
    iexact HsB
  iintro %acc ⟨HsT, HsP, HsC, HsB⟩
  unfold tile_run.sl.prog.cont_1
  rw [for_none (trips6 L)]
  simp only [bind_assoc, pure_bind]
  iapply (wp_copyC d L (o := 0) (s := base L) (n := 432) (by decide) (off9 L) rfl (le_refl _) (by have := nGrp_ge L; unfold nPts; omega)) $$ [HsC HC H9 HO]
  · isplitr; · iexact Hmw
    isplitl [HsC]; · iexact HsC
    isplitl [HC]; · iexact HC
    isplitl [H9]; · iexact H9
    iexact HO
  iintro ⟨HsC, HC, H9, HO⟩
  iapply (wp_copyB d L (o := 0) (s := base L) (n := 432) (by decide) (off10 L) rfl (le_refl _) (by have := nGrp_ge L; unfold nPts; omega)) $$ [HsB HB H10 HO]
  · isplitr; · iexact Hmw
    isplitl [HsB]; · iexact HsB
    isplitl [HB]; · iexact HB
    isplitl [H10]; · iexact H10
    iexact HO
  iintro ⟨HsB, HB, H10, HO⟩
  by_cases h28 : nGrp L = 28
  · rw [dif_pos ((cond2_iff L).mpr h28)]
    simp only [bind_assoc, pure_bind]
    have hN : nPts L = 448 := by unfold nPts; omega
    iapply (wp_copyC d L (o := 432) (s := base L + 432) (n := 16) (by decide) (off11 L) rfl (by omega) (by omega)) $$ [HsC HC H11 HO]
    · isplitr; · iexact Hmw
      isplitl [HsC]; · iexact HsC
      isplitl [HC]; · iexact HC
      isplitl [H11]; · iexact H11
      iexact HO
    iintro ⟨HsC, HC, H11, HO⟩
    iapply (wp_copyB d L (o := 432) (s := base L + 432) (n := 16) (by decide) (off12 L) rfl (by omega) (by omega)) $$ [HsB HB H12 HO]
    · isplitr; · iexact Hmw
      isplitl [HsB]; · iexact HsB
      isplitl [HB]; · iexact HB
      isplitl [H12]; · iexact H12
      iexact HO
    iintro ⟨HsB, HB, H12, HO⟩
    rw [show Scf.trips (0#32) _ (1#32) = nGrp L from trips1 L]
    have hCe : ∀ i ∈ setC L, putCls (putCls fc (tileC T f7 c0 (nGrp L)) (base L) 0 432) (tileC T f7 c0 (nGrp L)) (base L + 432) 432 16 i = CLS T P i := fun i hi => by
      have hi := (Finset.mem_filter.mp hi).2
      rw [putCls_whole L T h7 c0 _ rfl (by omega), putCls_whole L T h7 c0 _ (s := base L) (o := 0) rfl (by omega)]
      split; · rfl
      split; · rfl
      · omega
    have hBe : ∀ i ∈ setB L, putBx (putBx fb (tileB T f7 b0 (nGrp L)) (base L) 0 432) (tileB T f7 b0 (nGrp L)) (base L + 432) 432 16 i = BOX T P i := fun i hi => by
      have hi := (Finset.mem_filter.mp hi).2
      rw [putBx_whole L T h7 b0 _ rfl (by omega), putBx_whole L T h7 b0 _ (s := base L) (o := 0) rfl (by omega)]
      split; · rfl
      split; · rfl
      · omega
    rw [wp_pure]
    imodintro
    isplitl [HT]; · iexact HT
    isplitl [HP]; · iexact HP
    isplitl [HC]; · iapply (Entails.of_eq (pointsTo_congr hCe)); iexact HC
    isplitl [HB]; · iapply (Entails.of_eq (pointsTo_congr hBe)); iexact HB
    isplitl [HsT]; · iexists _; iexact HsT
    isplitl [HsP]; · iexists _; iexact HsP
    isplitl [HsC]; · iexists _; iexact HsC
    isplitl [HsB]; · iexists _; iexact HsB
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact HO
  · rw [dif_neg (fun e => h28 ((cond2_iff L).mp e))]
    have hN : nPts L = 432 := by have := nGrp_le L; have := nGrp_ge L; unfold nPts; omega
    rw [show Scf.trips (0#32) _ (1#32) = nGrp L from trips1 L]
    have hCe : ∀ i ∈ setC L, putCls fc (tileC T f7 c0 (nGrp L)) (base L) 0 432 i = CLS T P i := fun i hi => by
      have hi := (Finset.mem_filter.mp hi).2
      rw [putCls_whole L T h7 c0 _ (s := base L) (o := 0) rfl (by omega)]
      split; · rfl
      · omega
    have hBe : ∀ i ∈ setB L, putBx fb (tileB T f7 b0 (nGrp L)) (base L) 0 432 i = BOX T P i := fun i hi => by
      have hi := (Finset.mem_filter.mp hi).2
      rw [putBx_whole L T h7 b0 _ (s := base L) (o := 0) rfl (by omega)]
      split; · rfl
      · omega
    rw [wp_pure]
    imodintro
    isplitl [HT]; · iexact HT
    isplitl [HP]; · iexact HP
    isplitl [HC]; · iapply (Entails.of_eq (pointsTo_congr hCe)); iexact HC
    isplitl [HB]; · iapply (Entails.of_eq (pointsTo_congr hBe)); iexact HB
    isplitl [HsT]; · iexists _; iexact HsT
    isplitl [HsP]; · iexists _; iexact HsP
    isplitl [HsC]; · iexists _; iexact HsC
    isplitl [HsB]; · iexists _; iexact HsB
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact HO

end Cert.KernelIdeal.Enc
-- ==== Proof.Launch.lean ====
/-
  What the handshakes of the SparseCore call carry, and its tasks under them: each tile takes a share of the table and
  of the points and its own rows of the two results, and brings the shares back, and the rows at the classes and boxes it computed.
-/
module

public import proofs.«01_k».proof.Proof.TileRun

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The arrays of the call -/

abbrev tLoc (d : Dev nD) : Loc nD τ sig := (SparseCore.T d).loc main_v4
abbrev pLoc (d : Dev nD) : Loc nD τ sig := (SparseCore.T d).loc main_v7
abbrev cLoc (d : Dev nD) : Loc nD τ sig := (SparseCore.T d).loc main_v8_0
abbrev bLoc (d : Dev nD) : Loc nD τ sig := (SparseCore.T d).loc main_v8_1

/-- The task of subcore `i` on SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_eta (L : grid1.Coords) : coordsV (L 0) (L 1) = L := by
  funext a
  match a with
  | 0 => rfl
  | 1 => rfl

abbrev tile (c : Fin 2) (i : Fin 16) : grid1.Coords := coordsV c i

/-- The read share of a SparseCore, and of a tile. -/
abbrev coreQ (c : Fin 2) : PosShare TreeShare := Transfers.shareTok fullShare 2 c
abbrev tileQ (c : Fin 2) (i : Fin 16) : PosShare TreeShare := Transfers.shareTok (coreQ c) 16 i

variable (Tb : Dev nD → Vec F S16x256 .f32) (Pt : Dev nD → Vec F S56000 .f32) (C0 : Dev nD → IVec S14000 32) (B0 : Dev nD → Vec F S14000x8 .f32)

/-- What tile `i` of SparseCore `c` takes, and what it brings back. -/
abbrev goT (d : Dev nD) (c : Fin 2) (i : Fin 16) : sProp 𝕄 :=
  iprop((tLoc d ↦{tileQ c i} Tb d) ∗ (pLoc d ↦{tileQ c i} Pt d) ∗ (cLoc d ↦[setC (tile c i)]{fullShare} C0 d) ∗ (bLoc d ↦[setB (tile c i)]{fullShare} B0 d))
abbrev tdT (d : Dev nD) (c : Fin 2) (i : Fin 16) : sProp 𝕄 :=
  iprop((tLoc d ↦{tileQ c i} Tb d) ∗ (pLoc d ↦{tileQ c i} Pt d) ∗ (cLoc d ↦[setC (tile c i)]{fullShare} CLS (Tb d) (Pt d)) ∗ (bLoc d ↦[setB (tile c i)]{fullShare} BOX (Tb d) (Pt d)))

/-- The payloads: a SparseCore's are its tiles'. -/
def P : (K (F := F)).Pay (nD := nD) (Val := Elt F) (Name := ℕ) (U := UU) where
  st := fun q d c => match q with | 0 => bigSep Finset.univ fun i : Fin 16 => goT Tb Pt C0 B0 d c i
  dn := fun q d c => match q with | 0 => bigSep Finset.univ fun i : Fin 16 => tdT Tb Pt d c i
  go := fun q d c i => match q with | 0 => goT Tb Pt C0 B0 d c i
  td := fun q d c i => match q with | 0 => tdT Tb Pt d c i
  x := fun _ _ => iprop(emp)

instance P_storable : (P Tb Pt C0 B0).IsStorable where
  st q d c := match q with
    | 0 => (inferInstance : BI.Storable (upEmb : UEmb _ 𝕄) (bigSep Finset.univ fun i : Fin 16 => goT Tb Pt C0 B0 d c i))
  dn q d c := match q with
    | 0 => (inferInstance : BI.Storable (upEmb : UEmb _ 𝕄) (bigSep Finset.univ fun i : Fin 16 => tdT Tb Pt d c i))
  go q d c i := match q with
    | 0 => (inferInstance : BI.Storable (upEmb : UEmb _ 𝕄) (goT Tb Pt C0 B0 d c i))
  td q d c i := match q with
    | 0 => (inferInstance : BI.Storable (upEmb : UEmb _ 𝕄) (tdT Tb Pt d c i))

theorem vecSplit : (K (F := F)).VecSplit' (P Tb Pt C0 B0) 0 := by
  intro d c
  show (bigSep Finset.univ fun i : Fin 16 => goT Tb Pt C0 B0 d c i) ⊢ |={Set.univ}=> iprop(
      (bigSep Finset.univ fun i : Fin 16 => goT Tb Pt C0 B0 d c i)
      ∗ ((bigSep Finset.univ fun i : Fin 16 => tdT Tb Pt d c i) -∗ (bigSep Finset.univ fun i : Fin 16 => tdT Tb Pt d c i)))
  iintro H; imodintro
  isplitl [H]; · iexact H
  iintro H; iexact H

/-! ## The tile's own cells and buffers -/

section Tile

variable (d : Dev nD) (L : grid1.Coords)

/-- The cells a task's copies count on. -/
abbrev dcell (c : Fin τ.nSC) (i : Fin τ.nSub) (k : Fin 13) : GSem nD τ sig := (V d c i, .dma ⟨3 + k.val, by have := k.isLt; show 3 + k.val < 24; omega⟩)

theorem dcell_mem (c : Fin τ.nSC) (i : Fin τ.nSub) (k : Fin 13) : dcell d c i k ∈ ownCells (V d c i) :=
  mem_ownCells.mpr ⟨rfl, (show ∀ k : Fin 13, (SemLoc.dma (⟨3 + k.val, by have := k.isLt; show 3 + k.val < 24; omega⟩ : DmaSem sig) : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 13)) = {0, 1, 2, 3, 4, 5, 6, 7, 8, 9, 10, 11, 12} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The four scratches are among the tile's own buffers. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨hne (show (cc1_scratch2 : Ref sig .scVector) ≠ cc1_scratch1 by decide),
      Finset.mem_erase.mpr ⟨hne (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨hne (show (cc1_scratch3 : Ref sig .scVector) ≠ cc1_scratch2 by decide),
      Finset.mem_erase.mpr ⟨hne (show (cc1_scratch3 : Ref sig .scVector) ≠ cc1_scratch1 by decide),
      Finset.mem_erase.mpr ⟨hne (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩)]

/-- The task from what the launch deals it to what it hands back. -/
theorem tile_body (hF : (K (F := F)).Facts) (hP : PtsOK (Pt d)) (q : PosShare TreeShare) (O : CellTallies nD τ sig (HIx 1)) (W : Waits sig (HIx 1)) (hO : ∀ g, O g none = 0) :
    (iprop(levAts (K (F := F)).L (K (F := F)).lev ∗ emp
        ∗ ((tLoc d ↦{q} Tb d) ∗ (pLoc d ↦{q} Pt d) ∗ (cLoc d ↦[setC L]{fullShare} C0 d) ∗ (bLoc d ↦[setB L]{fullShare} B0 d))
        ∗ scopedBufs (VT d L) ∗ scopedSems0 (VT d L) ∗ owes (VT d L) O W) : sProp 𝕄)
      ⊢ wp frame (wpE (defs₀ (F := F)) 𝒱₀ (VT d L) none) Set.univ
          (cc1__sc_body L tV (Memref.isWhole_whole _) pV (Memref.isWhole_whole _) cVm (Memref.isWhole_whole _) bVm (Memref.isWhole_whole _)
              sT (Memref.isWhole_whole _) sP (Memref.isWhole_whole _) sC (Memref.isWhole_whole _) sB (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12)
          fun _ => iprop(((tLoc d ↦{q} Tb d) ∗ (pLoc d ↦{q} Pt d) ∗ (cLoc d ↦[setC L]{fullShare} CLS (Tb d) (Pt d)) ∗ (bLoc d ↦[setB L]{fullShare} BOX (Tb d) (Pt d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Ht, Hp, Hc, Hb⟩, ⟨⟨%t0, HsT⟩, ⟨%p0, HsP⟩, ⟨%c0, HsC⟩, ⟨%b0, HsB⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Ht Hp Hc Hb HsT HsP HsC HsB HC HO]
  · iapply (tile_run d L O W (Tb d) (Pt d) hP (C0 d) (B0 d) t0 p0 c0 b0)
    isplitr; · iexact Hmw
    isplitl [Ht]; · iexact Ht
    isplitl [Hp]; · iexact Hp
    isplitl [Hc]; · iexact Hc
    isplitl [Hb]; · iexact Hb
    isplitl [HsT]; · iexact HsT
    isplitl [HsP]; · iexact HsP
    isplitl [HsC]; · iexact HsC
    isplitl [HsB]; · iexact HsB
    isplitl [HC]; · iexact HC
    unfold owesUp
    iexists W; isplitr
    · ipureintro; exact fun p h => .inl h
    iexact HO
  unfold owesUp
  iintro %_ ⟨Ht, Hp, Hc, Hb, HsT, HsP, HsC, HsB, HC, ⟨%W', %_, HO⟩⟩
  isplitl [Ht Hp Hc Hb]
  · isplitl [Ht]; · iexact Ht
    isplitl [Hp]; · iexact Hp
    isplitl [Hc]; · iexact Hc
    iexact Hb
  isplitl [HsT HsP HsC HsB Hbufs]
  · isplitl [HsT]; · iexact HsT
    isplitl [HsP]; · iexact HsP
    isplitl [HsC]; · iexact HsC
    isplitl [HsB]; · iexact HsB
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 1 ()
      = SparseCore.onTile hcore1 hsub1 (fun c s => cc1__sc_body (coordsV c s)
          tV (Memref.isWhole_whole _) pV (Memref.isWhole_whole _) cVm (Memref.isWhole_whole _) bVm (Memref.isWhole_whole _)
              sT (Memref.isWhole_whole _) sP (Memref.isWhole_whole _) sC (Memref.isWhole_whole _) sB (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12) ⟨⟩ c s := rfl

theorem tileObl (hF : (K (F := F)).Facts) (hP : ∀ d, PtsOK (Pt d)) : (K (F := F)).TileObl (D (F := F)) 𝒱 (P Tb Pt C0 B0) v₀ 0 := by
  intro d c i O W hO _ _
  simp only [show (P Tb Pt C0 B0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Tb Pt C0 B0 d (coordsV ⟨_, hci.1⟩ ⟨_, hci.2⟩) hF (hP d) (tileQ c i) O W hO

end Tile

end Cert.KernelIdeal.Enc
-- ==== Proof.Split.lean ====
/-
  The arrays of the SparseCore call dealt over its 32 tasks, and put together again.
-/
module

public import proofs.«01_k».proof.Proof.Launch

@[expose] public section

noncomputable section

namespace Cert.KernelIdeal.Enc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One share for every tile, and what is left over. -/
def keepT (ℓ : Loc nD τ sig) (f : Buf (Elt F) ℓ) : sProp 𝕄 :=
  iprop((ℓ ↦{Transfers.shareDrop fullShare 2} f) ∗ bigSep Finset.univ fun c : Fin 2 => ℓ ↦{Transfers.shareDrop (coreQ c) 16} f)

theorem deal (ℓ : Loc nD τ sig) (f : Buf (Elt F) ℓ) :
    (ℓ ↦{fullShare} f : sProp 𝕄) ⊢ iprop(keepT ℓ f ∗ bigSep Finset.univ fun c : Fin 2 => bigSep Finset.univ fun i : Fin 16 => ℓ ↦{tileQ c i} f) := by
  have h : (bigSep Finset.univ fun c : Fin 2 => (ℓ ↦{coreQ c} f : sProp 𝕄))
      ⊢ iprop((bigSep Finset.univ fun c : Fin 2 => ℓ ↦{Transfers.shareDrop (coreQ c) 16} f) ∗ bigSep Finset.univ fun c : Fin 2 => bigSep Finset.univ fun i : Fin 16 => ℓ ↦{tileQ c i} f) := by
    rw [← bigSep_sep']; exact bigSep_mono fun c _ => (Transfers.pointsTo_toks (coreQ c) 16).1
  iintro H
  ihave H := ((Transfers.pointsTo_toks fullShare 2).1) $$ H
  icases H with ⟨Hk, Hs⟩
  ihave Hs := h $$ Hs
  icases Hs with ⟨Hks, Hs⟩
  unfold keepT
  isplitl [Hk Hks]; · isplitl [Hk] <;> iassumption
  iexact Hs

theorem undeal (ℓ : Loc nD τ sig) (f : Buf (Elt F) ℓ) :
    iprop(keepT ℓ f ∗ bigSep Finset.univ fun c : Fin 2 => bigSep Finset.univ fun i : Fin 16 => ℓ ↦{tileQ c i} f) ⊢ (ℓ ↦{fullShare} f : sProp 𝕄) := by
  have h : iprop((bigSep Finset.univ fun c : Fin 2 => ℓ ↦{Transfers.shareDrop (coreQ c) 16} f) ∗ bigSep Finset.univ fun c : Fin 2 => bigSep Finset.univ fun i : Fin 16 => ℓ ↦{tileQ c i} f)
      ⊢ (bigSep Finset.univ fun c : Fin 2 => (ℓ ↦{coreQ c} f : sProp 𝕄)) := by
    rw [← bigSep_sep']; exact bigSep_mono fun c _ => (Transfers.pointsTo_toks (coreQ c) 16).2
  unfold keepT
  iintro ⟨⟨Hk, Hks⟩, Hs⟩
  iapply ((Transfers.pointsTo_toks fullShare 2).2)
  isplitl [Hk]; · iexact Hk
  iapply h
  isplitl [Hks] <;> iassumption

/-! ## The rows of the tasks -/

theorem mem_setC (c : Fin 2) (i : Fin 16) (j : S14000.Idx) : j ∈ setC (tile c i) ↔ base (tile c i) ≤ (j 0).val ∧ (j 0).val < base (tile c i) + nPts (tile c i) := by
  unfold setC; simp
theorem mem_setB (c : Fin 2) (i : Fin 16) (j : S14000x8.Idx) : j ∈ setB (tile c i) ↔ base (tile c i) ≤ (j 0).val ∧ (j 0).val < base (tile c i) + nPts (tile c i) := by
  unfold setB; simp

/-- Different tasks' rows are apart, and each of the 14000 rows is some task's. -/
theorem rows_disj : ∀ p q : Fin 2 × Fin 16, p ≠ q → base (tile p.1 p.2) + nPts (tile p.1 p.2) ≤ base (tile q.1 q.2) ∨ base (tile q.1 q.2) + nPts (tile q.1 q.2) ≤ base (tile p.1 p.2) := by
  decide +kernel
theorem rows_cover (m : ℕ) (hm : m < 14000) : ∃ p : Fin 2 × Fin 16, base (tile p.1 p.2) ≤ m ∧ m < base (tile p.1 p.2) + nPts (tile p.1 p.2) := by
  have h : ∀ b : Fin 875, ∃ p : Fin 2 × Fin 16, base (tile p.1 p.2) ≤ 16 * b.val ∧ 16 * b.val + 16 ≤ base (tile p.1 p.2) + nPts (tile p.1 p.2) := by decide +kernel
  obtain ⟨p, h1, h2⟩ := h ⟨m / 16, by omega⟩
  refine ⟨p, ?_, ?_⟩ <;> simp only at h1 h2 <;> omega

theorem biUnion_setC : (Finset.univ.biUnion fun p : Fin 2 × Fin 16 => setC (tile p.1 p.2)) = Finset.univ := by
  ext j; simp only [Finset.mem_biUnion, Finset.mem_univ, true_and, iff_true]
  obtain ⟨p, hp⟩ := rows_cover (j 0).val (j 0).isLt
  exact ⟨p, (mem_setC _ _ _).mpr hp⟩
theorem biUnion_setB : (Finset.univ.biUnion fun p : Fin 2 × Fin 16 => setB (tile p.1 p.2)) = Finset.univ := by
  ext j; simp only [Finset.mem_biUnion, Finset.mem_univ, true_and, iff_true]
  obtain ⟨p, hp⟩ := rows_cover (j 0).val (j 0).isLt
  exact ⟨p, (mem_setB _ _ _).mpr hp⟩

theorem deal_c (d : Dev nD) (f : Buf (Elt F) (cLoc d)) :
    (cLoc d ↦{fullShare} f : sProp 𝕄) = bigSep Finset.univ fun c : Fin 2 => bigSep Finset.univ fun i : Fin 16 => cLoc d ↦[setC (tile c i)]{fullShare} f := by
  rw [← BI.bigSep_univ_prod (fun p : Fin 2 × Fin 16 => (cLoc d ↦[setC (tile p.1 p.2)]{fullShare} f : sProp 𝕄))]
  refine Eq.trans ?_ (pointsTo_biUnion (ℓ := cLoc d) (q := fullShare) (f := f) Finset.univ (fun p : Fin 2 × Fin 16 => setC (tile p.1 p.2)) (fun p _ q _ hpq => by
      rw [Finset.disjoint_left]; intro j hj hj'
      have h1 := (mem_setC _ _ _).mp hj; have h2 := (mem_setC _ _ _).mp hj'
      rcases rows_disj p q hpq with h | h <;> omega))
  exact congrArg (fun I => (cLoc d ↦[I]{fullShare} f : sProp 𝕄)) biUnion_setC.symm
theorem deal_b (d : Dev nD) (f : Buf (Elt F) (bLoc d)) :
    (bLoc d ↦{fullShare} f : sProp 𝕄) = bigSep Finset.univ fun c : Fin 2 => bigSep Finset.univ fun i : Fin 16 => bLoc d ↦[setB (tile c i)]{fullShare} f := by
  rw [← BI.bigSep_univ_prod (fun p : Fin 2 × Fin 16 => (bLoc d ↦[setB (tile p.1 p.2)]{fullShare} f : sProp 𝕄))]
  refine Eq.trans ?_ (pointsTo_biUnion (ℓ := bLoc d) (q := fullShare) (f := f) Finset.univ (fun p : Fin 2 × Fin 16 => setB (tile p.1 p.2)) (fun p _ q _ hpq => by
      rw [Finset.disjoint_left]; intro j hj hj'
      have h1 := (mem_setB _ _ _).mp hj; have h2 := (mem_setB _ _ _).mp hj'
      rcases rows_disj p q hpq with h | h <;> omega))
  exact congrArg (fun I => (bLoc d ↦[I]{fullShare} f : sProp 𝕄)) biUnion_setB.symm

/-! ## The call's payloads from the four arrays, and back -/

variable (Tb : Dev nD → Vec F S16x256 .f32) (Pt : Dev nD → Vec F S56000 .f32) (C0 : Dev nD → IVec S14000 32) (B0 : Dev nD → Vec F S14000x8 .f32)

theorem st_of (d : Dev nD) :
    iprop((tLoc d ↦{fullShare} Tb d) ∗ (pLoc d ↦{fullShare} Pt d) ∗ (cLoc d ↦{fullShare} C0 d) ∗ (bLoc d ↦{fullShare} B0 d))
      ⊢ iprop((keepT (tLoc d) (Tb d) ∗ keepT (pLoc d) (Pt d)) ∗ bigSep Finset.univ fun c : Fin ((K (F := F)).nCore 0) => (P Tb Pt C0 B0).st 0 d c) := by
  have e : (bigSep Finset.univ fun c : Fin ((K (F := F)).nCore 0) => (P Tb Pt C0 B0).st 0 d c)
      = iprop((bigSep Finset.univ fun c : Fin 2 => bigSep Finset.univ fun i : Fin 16 => tLoc d ↦{tileQ c i} Tb d)
        ∗ (bigSep Finset.univ fun c : Fin 2 => bigSep Finset.univ fun i : Fin 16 => pLoc d ↦{tileQ c i} Pt d)
        ∗ (bigSep Finset.univ fun c : Fin 2 => bigSep Finset.univ fun i : Fin 16 => cLoc d ↦[setC (tile c i)]{fullShare} C0 d)
        ∗ (bigSep Finset.univ fun c : Fin 2 => bigSep Finset.univ fun i : Fin 16 => bLoc d ↦[setB (tile c i)]{fullShare} B0 d)) := by
    show (bigSep Finset.univ fun c : Fin 2 => bigSep Finset.univ fun i : Fin 16 => goT Tb Pt C0 B0 d c i) = _
    simp only [goT, bigSep_sep']
  rw [e]
  iintro ⟨Ht, Hp, Hc, Hb⟩
  ihave Ht := (deal (tLoc d) (Tb d)) $$ Ht
  ihave Hp := (deal (pLoc d) (Pt d)) $$ Hp
  ihave Hc := (Entails.of_eq (deal_c d (C0 d))) $$ Hc
  ihave Hb := (Entails.of_eq (deal_b d (B0 d))) $$ Hb
  icases Ht with ⟨Hkt, Ht⟩
  icases Hp with ⟨Hkp, Hp⟩
  isplitl [Hkt Hkp]; · isplitl [Hkt] <;> iassumption
  isplitl [Ht]; · iexact Ht
  isplitl [Hp]; · iexact Hp
  isplitl [Hc] <;> iassumption

theorem of_dn (d : Dev nD) :
    iprop((keepT (tLoc d) (Tb d) ∗ keepT (pLoc d) (Pt d)) ∗ bigSep Finset.univ fun c : Fin ((K (F := F)).nCore 0) => (P Tb Pt C0 B0).dn 0 d c)
      ⊢ iprop((tLoc d ↦{fullShare} Tb d) ∗ (pLoc d ↦{fullShare} Pt d) ∗ (cLoc d ↦{fullShare} CLS (Tb d) (Pt d)) ∗ (bLoc d ↦{fullShare} BOX (Tb d) (Pt d))) := by
  have e : (bigSep Finset.univ fun c : Fin ((K (F := F)).nCore 0) => (P Tb Pt C0 B0).dn 0 d c)
      = iprop((bigSep Finset.univ fun c : Fin 2 => bigSep Finset.univ fun i : Fin 16 => tLoc d ↦{tileQ c i} Tb d)
        ∗ (bigSep Finset.univ fun c : Fin 2 => bigSep Finset.univ fun i : Fin 16 => pLoc d ↦{tileQ c i} Pt d)
        ∗ (bigSep Finset.univ fun c : Fin 2 => bigSep Finset.univ fun i : Fin 16 => cLoc d ↦[setC (tile c i)]{fullShare} CLS (Tb d) (Pt d))
        ∗ (bigSep Finset.univ fun c : Fin 2 => bigSep Finset.univ fun i : Fin 16 => bLoc d ↦[setB (tile c i)]{fullShare} BOX (Tb d) (Pt d))) := by
    show (bigSep Finset.univ fun c : Fin 2 => bigSep Finset.univ fun i : Fin 16 => tdT Tb Pt d c i) = _
    simp only [tdT, bigSep_sep']
  rw [e]
  iintro ⟨⟨Hkt, Hkp⟩, Ht, Hp, Hc, Hb⟩
  isplitl [Hkt Ht]
  · iapply (undeal (tLoc d) (Tb d)); isplitl [Hkt] <;> iassumption
  isplitl [Hkp Hp]
  · iapply (undeal (pLoc d) (Pt d)); isplitl [Hkp] <;> iassumption
  isplitl [Hc]
  · iapply (Entails.of_eq (deal_c d (CLS (Tb d) (Pt d))).symm); iexact Hc
  iapply (Entails.of_eq (deal_b d (BOX (Tb d) (Pt d))).symm); iexact Hb

end Cert.KernelIdeal.Enc
-- ==== Proof.Enc0.lean ====
/-
  The encoding call on the TensorCore: the table one run of its body leaves in the result's staging buffer.
-/
module

public import proofs.«01_k».proof.Proof.Setup

@[expose] public section

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

variable (c : Dev nD)

/-! ## Loads and stores of whole blocks -/

theorem idx_full {s : Shape} {off : Fin s.rank → ℕ} (h0 : off = fun _ => 0) (inb : ∀ a, off a + s.size a ≤ s.size a) (x : s.Idx) :
    (Rect.unit (s := s) off s.size inb).idx x = x := by
  subst h0
  funext a
  exact Fin.ext (by show 0 + 1 * (x a).val = (x a).val; omega)

theorem wp_loadO {cs : CoreSpace} {s : Shape} {e : EltTy} {M : Memref sig .tc cs s e} {off : Fin s.rank → ℕ} (h0 : off = fun _ => 0)
    {inb : ∀ a, off a + s.size a ≤ s.size a} {hl : M.view.LoadsAt (Rect.unit (s := s) off s.size inb).toLoadRect} {α : Type}
    {k : (s.Idx → Elt F e) → Prog (TpuEff nD τ sig (Elt F) Λ₀ .tc) α} {q : PosShare TreeShare} {X : s.Idx → Elt F e} {E : Set ℕ} {Q : α → sProp 𝕄} :
    (owns (c : Thread nD τ) M q X : sProp 𝕄)
      ⊢ iprop((owns (c : Thread nD τ) M q X -∗ wp frame (wpE (defs₀ (F := F)) Variants.none (c : Thread nD τ) none) E (k X) Q)
        -∗ wp frame (wpE (defs₀ (F := F)) Variants.none (c : Thread nD τ) none) E
            (Prog.lift (.load M (Rect.unit (s := s) off s.size inb).toLoadRect hl) >>= k) Q) := by
  unfold owns
  iintro ⟨%f, %hf, H⟩ Hk
  have e := wp_load (defs := defs₀ (F := F)) (Γ := .empty) Variants.none (c : Thread nD τ) none E (m := M) (S := M.view.set) (q := q) (f := f) (Q := Q)
    (r := (Rect.unit (s := s) off s.size inb).toLoadRect) (hl := hl) (k := k) (View.setOn_subset_set _ _)
  have e2 : M.view.readAt (Elt F) (Rect.unit (s := s) off s.size inb).toLoadRect f = X := by
    rw [← hf]
    funext x
    rw [View.readAt_apply]
    exact congrArg _ (idx_full h0 inb x)
  rw [e2] at e
  iapply e $$ H
  iintro H
  iapply Hk
  iexists f
  isplitr
  · ipureintro; exact hf
  iexact H

theorem wp_storeO {cs : CoreSpace} {s : Shape} {e : EltTy} {M : Memref sig .tc cs s e} {off : Fin s.rank → ℕ} (h0 : off = fun _ => 0)
    {inb : ∀ a, off a + s.size a ≤ s.size a} {w : s.Idx → Elt F e}
    {hx : (M.access (Rect.unit (s := s) off s.size inb)).Stores Finset.univ}
    {hm : (Finset.univ : Finset s.Idx) = Finset.univ ∨ ∀ a, (Rect.unit (s := s) off s.size inb).stride a = 1} {α : Type}
    {k : PUnit → Prog (TpuEff nD τ sig (Elt F) Λ₀ .tc) α} {X : s.Idx → Elt F e} {E : Set ℕ} {Q : α → sProp 𝕄} :
    (owns (c : Thread nD τ) M fullShare X : sProp 𝕄)
      ⊢ iprop((owns (c : Thread nD τ) M fullShare w -∗ wp frame (wpE (defs₀ (F := F)) Variants.none (c : Thread nD τ) none) E (k ⟨⟩) Q)
        -∗ wp frame (wpE (defs₀ (F := F)) Variants.none (c : Thread nD τ) none) E
            (Prog.lift (.store M (Rect.unit (s := s) off s.size inb) w Finset.univ hx hm) >>= k) Q) := by
  unfold owns
  iintro ⟨%f, %hf, H⟩ Hk
  have e := wp_store (defs := defs₀ (F := F)) (Γ := .empty) Variants.none (c : Thread nD τ) none E (m := M) (S := M.view.set) (f := f) (Q := Q)
    (r := (Rect.unit (s := s) off s.size inb)) (w := w) (Mk := Finset.univ) (hx := hx) (hm := hm) (k := k) ((View.setOn_subset_set _ _).trans (View.set_slice_subset _ _))
  iapply e $$ H
  iintro H
  iapply Hk
  iexists _
  isplitr
  swap
  · iexact H
  ipureintro
  funext x
  have h1 := congrFun (View.read_write_univ (Val := Elt F) (v := M.access (Rect.unit (s := s) off s.size inb)) f w) x
  refine Eq.trans ?_ h1
  show M.view.read (Elt F) _ x = M.view.read (Elt F) _ ((Rect.unit (s := s) off s.size inb).idx x)
  rw [idx_full h0 inb x]

/-- The table the body computes of the two transposed lists of boxes. -/
def encTab (g e : FVec F S8x256 .f32) : FVec F S16x256 .f32 :=
  concatenate S16x256 0 [⟨S3x256, extractStridedSlice S3x256 ![0, 0] g slices_S8x256_o0_0_S3x256⟩,
    ⟨S1x256, cos (extractStridedSlice S1x256 ![6, 0] g slices_S8x256_o6_0_S1x256)⟩,
    ⟨S1x256, sin (extractStridedSlice S1x256 ![6, 0] g slices_S8x256_o6_0_S1x256)⟩,
    ⟨S3x256, mulf (extractStridedSlice S3x256 ![3, 0] g slices_S8x256_o3_0_S3x256) (broadcast S3x256 (Scalar.ofBits .f32 0x3F000000#32))⟩,
    ⟨S3x256, mulf (extractStridedSlice S3x256 ![3, 0] e slices_S8x256_o3_0_S3x256) (broadcast S3x256 (Scalar.ofBits .f32 0x3F000000#32))⟩,
    ⟨S3x256, log (maximumf (extractStridedSlice S3x256 ![3, 0] g slices_S8x256_o3_0_S3x256) (broadcast S3x256 (Scalar.ofBits .f32 0x3A83126F#32)))⟩,
    ⟨S2x256, broadcast S2x256 (Scalar.ofBits .f32 0x00000000#32)⟩]
    concatenates_S3x256_S1x256_S1x256_S3x256_S3x256_S3x256_S2x256_S16x256_d0

theorem enc_run {M0 : Memref sig .tc .vmem S8x256 .f32} (h0 : M0.IsWhole) {M1 : Memref sig .tc .vmem S8x256 .f32} (h1 : M1.IsWhole)
    {M2 : Memref sig .tc .vmem S16x256 .f32} (h2 : M2.IsWhole) (g e : FVec F S8x256 .f32) (X : FVec F S16x256 .f32) (E : Set ℕ) (Q : PUnit → sProp 𝕄) :
    iprop(owns (c : Thread nD τ) M0 fullShare g ∗ owns (c : Thread nD τ) M1 fullShare e ∗ owns (c : Thread nD τ) M2 fullShare X
      ∗ (iprop(owns (c : Thread nD τ) M0 fullShare g ∗ owns (c : Thread nD τ) M1 fullShare e ∗ owns (c : Thread nD τ) M2 fullShare (encTab (F := F) g e)) -∗ Q ⟨⟩))
      ⊢ wp frame (wpE (defs₀ (F := F)) Variants.none (c : Thread nD τ) none) E (cc0__encode_kernel M0 h0 M1 h1 M2 h2) Q := by
  have z : (![0, 0] : Fin 2 → ℕ) = fun _ => 0 := by funext a; fin_cases a <;> rfl
  iintro ⟨H0, H1, H2, Hk⟩
  unfold cc0__encode_kernel
  iapply (wp_loadO c z) $$ H0
  iintro H0
  iapply (wp_loadO c z) $$ H1
  iintro H1
  iapply (wp_loadO c z) $$ H2
  iintro H2
  iapply (wp_storeO c z) $$ H2
  iintro H2
  rw [wp_pure]
  imodintro
  iapply Hk
  isplitl [H0]; · iexact H0
  isplitl [H1]; · iexact H1
  have e0 : shapeCast S8x256 g shapeCasts_S8x256_S8x256 = g := shapeCast_self _ _
  have e1 : shapeCast S8x256 e shapeCasts_S8x256_S8x256 = e := shapeCast_self _ _
  have e3 : encTab (F := F) (shapeCast S8x256 g shapeCasts_S8x256_S8x256) (shapeCast S8x256 e shapeCasts_S8x256_S8x256) = encTab g e := by rw [e0, e1]
  rw [← e3]
  unfold encTab
  iexact H2

end Cert.KernelIdeal.Enc
-- ==== Proof.Enc2.lean ====
/-
  The assignment call on the TensorCore: the classes and the boxes one run of its body leaves of a block of 2000 points.
-/
module

public import proofs.«01_k».proof.Proof.Enc0

@[expose] public section

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

variable (c : Dev nD)

/-! ## What the body computes -/

/-- The columns of the points and the rows of the boxes. -/
abbrev pc1 (p : FVec F S2000x4 .f32) : FVec F S2000x1 .f32 := extractStridedSlice S2000x1 ![0, 1] p slices_S2000x4_o0_1_S2000x1
abbrev pc2 (p : FVec F S2000x4 .f32) : FVec F S2000x1 .f32 := extractStridedSlice S2000x1 ![0, 2] p slices_S2000x4_o0_2_S2000x1
abbrev pc3 (p : FVec F S2000x4 .f32) : FVec F S2000x1 .f32 := extractStridedSlice S2000x1 ![0, 3] p slices_S2000x4_o0_3_S2000x1
/-- A column over all boxes, a row over all points. -/
abbrev ovB (x : FVec F S2000x1 .f32) : FVec F S2000x256 .f32 := broadcastTo S2000x256 x broadcasts_S2000x1_S2000x256
abbrev ovP (x : FVec F S1x256 .f32) : FVec F S2000x256 .f32 := broadcastTo S2000x256 x broadcasts_S1x256_S2000x256
/-- The number of each box. -/
abbrev lanes : IVec S2000x256 32 := iota .tc S2000x256 32 [1] iota_S2000x256_d1_w32
abbrev bcI (w : BitVec 32) : IVec S2000x256 32 := broadcast S2000x256 w

/-- Which boxes are of a point's batch. -/
def bmask (p : FVec F S2000x4 .f32) : IVec S2000x256 1 :=
  cmpi .eq (select (andi (cmpi .ne
        (subi (extui 32 (cmpi .sgt lanes (bcI 0#32)) natLt_1_32) (extui 32 (cmpi .slt lanes (bcI 0#32)) natLt_1_32))
        (bcI (Scalar.subi (Scalar.extui (Scalar.cmpi .sgt 64#32 0#32) : BitVec 32) (Scalar.extui (Scalar.cmpi .slt 64#32 0#32)))))
      (cmpi .ne (remsi lanes (bcI 64#32)) (bcI 0#32)))
      (subi (divsi lanes (bcI 64#32)) (bcI 1#32)) (divsi lanes (bcI 64#32)))
    (broadcastTo S2000x256 (fptosi 32 (extractStridedSlice S2000x1 ![0, 0] p slices_S2000x4_o0_0_S2000x1)) broadcasts_S2000x1_S2000x256)

def rotC (g : FVec F S8x256 .f32) : FVec F S1x256 .f32 := cos (extractStridedSlice S1x256 ![6, 0] g slices_S8x256_o6_0_S1x256)
def rotS (g : FVec F S8x256 .f32) : FVec F S1x256 .f32 := sin (extractStridedSlice S1x256 ![6, 0] g slices_S8x256_o6_0_S1x256)
def offX (p : FVec F S2000x4 .f32) (g : FVec F S8x256 .f32) : FVec F S2000x256 .f32 :=
  subf (ovB (pc1 p)) (ovP (extractStridedSlice S1x256 ![0, 0] g slices_S8x256_o0_0_S1x256))
def offY (p : FVec F S2000x4 .f32) (g : FVec F S8x256 .f32) : FVec F S2000x256 .f32 :=
  subf (ovB (pc2 p)) (ovP (extractStridedSlice S1x256 ![1, 0] g slices_S8x256_o1_0_S1x256))
def offZ (p : FVec F S2000x4 .f32) (g : FVec F S8x256 .f32) : FVec F S2000x256 .f32 :=
  subf (ovB (pc3 p)) (ovP (extractStridedSlice S1x256 ![2, 0] g slices_S8x256_o2_0_S1x256))
/-- The boxes a point lies in, its batch's alone. -/
def inMask (p : FVec F S2000x4 .f32) (g : FVec F S8x256 .f32) : IVec S2000x256 1 :=
  andi (andi (andi
    (cmpf .ole (absf (addf (mulf (offX p g) (ovP (rotC g))) (mulf (offY p g) (ovP (rotS g)))))
      (ovP (mulf (extractStridedSlice S1x256 ![3, 0] g slices_S8x256_o3_0_S1x256) (broadcast S1x256 (Scalar.ofBits .f32 0x3F000000#32)))))
    (cmpf .ole (absf (addf (mulf (subf (broadcast S2000x256 (Scalar.ofBits .f32 0x00000000#32)) (offX p g)) (ovP (rotS g))) (mulf (offY p g) (ovP (rotC g)))))
      (ovP (mulf (extractStridedSlice S1x256 ![4, 0] g slices_S8x256_o4_0_S1x256) (broadcast S1x256 (Scalar.ofBits .f32 0x3F000000#32))))))
    (cmpf .ole (absf (offZ p g))
      (ovP (mulf (extractStridedSlice S1x256 ![5, 0] g slices_S8x256_o5_0_S1x256) (broadcast S1x256 (Scalar.ofBits .f32 0x3F000000#32))))))
    (bmask p)

/-- Whether a mask holds anywhere in a point's row. -/
def anyHit (m : IVec S2000x256 1) : IVec S2000x1 1 :=
  shapeCast S2000x1 (cmpf .ogt
    (multiReduction .maximumf [1] S2000 (select m (broadcast S2000x256 (Scalar.ofBits .f32 0x3F800000#32)) (broadcast S2000x256 (Scalar.ofBits .f32 0x00000000#32)) : FVec F S2000x256 .f32)
      0xFF800000#32 reduces_S2000x256_S2000 (.inl rfl) rfl)
    (broadcast S2000 (Scalar.ofBits .f32 0x00000000#32))) shapeCasts_S2000_S2000x1

/-- The classes of a block of points. -/
def asgCls (p : FVec F S2000x4 .f32) (g e : FVec F S8x256 .f32) : IVec S2000x1 32 :=
  select (xori (anyHit (F := F) (inMask p g)) (anyHit (F := F) (inMask p e))) (broadcast S2000x1 4294967295#32)
    (select (anyHit (F := F) (inMask p g)) (broadcast S2000x1 1#32) (broadcast S2000x1 0#32))

/-- The first box a point lies in, marked in its row. -/
def firstMask (m : IVec S2000x256 1) : IVec S2000x256 1 :=
  cmpi .eq lanes (broadcastTo S2000x256 (shapeCast S2000x1
    (multiReductionI .minsi [1] S2000 (select m lanes (bcI 256#32)) 2147483647#32 reduces_S2000x256_S2000 rfl) shapeCasts_S2000_S2000x1)
    broadcasts_S2000x1_S2000x256)

/-- The boxes as they are encoded. -/
def encG (g : FVec F S8x256 .f32) : FVec F S8x256 .f32 :=
  concatenate S8x256 0 [⟨S3x256, extractStridedSlice S3x256 ![0, 0] g slices_S8x256_o0_0_S3x256⟩,
    ⟨S3x256, log (maximumf (extractStridedSlice S3x256 ![3, 0] g slices_S8x256_o3_0_S3x256) (broadcast S3x256 (Scalar.ofBits .f32 0x3A83126F#32)))⟩,
    ⟨S1x256, cos (extractStridedSlice S1x256 ![6, 0] g slices_S8x256_o6_0_S1x256)⟩,
    ⟨S1x256, sin (extractStridedSlice S1x256 ![6, 0] g slices_S8x256_o6_0_S1x256)⟩]
    concatenates_S3x256_S3x256_S1x256_S1x256_S8x256_d0

/-- The sum of a row of the encoded boxes where a mask holds. -/
def pick (m : IVec S2000x256 1) (x : FVec F S1x256 .f32) : FVec F S2000x1 .f32 :=
  shapeCast S2000x1 (multiReduction .add [1] S2000
    (select m (broadcastTo S2000x256 (shapeCast S1x256 x shapeCasts_S1x256_S1x256) broadcasts_S1x256_S2000x256) (broadcast S2000x256 (Scalar.ofBits .f32 0x00000000#32)))
    0x00000000#32 reduces_S2000x256_S2000 (.inl rfl) rfl) shapeCasts_S2000_S2000x1

/-- The encoded box picked for each point. -/
def picked (m : IVec S2000x256 1) (t : FVec F S8x256 .f32) : FVec F S2000x8 .f32 :=
  concatenate S2000x8 1 [⟨S2000x1, pick m (extractStridedSlice S1x256 ![0, 0] t slices_S8x256_o0_0_S1x256)⟩,
    ⟨S2000x1, pick m (extractStridedSlice S1x256 ![1, 0] t slices_S8x256_o1_0_S1x256)⟩,
    ⟨S2000x1, pick m (extractStridedSlice S1x256 ![2, 0] t slices_S8x256_o2_0_S1x256)⟩,
    ⟨S2000x1, pick m (extractStridedSlice S1x256 ![3, 0] t slices_S8x256_o3_0_S1x256)⟩,
    ⟨S2000x1, pick m (extractStridedSlice S1x256 ![4, 0] t slices_S8x256_o4_0_S1x256)⟩,
    ⟨S2000x1, pick m (extractStridedSlice S1x256 ![5, 0] t slices_S8x256_o5_0_S1x256)⟩,
    ⟨S2000x1, pick m (extractStridedSlice S1x256 ![6, 0] t slices_S8x256_o6_0_S1x256)⟩,
    ⟨S2000x1, pick m (extractStridedSlice S1x256 ![7, 0] t slices_S8x256_o7_0_S1x256)⟩]
    concatenates_S2000x1_S2000x1_S2000x1_S2000x1_S2000x1_S2000x1_S2000x1_S2000x1_S2000x8_d1

/-- The boxes of a block of points. -/
def asgBox (p : FVec F S2000x4 .f32) (g : FVec F S8x256 .f32) : FVec F S2000x8 .f32 :=
  mulf (concatenate S2000x8 1 [⟨S2000x3, subf (extractStridedSlice S2000x3 ![0, 0] (picked (firstMask (inMask p g)) (encG g)) slices_S2000x8_o0_0_S2000x3)
        (concatenate S2000x3 1 [⟨S2000x1, pc1 p⟩, ⟨S2000x1, pc2 p⟩, ⟨S2000x1, pc3 p⟩] concatenates_S2000x1_S2000x1_S2000x1_S2000x3_d1)⟩,
      ⟨S2000x5, extractStridedSlice S2000x5 ![0, 3] (picked (firstMask (inMask p g)) (encG g)) slices_S2000x8_o0_3_S2000x5⟩]
      concatenates_S2000x3_S2000x5_S2000x8_d1)
    (broadcastTo S2000x8 (sitofp .f32 (extui 32 (anyHit (F := F) (inMask p g)) natLt_1_32)) broadcasts_S2000x1_S2000x8)

/-! ## The run -/

theorem asg_run (i : grid2.Coords) {M0 : Memref sig .tc .vmem S2000x4 .f32} (h0 : M0.IsWhole) {M1 : Memref sig .tc .vmem S8x256 .f32} (h1 : M1.IsWhole)
    {M2 : Memref sig .tc .vmem S8x256 .f32} (h2 : M2.IsWhole) {M3 : Memref sig .tc .vmem S2000x1 .i32} (h3 : M3.IsWhole)
    {M4 : Memref sig .tc .vmem S2000x8 .f32} (h4 : M4.IsWhole)
    (p : FVec F S2000x4 .f32) (g e : FVec F S8x256 .f32) (X : IVec S2000x1 32) (Y : FVec F S2000x8 .f32) (E : Set ℕ) (Q : PUnit → sProp 𝕄) :
    iprop(owns (c : Thread nD τ) M0 fullShare p ∗ owns (c : Thread nD τ) M1 fullShare g ∗ owns (c : Thread nD τ) M2 fullShare e
      ∗ owns (c : Thread nD τ) M3 fullShare X ∗ owns (c : Thread nD τ) M4 fullShare Y
      ∗ (iprop(owns (c : Thread nD τ) M0 fullShare p ∗ owns (c : Thread nD τ) M1 fullShare g ∗ owns (c : Thread nD τ) M2 fullShare e
      ∗ owns (c : Thread nD τ) M3 fullShare (asgCls (F := F) p g e) ∗ owns (c : Thread nD τ) M4 fullShare (asgBox (F := F) p g)) -∗ Q ⟨⟩))
      ⊢ wp frame (wpE (defs₀ (F := F)) Variants.none (c : Thread nD τ) none) E (cc2__assign_kernel i M0 h0 M1 h1 M2 h2 M3 h3 M4 h4) Q := by
  have z : (![0, 0] : Fin 2 → ℕ) = fun _ => 0 := by funext a; fin_cases a <;> rfl
  have eP : shapeCast S2000x4 p shapeCasts_S2000x4_S2000x4 = p := shapeCast_self _ _
  have eG : shapeCast S8x256 g shapeCasts_S8x256_S8x256 = g := shapeCast_self _ _
  have eE : shapeCast S8x256 e shapeCasts_S8x256_S8x256 = e := shapeCast_self _ _
  have e3 : asgCls (F := F) (shapeCast S2000x4 p shapeCasts_S2000x4_S2000x4) (shapeCast S8x256 g shapeCasts_S8x256_S8x256) (shapeCast S8x256 e shapeCasts_S8x256_S8x256)
      = asgCls p g e := by rw [eP, eG, eE]
  have e4 : asgBox (F := F) (shapeCast S2000x4 p shapeCasts_S2000x4_S2000x4) (shapeCast S8x256 g shapeCasts_S8x256_S8x256) = asgBox p g := by rw [eP, eG]
  iintro ⟨H0, H1, H2, H3, H4, Hk⟩
  unfold cc2__assign_kernel k2_part5 k2_part1 k2_part2 k2_part3 k2_part4
  simp only [bind_assoc, pure_bind]
  iapply (wp_loadO c z) $$ H0
  iintro H0
  iapply (wp_loadO c z) $$ H1
  iintro H1
  iapply (wp_loadO c z) $$ H2
  iintro H2
  iapply (wp_loadO c z) $$ H3
  iintro H3
  iapply (wp_storeO c z) $$ H3
  iintro H3
  iapply (wp_loadO c z) $$ H4
  iintro H4
  iapply (wp_storeO c z) $$ H4
  iintro H4
  rw [wp_pure]
  imodintro
  iapply Hk
  isplitl [H0]; · iexact H0
  isplitl [H1]; · iexact H1
  isplitl [H2]; · iexact H2
  isplitl [H3]
  · rw [← e3]
    unfold asgCls anyHit inMask bmask offX offY offZ rotC rotS
    iexact H3
  rw [← e4]
  unfold asgBox picked pick firstMask encG anyHit inMask bmask offX offY offZ rotC rotS
  iexact H4

end Cert.KernelIdeal.Enc
-- ==== Proof.Reg0.lean ====
/-
  The encoding call as a region of the program's main thread: entered with the two transposed lists of boxes, left
  with the table written; what the thread still owes the SparseCores rides along.
-/
module

public import proofs.«01_k».proof.Proof.Enc2
public import Idealize.ShloMosaic.Lib.Pipeline.RegionsLoop

@[expose] public section

noncomputable section

namespace Cert.KernelIdeal.Enc

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## What the thread owes across a region -/

/-- The waits the thread may have recorded before call `n`. -/
def recd (n : ℕ) (c : Dev nD) : Set (SemLoc sig × HIx 1) := {p | (K (F := F)).lev ((c : Thread nD τ), p.1) p.2 ≤ 8 * n}

def owesT (n : ℕ) (c : Dev nD) : sProp 𝕄 :=
  iprop(∃ W, ⌜(K (F := F)).WBelow (c : Thread nD τ) W (8 * n)⌝ ∗ owes (c : Thread nD τ) ((K (F := F)).Otc c n) W)

/-- A pipeline's data where it does not run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (n : ℕ) (V : (c : Dev nD) → (b : Ref sig .tc) → Buf (Elt F) ((c : Thread nD τ).loc b))

def dat0 (c : Dev nD) : Dat τ (Elt F) (HIx 1) ℕ UU ℕ cfg0 c where
  A w := V c (Pipeline.arrRef spec0 w)
  after w _ := match w with
    | ⟨0, _⟩ => ((cfg0.win 0).blk t0_0).view.read (Elt F) (V c main_v1)
    | ⟨1, _⟩ => ((cfg0.win 1).blk t0_0).view.read (Elt F) (V c main_v3)
    | ⟨2, _⟩ => encTab (F := F) (((cfg0.win 0).blk t0_0).view.read (Elt F) (V c main_v1)) (((cfg0.win 1).blk t0_0).view.read (Elt F) (V c main_v3))
  Φ _ := Pipeline.scopedRest spec0 c
  q _ := fullShare
  owed _ := (K (F := F)).Otc c n
  recorded _ := recd (F := F) n c

variable (adm : (p : Fin 2) → (pcfgs (F := F) p).Adm)

def pdats0 : (p : Fin 2) → (c : Dev nD) → Dat τ (Elt F) (HIx 1) ℕ UU ℕ (Pipeline.pin (pcfgs (F := F)) adm p) c
  | ⟨0, _⟩ => fun c => dat0 n V c
  | ⟨1, _⟩ => fun c => junkDat c

theorem before0_0 (c : Dev nD) (d : (cfg0.win 0).block.Idx → Elt F (cfg0.win 0).elt) :
    (dat0 n V c).before 0 t0_0 d = ((cfg0.win 0).blk t0_0).view.read (Elt F) (V c main_v1) := by
  unfold Dat.before; rw [if_pos (by decide)]; rfl
theorem before0_1 (c : Dev nD) (d : (cfg0.win 1).block.Idx → Elt F (cfg0.win 1).elt) :
    (dat0 n V c).before 1 t0_0 d = ((cfg0.win 1).blk t0_0).view.read (Elt F) (V c main_v3) := by
  unfold Dat.before; rw [if_pos (by decide)]; rfl

theorem body0 (c : Dev nD) : BodyObligation (dat0 n V c) (defs₀ (F := F)) 𝒱₀ none Set.univ := fun t => by
  obtain rfl := fin_N0 t
  rw [bigSep_W0, bigSep_W0]
  rw [show (dat0 n V c).Φ t0_0.succ = (dat0 n V c).Φ t0_0.castSucc from rfl, show (dat0 n V c).owesAt none t0_0.succ = (dat0 n V c).owesAt none t0_0.castSucc from rfl]
  iintro ⟨HΦ, Howes, ⟨%d0, H0⟩, ⟨%d1, H1⟩, ⟨%d2, H2⟩⟩
  rw [before0_0, before0_1]
  iapply (enc_run c (hstage0_0 0) (hstage0_1 0) (hstage0_2 0) _ _ _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem waits0 (c : Dev nD) : (levAts (K (F := F)).L (K (F := F)).lev : sProp 𝕄)
    ⊢ Pipeline.cellsWaits (Pipeline.pin (pcfgs (F := F)) adm) (pdats0 n V adm) none 0 c :=
  Pipeline.cellsWaits_of_cut (Pipeline.pin (pcfgs (F := F)) adm) (pdats0 n V adm) none 0 c 0 ((K (F := F)).Otc c n) (fun _ => rfl)
    (fun w s => Finset.mem_univ _) (fun w s => le_refl 0)
    (fun g i hg => by
      have h := SparseCore.Cfg.lev_of_Otc_pos hg
      exact ⟨Finset.mem_univ _, by omega⟩)

variable (Vp : (c : Dev nD) → (b : Ref sig .tc) → Buf (Elt F) ((c : Thread nD τ).loc b))

set_option backward.isDefEq.respectTransparency.types false in
/-- The region, from the buffers at `V` to the buffers at `Vp`: `V` with the table's array written. -/
def reg0 (hVp_out : ∀ c, Vp c main_v4 = (dat0 n V c).arrAt 2 cfg0.N)
    (hVp_ne : ∀ c (b : Ref sig .tc), b ≠ main_v4 → Vp c b = V c b) :
    Pipeline.RegionSeg (pcfgs (F := F)) adm (pdats0 n V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 n V c).loose
  hwaits c := waits0 n V adm c
  pre c := iprop(unscopedBufs c (V c) ∗ owesT (F := F) n c)
  post c := iprop(unscopedBufs c (Vp c) ∗ owesT (F := F) n c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats0 n V adm) launch0.win launch0.arr_whole c
      ((pdats0 n V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesT Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats0 n V adm 0 c).Φ 0 = Pipeline.scopedRest spec0 c from rfl]
    iintro ⟨-, -, Hr⟩; iexact Hr
  hout c := by
    rw [Pipeline.ownSems0_none, show (pdats0 n V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats0 n V adm) ((pdats0 n V adm 0 c).share_full fun _ => rfl) (V c) (Vp c) ((pdats0 n V adm 0 c).arrAt · cfg0.N)
      (fun w => by
        fin_cases w
        · exact ((pdats0 n V adm 0 c).arrAt_in 0 rfl _).trans (hVp_ne c main_v1 (by decide)).symm
        · exact ((pdats0 n V adm 0 c).arrAt_in 1 rfl _).trans (hVp_ne c main_v3 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold owesT Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.KernelIdeal.Enc
-- ==== Proof.Reg2.lean ====
/-
  The assignment call as a region of the program's main thread: three blocks of 2000 points, each with both lists of
  boxes whole; left with the classes and the boxes of the first 6000 points written.
-/
module

public import proofs.«01_k».proof.Proof.Reg0
public import Idealize.ShloMosaic.Lib.Pipeline.RegionsLoop

@[expose] public section

noncomputable section

namespace Cert.KernelIdeal.Enc

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable (n : ℕ) (V : (c : Dev nD) → (b : Ref sig .tc) → Buf (Elt F) ((c : Thread nD τ).loc b))

def pblk (c : Dev nD) (t : Fin cfg2.N) : FVec F S2000x4 .f32 := ((cfg2.win 0).blk t).view.read (Elt F) (V c main_v9)
def gblk (c : Dev nD) (t : Fin cfg2.N) : FVec F S8x256 .f32 := ((cfg2.win 1).blk t).view.read (Elt F) (V c main_v1)
def eblk (c : Dev nD) (t : Fin cfg2.N) : FVec F S8x256 .f32 := ((cfg2.win 2).blk t).view.read (Elt F) (V c main_v3)

def dat2 (c : Dev nD) : Dat τ (Elt F) (HIx 1) ℕ UU ℕ cfg2 c where
  A w := V c (Pipeline.arrRef spec2 w)
  after w t := match w with
    | ⟨0, _⟩ => pblk V c t
    | ⟨1, _⟩ => gblk V c t
    | ⟨2, _⟩ => eblk V c t
    | ⟨3, _⟩ => asgCls (F := F) (pblk V c t) (gblk V c t) (eblk V c t)
    | ⟨4, _⟩ => asgBox (F := F) (pblk V c t) (gblk V c t)
  Φ _ := Pipeline.scopedRest spec2 c
  q _ := fullShare
  owed _ := (K (F := F)).Otc c n
  recorded _ := recd (F := F) n c

variable (adm : (p : Fin 2) → (pcfgs (F := F) p).Adm)

def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 n V c

theorem before2_0 (c : Dev nD) (t : Fin cfg2.N) (d : (cfg2.win 0).block.Idx → Elt F (cfg2.win 0).elt) :
    (dat2 n V c).before 0 t d = pblk V c t :=
  (Dat.before_in_eq_fetched (dat2 n V c) 0 rfl (fun _ => rfl) (fun _ _ _ => rfl) (fun _ => rfl) t d).trans rfl
theorem before2_1 (c : Dev nD) (t : Fin cfg2.N) (d : (cfg2.win 1).block.Idx → Elt F (cfg2.win 1).elt) :
    (dat2 n V c).before 1 t d = gblk V c t :=
  (Dat.before_in_eq_fetched (dat2 n V c) 1 rfl (fun _ => rfl) (fun _ _ _ => rfl) (fun _ => rfl) t d).trans rfl
theorem before2_2 (c : Dev nD) (t : Fin cfg2.N) (d : (cfg2.win 2).block.Idx → Elt F (cfg2.win 2).elt) :
    (dat2 n V c).before 2 t d = eblk V c t :=
  (Dat.before_in_eq_fetched (dat2 n V c) 2 rfl (fun _ => rfl) (fun _ _ _ => rfl) (fun _ => rfl) t d).trans rfl

theorem body2 (c : Dev nD) : BodyObligation (dat2 n V c) (defs₀ (F := F)) 𝒱₀ none Set.univ := fun t => by
  rw [bigSep_W2, bigSep_W2]
  rw [show (dat2 n V c).Φ t.succ = (dat2 n V c).Φ t.castSucc from rfl, show (dat2 n V c).owesAt none t.succ = (dat2 n V c).owesAt none t.castSucc from rfl]
  iintro ⟨HΦ, Howes, ⟨%d0, H0⟩, ⟨%d1, H1⟩, ⟨%d2, H2⟩, ⟨%d3, H3⟩, ⟨%d4, H4⟩⟩
  rw [before2_0, before2_1, before2_2]
  iapply (asg_run c (grid2.coords t) (hstage2_0 ((cfg2.slots t 0).cast nbuf2_0)) (hstage2_1 ((cfg2.slots t 1).cast nbuf2_1))
    (hstage2_2 ((cfg2.slots t 2).cast nbuf2_2)) (hstage2_3 ((cfg2.slots t 3).cast nbuf2_3)) (hstage2_4 ((cfg2.slots t 4).cast nbuf2_4)) _ _ _ _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

theorem waits2 (c : Dev nD) : (levAts (K (F := F)).L (K (F := F)).lev : sProp 𝕄)
    ⊢ Pipeline.cellsWaits (Pipeline.pin (pcfgs (F := F)) adm) (pdats2 n V adm) none 1 c :=
  Pipeline.cellsWaits_of_cut (Pipeline.pin (pcfgs (F := F)) adm) (pdats2 n V adm) none 1 c 0 ((K (F := F)).Otc c n) (fun _ => rfl)
    (fun w s => Finset.mem_univ _) (fun w s => le_refl 0)
    (fun g i hg => by
      have h := SparseCore.Cfg.lev_of_Otc_pos hg
      exact ⟨Finset.mem_univ _, by omega⟩)

variable (Vp : (c : Dev nD) → (b : Ref sig .tc) → Buf (Elt F) ((c : Thread nD τ).loc b))

set_option backward.isDefEq.respectTransparency.types false in
/-- The region, from the buffers at `V` to the buffers at `Vp`: `V` with the classes and the boxes of the first rows written. -/
def reg2 (hVp_3 : ∀ c, Vp c main_v10_0 = (dat2 n V c).arrAt 3 cfg2.N)
    (hVp_4 : ∀ c, Vp c main_v10_1 = (dat2 n V c).arrAt 4 cfg2.N)
    (hVp_ne : ∀ c (b : Ref sig .tc), b ≠ main_v10_0 → b ≠ main_v10_1 → Vp c b = V c b) :
    Pipeline.RegionSeg (pcfgs (F := F)) adm (pdats2 n V adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 n V c).loose
  hwaits c := waits2 n V adm c
  pre c := iprop(unscopedBufs c (V c) ∗ owesT (F := F) n c)
  post c := iprop(unscopedBufs c (Vp c) ∗ owesT (F := F) n c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 n V adm) launch2.win launch2.arr_whole c
      ((pdats2 n V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesT Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats2 n V adm 1 c).Φ 0 = Pipeline.scopedRest spec2 c from rfl]
    iintro ⟨-, -, Hr⟩; iexact Hr
  hout c := by
    rw [Pipeline.ownSems0_none, show (pdats2 n V adm 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 n V adm) ((pdats2 n V adm 1 c).share_full fun _ => rfl) (V c) (Vp c) ((pdats2 n V adm 1 c).arrAt · cfg2.N)
      (fun w => by
        fin_cases w
        · exact ((pdats2 n V adm 1 c).arrAt_in 0 rfl _).trans (hVp_ne c main_v9 (by decide) (by decide)).symm
        · exact ((pdats2 n V adm 1 c).arrAt_in 1 rfl _).trans (hVp_ne c main_v1 (by decide) (by decide)).symm
        · exact ((pdats2 n V adm 1 c).arrAt_in 2 rfl _).trans (hVp_ne c main_v3 (by decide) (by decide)).symm
        · exact (hVp_3 c).symm
        · exact (hVp_4 c).symm)
      (fun b hb => hVp_ne c b (fun h => hb (h ▸ Finset.mem_image.mpr ⟨3, Finset.mem_univ _, rfl⟩))
        (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold owesT Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.KernelIdeal.Enc
-- ==== Proof.Arr.lean ====
/-
  What the arrays of the two regions hold when the regions end, written out.
-/
module

public import proofs.«01_k».proof.Proof.Reg2
public import Idealize.ShloMosaic.Lib.Pipeline.ValueKit.Geometry

@[expose] public section

noncomputable section

namespace Cert.KernelIdeal.Enc

open Cert.KernelIdeal Cert.KernelIdeal.Gen
open Idealize.ShloMosaic Idealize.ShloMosaic.TcCoe Idealize.ShloMosaic.Tactic
open Idealize.ShloMosaic.SparseCore (S V T)
open Idealize.ShloMosaic.ValueKit Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable (n : ℕ) (V : (c : Dev nD) → (b : Ref sig .tc) → Buf (Elt F) ((c : Thread nD τ).loc b))

/-- Block `t` of the first 6000 points. -/
def rowsOf (x : FVec F S6000x4 .f32) (t : Fin 3) : FVec F S2000x4 .f32 :=
  fun y => x (ix2 ⟨2000 * t.val + (y 0).val, by have h0 : (y 0).val < 2000 := (y 0).isLt; have := t.isLt; omega⟩ (y 1))

theorem idx0_0 : ∀ t : Fin grid0.N, ∀ a, win0_0.index t a = 0 := by decide +kernel
theorem idx0_1 : ∀ t : Fin grid0.N, ∀ a, win0_1.index t a = 0 := by decide +kernel
theorem idx2_0 : ∀ t : Fin grid2.N, win2_0.index t 0 = t.val ∧ win2_0.index t 1 = 0 := by decide +kernel
theorem idx2_1 : ∀ t : Fin grid2.N, ∀ a, win2_1.index t a = 0 := by decide +kernel
theorem idx2_2 : ∀ t : Fin grid2.N, ∀ a, win2_2.index t a = 0 := by decide +kernel
theorem idx2_3 : ∀ t : Fin grid2.N, win2_3.index t 0 = t.val ∧ win2_3.index t 1 = 0 := by decide +kernel
theorem idx2_4 : ∀ t : Fin grid2.N, win2_4.index t 0 = t.val ∧ win2_4.index t 1 = 0 := by decide +kernel

theorem arr0 (c : Dev nD) : (dat0 n V c).arrAt 2 cfg0.N = encTab (F := F) (V c main_v1) (V c main_v3) := by
  have e1 : ((cfg0.win 0).blk t0_0).view.read (Elt F) (V c main_v1) = V c main_v1 := by
    funext y; show V c main_v1 (((cfg0.win 0).blk t0_0).view.emb y) = _
    congr 1; funext a; apply Fin.ext; fin_cases a <;> blk_simp <;> rw [idx0_0, Nat.zero_mul, Nat.zero_add]
  have e3 : ((cfg0.win 1).blk t0_0).view.read (Elt F) (V c main_v3) = V c main_v3 := by
    funext y; show V c main_v3 (((cfg0.win 1).blk t0_0).view.emb y) = _
    congr 1; funext a; apply Fin.ext; fin_cases a <;> blk_simp <;> rw [idx0_1, Nat.zero_mul, Nat.zero_add]
  refine (dat0 n V c).arrAt_eq_of_after_last 2 t0_0 (by decide +kernel) _ fun j => ?_
  blk_simp
  show encTab (F := F) (((cfg0.win 0).blk t0_0).view.read (Elt F) (V c main_v1)) (((cfg0.win 1).blk t0_0).view.read (Elt F) (V c main_v3)) _ = _
  rw [e1, e3]

theorem pblk_eq (c : Dev nD) (t : Fin cfg2.N) : pblk V c t = rowsOf (V c main_v9) (t.cast N_2) := by
  funext y; show V c main_v9 (((cfg2.win 0).blk t).view.emb y) = V c main_v9 _
  congr 1; funext a; apply Fin.ext; fin_cases a <;> blk_simp
  · rw [(idx2_0 t).1]; exact congrArg (· + _) (Nat.mul_comm _ _)
  · rw [(idx2_0 t).2, Nat.zero_mul, Nat.zero_add]; rfl
theorem gblk_eq (c : Dev nD) (t : Fin cfg2.N) : gblk V c t = V c main_v1 := by
  funext y; show V c main_v1 (((cfg2.win 1).blk t).view.emb y) = _
  congr 1; funext a; apply Fin.ext; fin_cases a <;> blk_simp <;> rw [idx2_1, Nat.zero_mul, Nat.zero_add]
theorem eblk_eq (c : Dev nD) (t : Fin cfg2.N) : eblk V c t = V c main_v3 := by
  funext y; show V c main_v3 (((cfg2.win 2).blk t).view.emb y) = _
  congr 1; funext a; apply Fin.ext; fin_cases a <;> blk_simp <;> rw [idx2_2, Nat.zero_mul, Nat.zero_add]

/-- The block a row lies in, and its place there. -/
def tOf (m : ℕ) : Fin 3 := ⟨m / 2000 % 3, Nat.mod_lt _ (by decide)⟩
def rOf (m : ℕ) : Fin 2000 := ⟨m % 2000, Nat.mod_lt _ (by decide)⟩

/-- The classes of the first 6000 points. -/
def cls0 (x : FVec F S6000x4 .f32) (g e : FVec F S8x256 .f32) : IVec S6000x1 32 := fun i =>
  asgCls (F := F) (rowsOf x (tOf (i 0).val)) g e (ix2 (rOf (i 0).val) 0)
/-- The boxes of the first 6000 points. -/
def box0 (x : FVec F S6000x4 .f32) (g : FVec F S8x256 .f32) : FVec F S6000x8 .f32 := fun i =>
  asgBox (F := F) (rowsOf x (tOf (i 0).val)) g (ix2 (rOf (i 0).val) (i 1))

theorem arr2_3 (c : Dev nD) : (dat2 n V c).arrAt 3 cfg2.N = cls0 (F := F) (V c main_v9) (V c main_v1) (V c main_v3) := by
  refine (dat2 n V c).arrAt_eq_of_covers 3 _ (by decide +kernel) fun t _ y => ?_
  blk_simp
  have h0 : (((cfg2.win 3).blk t).view.emb y 0).val = t.val * 2000 + (y 0).val := by blk_simp; rw [(idx2_3 t).1]
  have hy : (y 0).val < 2000 := (y 0).isLt
  have ht : t.val < 3 := (t.cast N_2).isLt
  show asgCls (F := F) (pblk V c t) (gblk V c t) (eblk V c t) y = _
  rw [pblk_eq, gblk_eq, eblk_eq]
  unfold cls0
  rw [h0]
  have e1 : tOf (t.val * 2000 + (y 0).val) = t.cast N_2 := by apply Fin.ext; show (t.val * 2000 + (y 0).val) / 2000 % 3 = t.val; omega
  have e2 : (ix2 (rOf (t.val * 2000 + (y 0).val)) 0 : S2000x1.Idx) = y := by
    funext a; fin_cases a
    · apply Fin.ext; show (t.val * 2000 + (y 0).val) % 2000 = (y 0).val; omega
    · exact Subsingleton.elim (α := Fin 1) _ _
  rw [e1, e2]

theorem arr2_4 (c : Dev nD) : (dat2 n V c).arrAt 4 cfg2.N = box0 (F := F) (V c main_v9) (V c main_v1) := by
  refine (dat2 n V c).arrAt_eq_of_covers 4 _ (by decide +kernel) fun t _ y => ?_
  blk_simp
  have h0 : (((cfg2.win 4).blk t).view.emb y 0).val = t.val * 2000 + (y 0).val := by blk_simp; rw [(idx2_4 t).1]
  have h1 : ((cfg2.win 4).blk t).view.emb y 1 = y 1 := by
    apply Fin.ext; blk_simp; rw [(idx2_4 t).2, Nat.zero_mul, Nat.zero_add]
  have hy : (y 0).val < 2000 := (y 0).isLt
  have ht : t.val < 3 := (t.cast N_2).isLt
  show asgBox (F := F) (pblk V c t) (gblk V c t) y = _
  rw [pblk_eq, gblk_eq]
  unfold box0
  rw [h0, h1]
  have e1 : tOf (t.val * 2000 + (y 0).val) = t.cast N_2 := by apply Fin.ext; show (t.val * 2000 + (y 0).val) / 2000 % 3 = t.val; omega
  have e2 : (ix2 (rOf (t.val * 2000 + (y 0).val)) (y 1) : S2000x8.Idx) = y := by
    funext a; fin_cases a
    · apply Fin.ext; show (t.val * 2000 + (y 0).val) % 2000 = (y 0).val; omega
    · rfl
  rw [e1, e2]

end Cert.KernelIdeal.Enc
-- ==== Proof.Run.lean ====
/-
  The whole program's run: the buffers' contents from step to step of the main thread, the two TensorCore calls as
  regions of it, the SparseCore call between them, and what every run ends with.
-/
module

public import proofs.«01_k».proof.Proof.Split
public import proofs.«01_k».proof.Proof.Arr
public import Idealize.ShloMosaic.Lib.SparseCore.Quiescent

@[expose] public section

noncomputable section

namespace Cert.KernelIdeal.Enc

open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operations between the calls -/

abbrev oA : HloOp τ sig (Elt F) := StableHlo.reshape main_arg1 main_v0 (rfl : (.f32 : EltTy) = .f32) shapeCasts_S4x64x8_S256x8
abbrev oB : HloOp τ sig (Elt F) := StableHlo.unary main_v0 main_v1 ((transpose S8x256 [1, 0] · transposes_S256x8_S8x256_1_0) : (⟨S256x8, .f32⟩ : BufTy).Contents (Elt F) → (⟨S8x256, .f32⟩ : BufTy).Contents (Elt F))
abbrev oC : HloOp τ sig (Elt F) := StableHlo.reshape main_arg2 main_v2 (rfl : (.f32 : EltTy) = .f32) shapeCasts_S4x64x8_S256x8
abbrev oD : HloOp τ sig (Elt F) := StableHlo.unary main_v2 main_v3 ((transpose S8x256 [1, 0] · transposes_S256x8_S8x256_1_0) : (⟨S256x8, .f32⟩ : BufTy).Contents (Elt F) → (⟨S8x256, .f32⟩ : BufTy).Contents (Elt F))
abbrev oE : HloOp τ sig (Elt F) := StableHlo.unary main_arg0 main_v5 ((extractStridedSlice S14000x4 ![6000, 0] · slices_S20000x4_S14000x4_6000_0) : (⟨S20000x4, .f32⟩ : BufTy).Contents (Elt F) → (⟨S14000x4, .f32⟩ : BufTy).Contents (Elt F))
abbrev oF : HloOp τ sig (Elt F) := StableHlo.unary main_v5 main_v6 ((transpose S4x14000 [1, 0] · transposes_S14000x4_S4x14000_1_0) : (⟨S14000x4, .f32⟩ : BufTy).Contents (Elt F) → (⟨S4x14000, .f32⟩ : BufTy).Contents (Elt F))
abbrev oG : HloOp τ sig (Elt F) := StableHlo.reshape main_v6 main_v7 (rfl : (.f32 : EltTy) = .f32) shapeCasts_S4x14000_S56000
abbrev oH : HloOp τ sig (Elt F) := StableHlo.unary main_arg0 main_v9 ((extractStridedSlice S6000x4 ![0, 0] · slices_S20000x4_S6000x4_0_0) : (⟨S20000x4, .f32⟩ : BufTy).Contents (Elt F) → (⟨S6000x4, .f32⟩ : BufTy).Contents (Elt F))
abbrev oI : HloOp τ sig (Elt F) := StableHlo.reshape main_v10_0 main_v11 (rfl : (.i32 : EltTy) = .i32) shapeCasts_S6000x1_S6000
abbrev oJ : HloOp τ sig (Elt F) := StableHlo.binary main_v11 main_v8_0 main_v12 ((fun a b => concatenate S20000 0 [⟨S6000, a⟩, ⟨S14000, b⟩] concatenates_S6000_S14000_S20000_d0) : (⟨S6000, .i32⟩ : BufTy).Contents (Elt F) → (⟨S14000, .i32⟩ : BufTy).Contents (Elt F) → (⟨S20000, .i32⟩ : BufTy).Contents (Elt F))
abbrev oK : HloOp τ sig (Elt F) := StableHlo.binary main_v10_1 main_v8_1 main_v13 ((fun a b => concatenate S20000x8 0 [⟨S6000x8, a⟩, ⟨S14000x8, b⟩] concatenates_S6000x8_S14000x8_S20000x8_d0) : (⟨S6000x8, .f32⟩ : BufTy).Contents (Elt F) → (⟨S14000x8, .f32⟩ : BufTy).Contents (Elt F) → (⟨S20000x8, .f32⟩ : BufTy).Contents (Elt F))

/-! ## The buffers from step to step -/

abbrev dr (r : Ref sig .tc) : DevRef τ sig := Proc.devRef .tc r

/-- One more buffer written. -/
def put (W : Valuation τ sig (Elt F)) (r : Ref sig .tc) (f : r.ty.Contents (Elt F)) : Valuation τ sig (Elt F) := Function.update W (dr r) f

theorem put_self (W : Valuation τ sig (Elt F)) (r : Ref sig .tc) (f : r.ty.Contents (Elt F)) : put W r f (dr r) = f := Function.update_self ..
theorem put_ne (W : Valuation τ sig (Elt F)) (r : Ref sig .tc) (f : r.ty.Contents (Elt F)) {b : Ref sig .tc} (h : b ≠ r) : put W r f (dr b) = W (dr b) :=
  Function.update_of_ne (StableHlo.devRef_ne_of_ne h) _ _

variable (m : (ℓ : Loc nD τ sig) → Buf (Elt F) ℓ) (ρ : Dev nD → PrngReg) [∀ e, Nonempty (Elt F e)]

def W0 (d : Dev nD) : Valuation τ sig (Elt F) := fun b => m (d, b)
def W1 (d : Dev nD) : Valuation τ sig (Elt F) := oD.result (oC.result (oB.result (oA.result (W0 m d))))
def W2 (d : Dev nD) : Valuation τ sig (Elt F) := put (W1 m d) main_v4 (encTab (F := F) (W1 m d (dr main_v1)) (W1 m d (dr main_v3)))
def W3 (d : Dev nD) : Valuation τ sig (Elt F) := oG.result (oF.result (oE.result (W2 m d)))
def Tb (d : Dev nD) : Vec F S16x256 .f32 := W3 m d (dr main_v4)
def Pt (d : Dev nD) : Vec F S56000 .f32 := W3 m d (dr main_v7)
def C0 (d : Dev nD) : IVec S14000 32 := W3 m d (dr main_v8_0)
def B0 (d : Dev nD) : Vec F S14000x8 .f32 := W3 m d (dr main_v8_1)
def W4 (d : Dev nD) : Valuation τ sig (Elt F) := put (put (W3 m d) main_v8_0 (CLS (Tb m d) (Pt m d))) main_v8_1 (BOX (Tb m d) (Pt m d))
def W5 (d : Dev nD) : Valuation τ sig (Elt F) := oH.result (W4 m d)
def W6 (d : Dev nD) : Valuation τ sig (Elt F) :=
  put (put (W5 m d) main_v10_0 (cls0 (F := F) (W5 m d (dr main_v9)) (W5 m d (dr main_v1)) (W5 m d (dr main_v3))))
    main_v10_1 (box0 (F := F) (W5 m d (dr main_v9)) (W5 m d (dr main_v1)))
def W7 (d : Dev nD) : Valuation τ sig (Elt F) := oK.result (oJ.result (oI.result (W6 m d)))

/-! ## The two regions -/

abbrev adm0 : (p : Fin 2) → (pcfgs (F := F) p).Adm := fun q => (cfgs q).toPCfg_adm
abbrev gh (p : Fin 2) (d : Dev nD) : sProp 𝕄 :=
  iprop(Pipeline.cellsGhost (Pipeline.pin (pcfgs (F := F)) adm0) EP p d ∗ Pipeline.toksInit (Pipeline.pin (pcfgs (F := F)) adm0) EP p d)

theorem v2_self (c : Dev nD) : W2 m c (dr main_v4) = (dat0 (F := F) 0 (fun c b => W1 m c b) c).arrAt 2 cfg0.N :=
  (put_self ..).trans (arr0 0 (fun c b => W1 m c b) c).symm

def seg0 : Pipeline.RegionSeg (pcfgs (F := F)) adm0 (pdats0 0 (fun c b => W1 m c b) adm0) none defs₀ 𝒱₀ (K (F := F)).L (K (F := F)).lev 0 :=
  reg0 0 (fun c b => W1 m c b) adm0 (fun c b => W2 m c b) (v2_self m) (fun c b hb => put_ne _ _ _ hb)

theorem seg0_pre (d : Dev nD) : (seg0 m).pre d = iprop(unscopedBufs d (fun b => W1 m d b) ∗ owesT (F := F) 0 d) := rfl
theorem seg0_post (d : Dev nD) : (seg0 m).post d = iprop(unscopedBufs d (fun b => W2 m d b) ∗ owesT (F := F) 0 d) := rfl

theorem wp_reg0' (d : Dev nD) (Φ : PUnit.{1} → sProp 𝕄) :
    iprop((iprop(boundary (T d) ∗ unscopedBufs d (fun b => W2 m d b) ∗ owesT (F := F) 0 d) -∗ Φ ⟨⟩)
        ∗ boundary (T d) ∗ (unscopedBufs d (fun b => W1 m d b) ∗ owesT (F := F) 0 d) ∗ levAts (K (F := F)).L (K (F := F)).lev ∗ gh (F := F) 0 d)
      ⊢ wp frame (wpE (D (F := F)) 𝒱 (T d) none) Set.univ (.op (.customCall (Pipeline.entry 0) ()) .ret) Φ := by
  have h := Pipeline.RegionSeg.wp (pcfgs (F := F)) adm0 (pdats0 0 (fun c b => W1 m c b) adm0) none cellOf_inj EP defs₀ 𝒱₀
    (K (F := F)).L (K (F := F)).lev (seg0 m) d none (fun _ h => absurd h (Option.not_mem_none _)) (Prog.ret (α := PUnit.{1})) Φ
  rw [seg0_pre, seg0_post] at h
  refine BIBase.Entails.trans ?_ h
  iintro ⟨Hk, Hb, Hp, Hl, Hg1, Hg2⟩
  isplitl [Hk]
  · iintro H; rw [wp_ret]; imodintro; iapply Hk; iexact H
  isplitl [Hb]; · iexact Hb
  isplitl [Hp]; · iexact Hp
  isplitl [Hl]; · iexact Hl
  isplitl [Hg1] <;> iassumption

theorem wp_reg0 (d : Dev nD) (Φ : PUnit.{1} → sProp 𝕄) :
    iprop((iprop(boundary (T d) ∗ unscopedBufs d (fun b => W2 m d b) ∗ owesT (F := F) 0 d) -∗ Φ ⟨⟩)
        ∗ boundary (T d) ∗ (unscopedBufs d (fun b => W1 m d b) ∗ owesT (F := F) 0 d) ∗ levAts (K (F := F)).L (K (F := F)).lev ∗ gh (F := F) 0 d)
      ⊢ wp frame (wpE ((K (F := F)).defs (D (F := F))) 𝒱 (T d) none) Set.univ (Prog.lift (.customCall (SparseCore.inner (Pipeline.entry 0)) ())) Φ :=
  BI.Entails.trans (wp_reg0' m d Φ) ((K (F := F)).wp_liftProg (D (F := F)) 𝒱 (T d) Set.univ none (.op (.customCall (Pipeline.entry 0) ()) .ret) Φ)

theorem v6_3 (c : Dev nD) : W6 m c (dr main_v10_0) = (dat2 (F := F) 1 (fun c b => W5 m c b) c).arrAt 3 cfg2.N :=
  ((put_ne _ _ _ (show main_v10_0 ≠ main_v10_1 by decide)).trans (put_self ..)).trans (arr2_3 1 (fun c b => W5 m c b) c).symm
theorem v6_4 (c : Dev nD) : W6 m c (dr main_v10_1) = (dat2 (F := F) 1 (fun c b => W5 m c b) c).arrAt 4 cfg2.N :=
  (put_self ..).trans (arr2_4 1 (fun c b => W5 m c b) c).symm

def seg2 : Pipeline.RegionSeg (pcfgs (F := F)) adm0 (pdats2 1 (fun c b => W5 m c b) adm0) none defs₀ 𝒱₀ (K (F := F)).L (K (F := F)).lev 1 :=
  reg2 1 (fun c b => W5 m c b) adm0 (fun c b => W6 m c b) (v6_3 m) (v6_4 m) (fun c b hb hb' => (put_ne _ _ _ hb').trans (put_ne _ _ _ hb))

theorem seg2_pre (d : Dev nD) : (seg2 m).pre d = iprop(unscopedBufs d (fun b => W5 m d b) ∗ owesT (F := F) 1 d) := rfl
theorem seg2_post (d : Dev nD) : (seg2 m).post d = iprop(unscopedBufs d (fun b => W6 m d b) ∗ owesT (F := F) 1 d) := rfl

theorem wp_reg2' (d : Dev nD) (Φ : PUnit.{1} → sProp 𝕄) :
    iprop((iprop(boundary (T d) ∗ unscopedBufs d (fun b => W6 m d b) ∗ owesT (F := F) 1 d) -∗ Φ ⟨⟩)
        ∗ boundary (T d) ∗ (unscopedBufs d (fun b => W5 m d b) ∗ owesT (F := F) 1 d) ∗ levAts (K (F := F)).L (K (F := F)).lev ∗ gh (F := F) 1 d)
      ⊢ wp frame (wpE (D (F := F)) 𝒱 (T d) none) Set.univ (.op (.customCall (Pipeline.entry 1) ()) .ret) Φ := by
  have h := Pipeline.RegionSeg.wp (pcfgs (F := F)) adm0 (pdats2 1 (fun c b => W5 m c b) adm0) none cellOf_inj EP defs₀ 𝒱₀
    (K (F := F)).L (K (F := F)).lev (seg2 m) d none (fun _ h => absurd h (Option.not_mem_none _)) (Prog.ret (α := PUnit.{1})) Φ
  rw [seg2_pre, seg2_post] at h
  refine BIBase.Entails.trans ?_ h
  iintro ⟨Hk, Hb, Hp, Hl, Hg1, Hg2⟩
  isplitl [Hk]
  · iintro H; rw [wp_ret]; imodintro; iapply Hk; iexact H
  isplitl [Hb]; · iexact Hb
  isplitl [Hp]; · iexact Hp
  isplitl [Hl]; · iexact Hl
  isplitl [Hg1] <;> iassumption

theorem wp_reg2 (d : Dev nD) (Φ : PUnit.{1} → sProp 𝕄) :
    iprop((iprop(boundary (T d) ∗ unscopedBufs d (fun b => W6 m d b) ∗ owesT (F := F) 1 d) -∗ Φ ⟨⟩)
        ∗ boundary (T d) ∗ (unscopedBufs d (fun b => W5 m d b) ∗ owesT (F := F) 1 d) ∗ levAts (K (F := F)).L (K (F := F)).lev ∗ gh (F := F) 1 d)
      ⊢ wp frame (wpE ((K (F := F)).defs (D (F := F))) 𝒱 (T d) none) Set.univ (Prog.lift (.customCall (SparseCore.inner (Pipeline.entry 1)) ())) Φ :=
  BI.Entails.trans (wp_reg2' m d Φ) ((K (F := F)).wp_liftProg (D (F := F)) 𝒱 (T d) Set.univ none (.op (.customCall (Pipeline.entry 1) ()) .ret) Φ)

/-! ## The SparseCore call's arrays out of the buffers, and back -/

theorem mem_uc (r : Ref sig .tc) (h : (dr r).isScoped = false) : dr r ∈ Pipeline.ucRefs τ sig :=
  Finset.mem_filter.mpr ⟨StableHlo.devRef_mem_tcRefs r, fun h' => Bool.false_ne_true (h.symm.trans h')⟩

/-- The buffers besides the call's four arrays. -/
def othersR : Finset (DevRef τ sig) := ((((Pipeline.ucRefs τ sig).erase (dr main_v4)).erase (dr main_v7)).erase (dr main_v8_0)).erase (dr main_v8_1)

theorem held_four (d : Dev nD) (W : Valuation τ sig (Elt F)) :
    (StableHlo.held (T d) (Pipeline.ucRefs τ sig) W : sProp 𝕄)
      = iprop((tLoc d ↦{fullShare} W (dr main_v4)) ∗ (pLoc d ↦{fullShare} W (dr main_v7)) ∗ (cLoc d ↦{fullShare} W (dr main_v8_0))
        ∗ (bLoc d ↦{fullShare} W (dr main_v8_1)) ∗ StableHlo.held (T d) othersR W) := by
  have hne : ∀ {a b : Ref sig .tc}, a ≠ b → dr a ≠ dr b := fun h => StableHlo.devRef_ne_of_ne h
  unfold StableHlo.held othersR
  rw [SparseCore.bigSep_erase' (mem_uc main_v4 rfl),
    SparseCore.bigSep_erase' (Finset.mem_erase.mpr ⟨hne (show main_v7 ≠ main_v4 by decide), mem_uc main_v7 rfl⟩),
    SparseCore.bigSep_erase' (Finset.mem_erase.mpr ⟨hne (show main_v8_0 ≠ main_v7 by decide), Finset.mem_erase.mpr ⟨hne (show main_v8_0 ≠ main_v4 by decide), mem_uc main_v8_0 rfl⟩⟩),
    SparseCore.bigSep_erase' (Finset.mem_erase.mpr ⟨hne (show main_v8_1 ≠ main_v8_0 by decide), Finset.mem_erase.mpr ⟨hne (show main_v8_1 ≠ main_v7 by decide), Finset.mem_erase.mpr ⟨hne (show main_v8_1 ≠ main_v4 by decide), mem_uc main_v8_1 rfl⟩⟩⟩)]

theorem held_others (d : Dev nD) : (StableHlo.held (T d) othersR (W3 m d) : sProp 𝕄) = StableHlo.held (T d) othersR (W4 m d) :=
  StableHlo.held_congr _ fun b hb => by
    unfold othersR at hb
    simp only [Finset.mem_erase] at hb
    unfold W4 put
    rw [Function.update_of_ne hb.1, Function.update_of_ne hb.2.1]

theorem w4_t (d : Dev nD) : W4 m d (dr main_v4) = Tb m d :=
  (put_ne _ _ _ (show main_v4 ≠ main_v8_1 by decide)).trans (put_ne _ _ _ (show main_v4 ≠ main_v8_0 by decide))
theorem w4_p (d : Dev nD) : W4 m d (dr main_v7) = Pt m d :=
  (put_ne _ _ _ (show main_v7 ≠ main_v8_1 by decide)).trans (put_ne _ _ _ (show main_v7 ≠ main_v8_0 by decide))
theorem w4_c (d : Dev nD) : W4 m d (dr main_v8_0) = CLS (Tb m d) (Pt m d) :=
  (put_ne _ _ _ (show main_v8_0 ≠ main_v8_1 by decide)).trans (put_self ..)
theorem w4_b (d : Dev nD) : W4 m d (dr main_v8_1) = BOX (Tb m d) (Pt m d) := put_self ..

/-! ## The launch's ghost state -/

def u₀ : UU := (initOf (K (F := F)).hsCells (K (F := F)).hsToks,
  (initOf (Pipeline.cells (nD := nD) (τ := τ) (Pipeline.pin (pcfgs (F := F)) adm0) cellOf_inj) (Pipeline.launchToks (nD := nD) (τ := τ) (Pipeline.pin (pcfgs (F := F)) adm0) cellOf_inj), 1))

abbrev gho (d : Dev nD) : sProp 𝕄 := iprop(gh (F := F) 0 d ∗ gh (F := F) 1 d)

theorem fund : (ownU (u₀ (F := F)) : sProp 𝕄)
    ⊢ |={Set.univ}=> iprop(BI.own (EH (initOf (K (F := F)).hsCells (K (F := F)).hsToks)) ∗ (bigSep Finset.univ gho)
        ∗ bigSep Finset.univ fun thr : Thread nD τ => bigSep Finset.univ fun q : Fin 1 => (P (Tb m) (Pt m) (C0 m) (B0 m)).x q thr) := by
  unfold u₀
  iintro Hu
  ihave H := (ownU_pair (initOf (K (F := F)).hsCells (K (F := F)).hsToks) _) $$ Hu
  icases H with ⟨HH, HP⟩
  ihave HQ := (show BI.own (embR (initOf (Pipeline.cells (nD := nD) (τ := τ) (Pipeline.pin (pcfgs (F := F)) adm0) cellOf_inj)
        (Pipeline.launchToks (nD := nD) (τ := τ) (Pipeline.pin (pcfgs (F := F)) adm0) cellOf_inj), 1))
      ⊢ (BI.own (EP (initOf (Pipeline.cells (nD := nD) (τ := τ) (Pipeline.pin (pcfgs (F := F)) adm0) cellOf_inj)
        (Pipeline.launchToks (nD := nD) (τ := τ) (Pipeline.pin (pcfgs (F := F)) adm0) cellOf_inj))) : sProp 𝕄) from BI.Entails.refl _) $$ HP
  imod (Pipeline.fund_ghost (Pipeline.pin (pcfgs (F := F)) adm0) EP cellOf_inj) $$ HQ with ⟨Hc, Ht⟩
  imodintro
  isplitl [HH]; · iexact HH
  isplitl [Hc Ht]
  · iapply (show iprop((bigSep Finset.univ fun c : Dev nD => bigSep Finset.univ fun p => Pipeline.cellsGhost (Pipeline.pin (pcfgs (F := F)) adm0) EP p c)
        ∗ (bigSep Finset.univ fun c : Dev nD => bigSep Finset.univ fun p => Pipeline.toksInit (Pipeline.pin (pcfgs (F := F)) adm0) EP p c))
        ⊢ (bigSep Finset.univ gho : sProp 𝕄) from by
      rw [← bigSep_sep']
      refine bigSep_mono fun d _ => ?_
      rw [← bigSep_sep']
      exact Entails.of_eq (bigSep_fin_two _))
    isplitl [Hc] <;> iassumption
  · rw [show (bigSep Finset.univ fun thr : Thread nD τ => bigSep Finset.univ fun q : Fin 1 => (P (Tb m) (Pt m) (C0 m) (B0 m)).x q thr) = bigSep Finset.univ fun _ => iprop(emp) from
      bigSep_congr fun _ _ => bigSep_univ_of_subsingleton (0 : Fin 1), show (bigSep Finset.univ fun _ : Thread nD τ => (iprop(emp) : sProp 𝕄)) = iprop(emp) from bigSep_emp_const _]
    iempintro

/-! ## The main thread -/

theorem wp_op {op : HloOp τ sig (Elt F)} (hS : op.bufs ⊆ StableHlo.tcRefs τ sig) (d : Dev nD) (W : Valuation τ sig (Elt F)) (Φ : PUnit.{1} → sProp 𝕄)
    (hf : op.fresh = ∅ := by first | rfl | decide) :
    iprop((iprop(boundary (T d) ∗ StableHlo.held (T d) (Pipeline.ucRefs τ sig) (op.result W)) -∗ Φ ⟨⟩)
        ∗ boundary (T d) ∗ StableHlo.held (T d) (Pipeline.ucRefs τ sig) W)
      ⊢ wp frame (wpE ((K (F := F)).defs (D (F := F))) 𝒱 (T d) none) Set.univ (hlo rfl op (fun _ => .ret ⟨⟩)) Φ := by
  iintro ⟨Hk, Hb, Hh⟩
  iapply (StableHlo.wp_hlo_within 𝒱 (T d) none Set.univ (Pipeline.sub_ucRefs op hS) hf) $$ [Hb Hh]
  · isplitl [Hb] <;> iassumption
  iintro H
  rw [wp_ret]; imodintro
  iapply Hk; iexact H

abbrev FIN (d : Dev nD) : sProp 𝕄 := StableHlo.held (T d) (Pipeline.ucRefs τ sig) (W7 m d)

end Cert.KernelIdeal.Enc
-- ==== Proof.Main.lean ====
/-
  The main thread's run and what every run of the program ends with.
-/
module

public import proofs.«01_k».proof.Proof.Run
public import Idealize.ShloMosaic.Lib.SparseCore.Quiescent

@[expose] public section

noncomputable section

namespace Cert.KernelIdeal.Enc

open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg) [∀ e, Nonempty (Elt F e)]

theorem hub (d : Dev nD) (W : Valuation τ sig (Elt F)) : (unscopedBufs d (fun b => W b) : sProp 𝕄) = StableHlo.held (T d) (Pipeline.ucRefs τ sig) W :=
  Pipeline.unscopedBufs_held d W
theorem w0_eq (d : Dev nD) (b : Ref sig .tc) : m ((SparseCore.T d).loc b) = W0 m d b := rfl
theorem hub0 (d : Dev nD) : (unscopedBufs d (fun b => m ((SparseCore.T d).loc b)) : sProp 𝕄) = StableHlo.held (T d) (Pipeline.ucRefs τ sig) (W0 m d) :=
  (congrArg (unscopedBufs d) (funext fun b => w0_eq m d b)).trans (hub d (W0 m d))
theorem tc0 (d : Dev nD) : ∃ R, ((K (F := F)).tcSt EH d 0 : sProp 𝕄) = iprop(owesT (F := F) 0 d ∗ R) := ⟨_, rfl⟩
theorem tc1 (d : Dev nD) : ∃ R, ((K (F := F)).tcSt EH d 1 : sProp 𝕄) = iprop(owesT (F := F) 1 d ∗ R) := ⟨_, rfl⟩

/-- @main on a device's TensorCore. -/
theorem hmain (κ : GSem nD τ sig → ℕ) (d : Dev nD) :
    iprop((K (F := F)).ctx EH (P (Tb m) (Pt m) (C0 m) (B0 m)) κ ∗ (K (F := F)).tcSt EH d 0 ∗ (K (F := F)).tcRes m ρ d ∗ gho (F := F) d)
      ⊢ wp frame (wpE ((K (F := F)).defs (D (F := F))) 𝒱 (T d) none) Set.univ (main d)
          fun _ => iprop((K (F := F)).tcSt EH d 1 ∗ FIN m d ∗ (K (F := F)).tcEnd d) := by
  obtain ⟨R0, h0⟩ := tc0 (F := F) d
  obtain ⟨R1, h1⟩ := tc1 (F := F) d
  unfold SparseCore.Cfg.tcRes SparseCore.Cfg.tcEnd
  rw [hub0 m d]
  simp only [main, wp_bind, wp_pure]
  iintro ⟨#Hctx, Hst, ⟨Hb, Hh, Hts, -⟩, Hg0, Hg1⟩
  -- the arrays' columns
  iapply (wp_op (op := oA) (StableHlo.reshape_bufs_sub ..) d (W0 m d))
  isplitr [Hb Hh]; rotate_left; · isplitl [Hb] <;> iassumption
  iintro ⟨Hb, Hh⟩
  iapply (wp_op (op := oB) (StableHlo.unary_bufs_sub ..) d _)
  isplitr [Hb Hh]; rotate_left; · isplitl [Hb] <;> iassumption
  iintro ⟨Hb, Hh⟩
  iapply (wp_op (op := oC) (StableHlo.reshape_bufs_sub ..) d _)
  isplitr [Hb Hh]; rotate_left; · isplitl [Hb] <;> iassumption
  iintro ⟨Hb, Hh⟩
  iapply (wp_op (op := oD) (StableHlo.unary_bufs_sub ..) d _)
  isplitr [Hb Hh]; rotate_left; · isplitl [Hb] <;> iassumption
  iintro ⟨Hb, Hh⟩
  -- the table
  ihave Hst' := (Entails.of_eq h0) $$ Hst
  icases Hst' with ⟨Ho, HR⟩
  ihave Hlev := (SparseCore.Cfg.ctx_levAts κ) $$ Hctx
  iapply (wp_reg0 m d _)
  isplitr [Hb Hh Ho Hlev Hg0]; rotate_left
  · isplitl [Hb]; · iexact Hb
    isplitl [Hh Ho]
    · isplitl [Hh]; · iapply (Entails.of_eq (hub d (W1 m d)).symm); iexact Hh
      iexact Ho
    isplitl [Hlev] <;> iassumption
  iintro ⟨Hb, Hh, Ho⟩
  ihave Hst := (Entails.of_eq h0.symm) $$ [Ho HR]
  · isplitl [Ho] <;> iassumption
  ihave Hh := (Entails.of_eq (hub d (W2 m d))) $$ Hh
  -- the points
  iapply (wp_op (op := oE) (StableHlo.unary_bufs_sub ..) d (W2 m d))
  isplitr [Hb Hh]; rotate_left; · isplitl [Hb] <;> iassumption
  iintro ⟨Hb, Hh⟩
  iapply (wp_op (op := oF) (StableHlo.unary_bufs_sub ..) d _)
  isplitr [Hb Hh]; rotate_left; · isplitl [Hb] <;> iassumption
  iintro ⟨Hb, Hh⟩
  iapply (wp_op (op := oG) (StableHlo.reshape_bufs_sub ..) d _)
  isplitr [Hb Hh]; rotate_left; · isplitl [Hb] <;> iassumption
  iintro ⟨Hb, Hh⟩
  -- the SparseCore call
  ihave Hh := (Entails.of_eq (congrArg (StableHlo.held (T d) (Pipeline.ucRefs τ sig)) (show oG.result (oF.result (oE.result (W2 m d))) = W3 m d from rfl))) $$ Hh
  ihave Hf := (Entails.of_eq (held_four d (W3 m d))) $$ Hh
  icases Hf with ⟨Ht, Hp, Hc, Hx, Hoth⟩
  ihave Hs := (st_of (Tb m) (Pt m) (C0 m) (B0 m) d) $$ [Ht Hp Hc Hx]
  · isplitl [Ht]; · iexact Ht
    isplitl [Hp]; · iexact Hp
    isplitl [Hc]; · iexact Hc
    iexact Hx
  icases Hs with ⟨Hkeep, Hstc⟩
  iapply ((K (F := F)).wp_run (D (F := F)) 𝒱 (EH := EH) (P := P (Tb m) (Pt m) (C0 m) (B0 m)) κ d 0)
  isplitr; · iexact Hctx
  isplitl [Hst]; · iexact Hst
  isplitl [Hstc]; · iexact Hstc
  iintro ⟨Hst, Hdn⟩
  ihave Hr := (of_dn (Tb m) (Pt m) (C0 m) (B0 m) d) $$ [Hkeep Hdn]
  · isplitl [Hkeep] <;> iassumption
  icases Hr with ⟨Ht, Hp, Hc, Hx⟩
  ihave Hoth := (Entails.of_eq (held_others m d)) $$ Hoth
  ihave Hh := (show iprop((tLoc d ↦{fullShare} Tb m d) ∗ (pLoc d ↦{fullShare} Pt m d) ∗ (cLoc d ↦{fullShare} CLS (Tb m d) (Pt m d))
      ∗ (bLoc d ↦{fullShare} BOX (Tb m d) (Pt m d)) ∗ StableHlo.held (T d) othersR (W4 m d))
      ⊢ (StableHlo.held (T d) (Pipeline.ucRefs τ sig) (W4 m d) : sProp 𝕄) from by
        rw [held_four d (W4 m d), w4_t, w4_p, w4_c, w4_b]) $$ [Ht Hp Hc Hx Hoth]
  · isplitl [Ht]; · iexact Ht
    isplitl [Hp]; · iexact Hp
    isplitl [Hc]; · iexact Hc
    isplitl [Hx] <;> iassumption
  iapply (wp_op (op := oH) (StableHlo.unary_bufs_sub ..) d (W4 m d))
  isplitr [Hb Hh]; rotate_left; · isplitl [Hb] <;> iassumption
  iintro ⟨Hb, Hh⟩
  -- the first points' classes and boxes
  ihave Hst' := (show (K (F := F)).tcSt EH d ((0 : Fin 1).val + 1) ⊢ (iprop(owesT (F := F) 1 d ∗ R1) : sProp 𝕄) from Entails.of_eq h1) $$ Hst
  icases Hst' with ⟨Ho, HR⟩
  ihave Hlev := (SparseCore.Cfg.ctx_levAts κ) $$ Hctx
  iapply (wp_reg2 m d _)
  isplitr [Hb Hh Ho Hlev Hg1]; rotate_left
  · isplitl [Hb]; · iexact Hb
    isplitl [Hh Ho]
    · isplitl [Hh]; · iapply (Entails.of_eq (hub d (W5 m d)).symm); iexact Hh
      iexact Ho
    isplitl [Hlev] <;> iassumption
  iintro ⟨Hb, Hh, Ho⟩
  ihave Hst := (Entails.of_eq h1.symm) $$ [Ho HR]
  · isplitl [Ho] <;> iassumption
  ihave Hh := (Entails.of_eq (hub d (W6 m d))) $$ Hh
  iapply (wp_op (op := oI) (StableHlo.reshape_bufs_sub ..) d (W6 m d))
  isplitr [Hb Hh]; rotate_left; · isplitl [Hb] <;> iassumption
  iintro ⟨Hb, Hh⟩
  iapply (wp_op (op := oJ) (StableHlo.binary_bufs_sub ..) d _)
  isplitr [Hb Hh]; rotate_left; · isplitl [Hb] <;> iassumption
  iintro ⟨Hb, Hh⟩
  iapply (wp_op (op := oK) (StableHlo.binary_bufs_sub ..) d _)
  isplitr [Hb Hh]; rotate_left; · isplitl [Hb] <;> iassumption
  iintro ⟨Hb, Hh⟩
  imodintro
  isplitl [Hst]; · iexact Hst
  isplitl [Hh]; · iexact Hh
  isplitl [Hb] <;> iassumption

/-! ## What every run ends with -/

def fq (d : Dev nD) (s' : Phys nD τ sig (Elt F)) : Prop := ∀ b ∈ Pipeline.ucRefs τ sig, s'.mem.mem (d, b) = W7 m d b

theorem hfin1 (d : Dev nD) (s' : Phys nD τ sig (Elt F)) (b : DevRef τ sig) (hb : b ∈ Pipeline.ucRefs τ sig) :
    iprop(FIN m d ∗ SI s') ⊢ (⌜s'.mem.mem (d, b) = W7 m d b⌝ : sProp 𝕄) := by
  iintro ⟨Hh, HSI⟩
  ihave Hb := (show StableHlo.held (T d) (Pipeline.ucRefs τ sig) (W7 m d) ⊢ (((d, b) : Loc nD τ sig) ↦{fullShare} W7 m d b : sProp 𝕄) from by
    unfold StableHlo.held; exact bigSep_elim hb) $$ Hh
  ihave H := (SI_pointsTo_agree (st := s') (ℓ := ((d, b) : Loc nD τ sig)) (I := Finset.univ) (q := fullShare) (f := W7 m d b)) $$ [HSI Hb]
  · isplitl [HSI] <;> iassumption
  icases H with %h1
  ipureintro
  exact funext fun i => h1 i (Finset.mem_univ _)

theorem hfin (d : Dev nD) (s' : Phys nD τ sig (Elt F)) : iprop(FIN m d ∗ SI s') ⊢ (⌜fq m d s'⌝ : sProp 𝕄) := by
  by_cases h : fq m d s'
  · iintro -; ipureintro; exact h
  · unfold fq at h
    push Not at h
    obtain ⟨b, hb, hne⟩ := h
    iintro H
    ihave Hf := (hfin1 m d s' b hb) $$ H
    icases Hf with %hf
    exact absurd hf hne

def QC : PUnit × MemSt nD τ sig (Elt F) → Prop := fun r => (∀ (c : Dev nD), ∀ b ∈ Pipeline.ucRefs τ sig, r.2.mem (c, b) = W7 m c b) ∧ r.2.sem = fun _ => 0

/-- Every run ends with every semaphore at zero and the buffers as `W7` says. -/
theorem run_main (hP : ∀ d, PtsOK (F := F) (Pt m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Tb m) (Pt m) (C0 m) (B0 m)) (A := ∅) facts v₀
    (fun q hq => match q with | 0 => nomatch hq)
    (fun q _ => match q with | 0 => tileObl (Tb m) (Pt m) (C0 m) (B0 m) facts hP)
    (fun q _ => match q with | 0 => SparseCore.Cfg.VecSplit.of_plain (vecSplit (Tb m) (Pt m) (C0 m) (B0 m)))
    m ρ main (gho (F := F)) (FIN m) (u₀ (F := F)) (sep_elim_left.trans (fund m)) (hmain m ρ) (fq m) (hfin m) (QC m) (fun _ h hz => ⟨h, hz⟩)

end Cert.KernelIdeal.Enc
-- ==== Proof.Pre.lean ====
/-
  What the precondition says: every point's scene number is one of 0 to 3, and they don't decrease.
-/
module

public import proofs.«01_k».proof.Defs
public import proofs.«01_k».proof.Proof.Gen.Pre_pre
public import Idealize.ShloMosaic.Lib.ReduceAll
public import Idealize.ShloMosaic.Lib.Pointwise

@[expose] public section

noncomputable section

namespace Cert.Pre_pre

open Idealize.ShloMosaic

variable {F : FTy → Type} [FloatOps F]

/-- A point's scene number, as a word. -/
def scene (a0 : FVec F S20000x4 .f32) (i : Fin 20000) : BitVec 32 := FloatOps.fptosi 32 (a0 (ix2 i 0))

instance : Subsingleton S_.Idx := ⟨fun a b => funext fun i => i.elim0⟩

theorem and_one {a b : BitVec 1} (h : IntOp.andi a b = 1#1) : a = 1#1 ∧ b = 1#1 := by
  revert a b; decide

theorem sge_word {v : BitVec 32} (h : IntOp.cmpi .sge v 0#32 = 1#1) (h' : IntOp.cmpi .slt v 4#32 = 1#1) : v.toNat ≤ 3 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h h'
  omega

theorem sle_word {v w : BitVec 32} (hv : v.toNat ≤ 3) (hw : w.toNat ≤ 3) (h : IntOp.cmpi .sle v w = 1#1) : v.toNat ≤ w.toNat := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond] at h
  omega

variable {a0 : FVec F S20000x4 .f32} {a1 a2 : FVec F S4x64x8 .f32}

theorem scene_eq [Facts] (i : S20000.Idx) (h1 : S20000x4.Slices ![0, 0] S20000x1) (h2 : S20000x1.ShapeCasts S20000) :
    fptosi 32 (shapeCast S20000 (extractStridedSlice S20000x1 ![0, 0] a0 h1) h2) i = scene a0 (i 0) := by
  unfold scene
  pointwise

theorem scene_le [Facts] (h : fn a0 a1 a2 = fun _ => 1#1) (i : Fin 20000) : (scene a0 i).toNat ≤ 3 := by
  have e := congrFun h ix0
  simp only [fn, andi] at e
  obtain ⟨e, -⟩ := and_one e
  obtain ⟨e1, -⟩ := and_one e
  obtain ⟨e1, e2⟩ := and_one e1
  have g1 := Host.reduce_andi_all _ _ _ _ _ e1 (ix1 i)
  have g2 := Host.reduce_andi_all _ _ _ _ _ e2 (ix1 i)
  simp only [cmpi] at g1 g2
  rw [scene_eq] at g1 g2
  exact sge_word g1 g2

theorem scene_succ [Facts] (h : fn a0 a1 a2 = fun _ => 1#1) (i : ℕ) (hi : i + 1 < 20000) : (scene a0 ⟨i, by omega⟩).toNat ≤ (scene a0 ⟨i + 1, hi⟩).toNat := by
  have e := congrFun h ix0
  simp only [fn, andi] at e
  obtain ⟨e, -⟩ := and_one e
  obtain ⟨-, e2⟩ := and_one e
  have g := Host.reduce_andi_all _ _ _ _ _ e2 (ix1 ⟨i, by omega⟩)
  refine sle_word (scene_le h _) (scene_le h _) ?_
  rw [← g]
  unfold scene
  pointwise
  simp only [Nat.add_comm]

theorem scene_mono [Facts] (h : fn a0 a1 a2 = fun _ => 1#1) (i : ℕ) (j : ℕ) (hij : i ≤ j) (hj : j < 20000) :
    (scene a0 ⟨i, by omega⟩).toNat ≤ (scene a0 ⟨j, hj⟩).toNat := by
  induction j with
  | zero => exact le_of_eq (by congr 3; omega)
  | succ j ih =>
    rcases Nat.lt_or_ge i (j + 1) with hl | hg
    · exact (ih (by omega) (by omega)).trans (scene_succ h j hj)
    · exact le_of_eq (by congr 3; omega)

/-- An enlarged box has its box's center and its turn. -/
theorem box_same {a0 : FVec Ideal S20000x4 .f32} {a1 a2 : FVec Ideal S4x64x8 .f32} [Facts] (h : fn a0 a1 a2 = fun _ => 1#1) (s : Fin 4) (j : Fin 64) :
    (∀ k : Fin 3, a2 (ix3 s j ⟨k.val, by omega⟩) = a1 (ix3 s j ⟨k.val, by omega⟩)) ∧ a2 (ix3 s j 6) = a1 (ix3 s j 6) := by
  have e := congrFun h ix0
  simp only [fn, andi] at e
  obtain ⟨-, e⟩ := and_one e
  obtain ⟨e1, e2⟩ := and_one e
  have key : ∀ x y : EReal, BitVec.ofBool (decide (x = y)) = 1#1 → x = y := by
    intro x y hxy
    by_contra hne
    rw [decide_eq_false hne] at hxy
    exact absurd hxy (by decide)
  constructor
  · intro k
    have g := Host.reduce_andi_all _ _ _ _ _ e1 (ix3 s j k)
    refine key _ _ (Eq.trans ?_ g)
    pointwise
  · have g := Host.reduce_andi_all _ _ _ _ _ e2 (ix2 s j)
    refine key _ _ (Eq.trans ?_ g)
    pointwise

end Cert.Pre_pre
-- ==== Proof.Vals.lean ====
/-
  The buffers at the end of a run, in terms of the arguments: the arguments themselves, the SparseCore call's two
  arguments, the two results. And from the precondition, that the points the SparseCore reads are in order.
-/
module

public import proofs.«01_k».proof.Proof.Main
public import proofs.«01_k».proof.Proof.Pre
public import Idealize.ShloMosaic.Lib.Pointwise

@[expose] public section

noncomputable section

namespace Cert.KernelIdeal.Enc

open Cert.KernelIdeal Cert.KernelIdeal.Gen
open Idealize.ShloMosaic Idealize.ShloMosaic.TcCoe

variable {F : FTy → Type} [FloatOps F]

variable (m : (ℓ : Loc nD τ sig) → Buf (Elt F) ℓ) [∀ e, Nonempty (Elt F e)]

/-- The points. -/
def A0 (d : Dev nD) : FVec F S20000x4 .f32 := m (d, dr main_arg0)
/-- The boxes. -/
def A1 (d : Dev nD) : FVec F S4x64x8 .f32 := m (d, dr main_arg1)
/-- The widened boxes. -/
def A2 (d : Dev nD) : FVec F S4x64x8 .f32 := m (d, dr main_arg2)

/-- The boxes side by side, a box a column. -/
def cols (a : FVec F S4x64x8 .f32) : FVec F S8x256 .f32 :=
  transpose S8x256 [1, 0] (shapeCast S256x8 a shapeCasts_S4x64x8_S256x8) transposes_S256x8_S8x256_1_0

/-- The SparseCore's points, a coordinate after the other. -/
def scPts (a : FVec F S20000x4 .f32) : FVec F S56000 .f32 :=
  shapeCast S56000 (transpose S4x14000 [1, 0] (extractStridedSlice S14000x4 ![6000, 0] a slices_S20000x4_S14000x4_6000_0)
    transposes_S14000x4_S4x14000_1_0) shapeCasts_S4x14000_S56000

/-- The TensorCore's points. -/
def tcPts (a : FVec F S20000x4 .f32) : FVec F S6000x4 .f32 := extractStridedSlice S6000x4 ![0, 0] a slices_S20000x4_S6000x4_0_0

theorem w1_v1 (d : Dev nD) : W1 m d (dr main_v1) = cols (A1 m d) := by
  unfold W1
  simp (disch := decide) only [StableHlo.unary_result', StableHlo.unary_result_ne', StableHlo.reshape_result', StableHlo.reshape_result_ne']
  rfl
theorem w1_v3 (d : Dev nD) : W1 m d (dr main_v3) = cols (A2 m d) := by
  unfold W1
  simp (disch := decide) only [StableHlo.unary_result', StableHlo.unary_result_ne', StableHlo.reshape_result', StableHlo.reshape_result_ne']
  rfl
theorem w1_ne (d : Dev nD) (r : Ref sig .tc) (h0 : r ≠ main_v0) (h1 : r ≠ main_v1) (h2 : r ≠ main_v2) (h3 : r ≠ main_v3) :
    W1 m d (dr r) = m (d, dr r) := by
  unfold W1
  rw [StableHlo.unary_result_ne' _ _ _ _ h3, StableHlo.reshape_result_ne' _ _ _ _ _ h2, StableHlo.unary_result_ne' _ _ _ _ h1,
    StableHlo.reshape_result_ne' _ _ _ _ _ h0]
  rfl
theorem w2_ne (d : Dev nD) (r : Ref sig .tc) (h : r ≠ main_v4) : W2 m d (dr r) = W1 m d (dr r) := put_ne _ _ _ h
theorem w3_ne (d : Dev nD) (r : Ref sig .tc) (h5 : r ≠ main_v5) (h6 : r ≠ main_v6) (h7 : r ≠ main_v7) : W3 m d (dr r) = W2 m d (dr r) := by
  unfold W3
  rw [StableHlo.reshape_result_ne' _ _ _ _ _ h7, StableHlo.unary_result_ne' _ _ _ _ h6, StableHlo.unary_result_ne' _ _ _ _ h5]
theorem w4_ne (d : Dev nD) (r : Ref sig .tc) (h : r ≠ main_v8_0) (h' : r ≠ main_v8_1) : W4 m d (dr r) = W3 m d (dr r) :=
  (put_ne _ _ _ h').trans (put_ne _ _ _ h)
theorem w5_ne (d : Dev nD) (r : Ref sig .tc) (h : r ≠ main_v9) : W5 m d (dr r) = W4 m d (dr r) := by
  unfold W5
  rw [StableHlo.unary_result_ne' _ _ _ _ h]
theorem w6_ne (d : Dev nD) (r : Ref sig .tc) (h : r ≠ main_v10_0) (h' : r ≠ main_v10_1) : W6 m d (dr r) = W5 m d (dr r) :=
  (put_ne _ _ _ h').trans (put_ne _ _ _ h)
theorem w7_ne (d : Dev nD) (r : Ref sig .tc) (h : r ≠ main_v11) (h' : r ≠ main_v12) (h'' : r ≠ main_v13) : W7 m d (dr r) = W6 m d (dr r) := by
  unfold W7
  rw [StableHlo.binary_result_ne' _ _ _ _ _ h'', StableHlo.binary_result_ne' _ _ _ _ _ h', StableHlo.reshape_result_ne' _ _ _ _ _ h]

/-- A buffer that nothing writes. -/
theorem w7_arg (d : Dev nD) (r : Ref sig .tc) (h : r = main_arg0 ∨ r = main_arg1 ∨ r = main_arg2) : W7 m d (dr r) = m (d, dr r) := by
  rcases h with h | h | h <;> subst h <;>
    rw [w7_ne _ _ _ (by decide) (by decide) (by decide), w6_ne _ _ _ (by decide) (by decide), w5_ne _ _ _ (by decide),
      w4_ne _ _ _ (by decide) (by decide), w3_ne _ _ _ (by decide) (by decide) (by decide), w2_ne _ _ _ (by decide),
      w1_ne _ _ _ (by decide) (by decide) (by decide) (by decide)]

theorem Tb_eq (d : Dev nD) : Tb m d = encTab (F := F) (cols (A1 m d)) (cols (A2 m d)) := by
  unfold Tb
  rw [w3_ne _ _ _ (by decide) (by decide) (by decide), ← w1_v1, ← w1_v3]
  exact put_self ..

theorem Pt_eq (d : Dev nD) : Pt m d = scPts (A0 m d) := by
  have e : W2 m d (dr main_arg0) = A0 m d := by
    rw [w2_ne _ _ _ (by decide), w1_ne _ _ _ (by decide) (by decide) (by decide) (by decide)]; rfl
  unfold Pt W3
  simp (disch := decide) only [StableHlo.unary_result', StableHlo.unary_result_ne', StableHlo.reshape_result', StableHlo.reshape_result_ne']
  rw [e]
  rfl

theorem w5_v9 (d : Dev nD) : W5 m d (dr main_v9) = tcPts (A0 m d) := by
  have e : W4 m d (dr main_arg0) = A0 m d := by
    rw [w4_ne _ _ _ (by decide) (by decide), w3_ne _ _ _ (by decide) (by decide) (by decide), w2_ne _ _ _ (by decide),
      w1_ne _ _ _ (by decide) (by decide) (by decide) (by decide)]; rfl
  unfold W5
  rw [StableHlo.unary_result', e]
  rfl
theorem w5_v1 (d : Dev nD) : W5 m d (dr main_v1) = cols (A1 m d) := by
  rw [w5_ne _ _ _ (by decide), w4_ne _ _ _ (by decide) (by decide), w3_ne _ _ _ (by decide) (by decide) (by decide), w2_ne _ _ _ (by decide), w1_v1]
theorem w5_v3 (d : Dev nD) : W5 m d (dr main_v3) = cols (A2 m d) := by
  rw [w5_ne _ _ _ (by decide), w4_ne _ _ _ (by decide) (by decide), w3_ne _ _ _ (by decide) (by decide) (by decide), w2_ne _ _ _ (by decide), w1_v3]

/-- The classes the kernel gives. -/
def clsAll (x : FVec F S20000x4 .f32) (g e : FVec F S4x64x8 .f32) : IVec S20000 32 :=
  concatenate S20000 0 [⟨S6000, shapeCast S6000 (cls0 (F := F) (tcPts x) (cols g) (cols e)) shapeCasts_S6000x1_S6000⟩,
    ⟨S14000, CLS (encTab (F := F) (cols g) (cols e)) (scPts x)⟩] concatenates_S6000_S14000_S20000_d0
/-- The boxes the kernel gives. -/
def boxAll (x : FVec F S20000x4 .f32) (g e : FVec F S4x64x8 .f32) : FVec F S20000x8 .f32 :=
  concatenate S20000x8 0 [⟨S6000x8, box0 (F := F) (tcPts x) (cols g)⟩,
    ⟨S14000x8, BOX (encTab (F := F) (cols g) (cols e)) (scPts x)⟩] concatenates_S6000x8_S14000x8_S20000x8_d0

theorem w6_v10_0 (d : Dev nD) : W6 m d (dr main_v10_0) = cls0 (F := F) (tcPts (A0 m d)) (cols (A1 m d)) (cols (A2 m d)) := by
  unfold W6
  rw [put_ne _ _ _ (by decide), put_self, w5_v9, w5_v1, w5_v3]
theorem w6_v10_1 (d : Dev nD) : W6 m d (dr main_v10_1) = box0 (F := F) (tcPts (A0 m d)) (cols (A1 m d)) := by
  unfold W6
  rw [put_self, w5_v9, w5_v1]
theorem w6_v8_0 (d : Dev nD) : W6 m d (dr main_v8_0) = CLS (encTab (F := F) (cols (A1 m d)) (cols (A2 m d))) (scPts (A0 m d)) := by
  rw [w6_ne _ _ _ (by decide) (by decide), w5_ne _ _ _ (by decide), ← Tb_eq, ← Pt_eq]
  unfold W4
  rw [put_ne _ _ _ (by decide), put_self]
theorem w6_v8_1 (d : Dev nD) : W6 m d (dr main_v8_1) = BOX (encTab (F := F) (cols (A1 m d)) (cols (A2 m d))) (scPts (A0 m d)) := by
  rw [w6_ne _ _ _ (by decide) (by decide), w5_ne _ _ _ (by decide), ← Tb_eq, ← Pt_eq]
  unfold W4
  rw [put_self]

theorem wI_v11 (d : Dev nD) : (oI (F := F)).result (W6 m d) (dr main_v11) = shapeCast S6000 (W6 m d (dr main_v10_0)) shapeCasts_S6000x1_S6000 :=
  StableHlo.reshape_result' ..
theorem wI_ne (d : Dev nD) (r : Ref sig .tc) (h : r ≠ main_v11) : (oI (F := F)).result (W6 m d) (dr r) = W6 m d (dr r) :=
  StableHlo.reshape_result_ne' _ _ _ _ _ h
theorem wJ_ne (d : Dev nD) (r : Ref sig .tc) (h : r ≠ main_v11) (h' : r ≠ main_v12) :
    (oJ (F := F)).result ((oI (F := F)).result (W6 m d)) (dr r) = W6 m d (dr r) :=
  (StableHlo.binary_result_ne' _ _ _ _ _ h').trans (wI_ne m d r h)

theorem w7_v12 (d : Dev nD) : W7 m d (dr main_v12) = clsAll (A0 m d) (A1 m d) (A2 m d) := by
  unfold W7
  refine (StableHlo.binary_result_ne' _ _ _ _ _ (by decide)).trans ((StableHlo.binary_result' ..).trans ?_)
  refine (congrArg₂ (fun (a : IVec S6000 32) (b : IVec S14000 32) => concatenate S20000 0 [⟨S6000, a⟩, ⟨S14000, b⟩] concatenates_S6000_S14000_S20000_d0)
    (wI_v11 m d) (wI_ne m d main_v8_0 (by decide))).trans ?_
  rw [w6_v10_0, w6_v8_0]
  rfl
theorem w7_v13 (d : Dev nD) : W7 m d (dr main_v13) = boxAll (A0 m d) (A1 m d) (A2 m d) := by
  unfold W7
  refine (StableHlo.binary_result' ..).trans ?_
  refine (congrArg₂ (fun (a : FVec F S6000x8 .f32) (b : FVec F S14000x8 .f32) => concatenate S20000x8 0 [⟨S6000x8, a⟩, ⟨S14000x8, b⟩] concatenates_S6000x8_S14000x8_S20000x8_d0)
    (wJ_ne m d main_v10_1 (by decide) (by decide)) (wJ_ne m d main_v8_1 (by decide) (by decide))).trans ?_
  rw [w6_v10_1, w6_v8_1]
  rfl

/-! ## The SparseCore's points -/

/-- Coordinate `r` of the SparseCore's point `n` is coordinate `r` of point `6000 + n`. -/
theorem gw_scPts (x : FVec F S20000x4 .f32) (r n : ℕ) (hr : r < 4) (hn : n < 14000) :
    gw (scPts x) r n = x (Idealize.ShloMosaic.ix2 ⟨6000 + n, by omega⟩ ⟨r, hr⟩) := by
  unfold gw scPts
  have e : (14000 * r + n) % 56000 = 14000 * r + n := Nat.mod_eq_of_lt (by omega)
  rw [← ix1_eq_valueIdx]
  pointwise
  have e1 : 6000 + (14000 * r + n) % 56000 % 14000 = 6000 + n := by omega
  have e2 : (14000 * r + n) % 56000 / 14000 = r := by omega
  exact congrArg x (congrArg₂ Idealize.ShloMosaic.ix2 (Fin.ext e1) (Fin.ext e2))

theorem ptsOK (x : FVec F S20000x4 .f32) (g e : FVec F S4x64x8 .f32) (h : Cert.Pre_pre.fn (F := F) x g e = fun _ => 1#1) : PtsOK (scPts x) where
  le3 := fun n hn => by
    rw [gw_scPts x 0 n (by omega) hn]
    exact Cert.Pre_pre.scene_le h ⟨6000 + n, by omega⟩
  mono := fun n k hnk hk => by
    rw [gw_scPts x 0 n (by omega) (by omega), gw_scPts x 0 k (by omega) hk]
    exact Cert.Pre_pre.scene_mono h (6000 + n) (6000 + k) (by omega) (by omega)

end Cert.KernelIdeal.Enc

end
-- ==== Proof.Same.lean ====
/-
  The kernel and the idealized kernel are one text: their tables of bodies are equal, entry by entry.
-/
module

public import proofs.«01_k».proof.Defs
public import proofs.«01_k».proof.Proof.Gen.Kernel
public import proofs.«01_k».proof.Proof.Gen.KernelIdeal

@[expose] public section

noncomputable section

namespace Cert.Same

open Idealize.ShloMosaic

local instance : Cert.Kernel.Facts := Cert.Kernel.Gen.facts
local instance : Cert.KernelIdeal.Facts := Cert.KernelIdeal.Gen.facts

variable {F : FTy → Type} [FloatOps F]

/-- The kernels' bodies. -/
theorem bodies : @Cert.Kernel.defs₀ F _ _ = @Cert.KernelIdeal.defs₀ F _ _ := by
  funext p ℓ a
  rcases p with _ | c | ⟨c, s⟩ <;> rcases ℓ with ⟨ℓ, h⟩ <;> (match ℓ, h with | 0, _ => rfl | 1, _ => rfl | 2, _ => rfl)

/-- The whole table. -/
theorem table : @Cert.Kernel.defs F _ _ = @Cert.KernelIdeal.defs F _ _ :=
  congrArg (fun b => (Cert.KernelIdeal.sc (F := F)).defs (Pipeline.defs (Cert.KernelIdeal.pcfgs (F := F)) b)) bodies

end Cert.Same

end
-- ==== Proof.Point.lean ====
/-
  What the program says of one point: which of its scene's 64 boxes is the first that holds it, whether one of the enlarged boxes does, and from these
  the class and the eight numbers of the box.
-/
module

public import Idealize.ShloMosaic.Lib.Pointwise

@[expose] public section

noncomputable section

namespace Cert.Point

open Idealize.ShloMosaic

/-- The point (x, y, z) is in the box of center v0, v1, v2, of sizes v3, v4, v5, turned by v6. -/
def hit (x y z : Ideal .f32) (v : Fin 8 → Ideal .f32) : BitVec 1 :=
  IntOp.andi (IntOp.andi
    (FloatOps.cmpf .ole (FloatOps.absf (FloatOps.addf (FloatOps.mulf (FloatOps.subf x (v 0)) (FloatOps.hostUnary .cos (v 6))) (FloatOps.mulf (FloatOps.subf y (v 1)) (FloatOps.hostUnary .sin (v 6)))))
      (FloatOps.mulf (v 3) (Scalar.ofBits .f32 0x3F000000#32)))
    (FloatOps.cmpf .ole (FloatOps.absf (FloatOps.addf (FloatOps.mulf (FloatOps.negf (FloatOps.subf x (v 0))) (FloatOps.hostUnary .sin (v 6))) (FloatOps.mulf (FloatOps.subf y (v 1)) (FloatOps.hostUnary .cos (v 6)))))
      (FloatOps.mulf (v 4) (Scalar.ofBits .f32 0x3F000000#32))))
    (FloatOps.cmpf .ole (FloatOps.absf (FloatOps.subf z (v 2))) (FloatOps.mulf (v 5) (Scalar.ofBits .f32 0x3F000000#32)))

/-- `o` is the first of the N bits that is set, or none when none is. -/
def IsFirst {N : ℕ} (H : Fin N → BitVec 1) : Option (Fin N) → Prop
  | none => ∀ j, H j = 0#1
  | some t => H t = 1#1 ∧ ∀ j, j < t → H j = 0#1

theorem bit_cases (b : BitVec 1) : b = 0#1 ∨ b = 1#1 := by revert b; decide

theorem exists_first {N : ℕ} (H : Fin N → BitVec 1) : ∃ o, IsFirst H o := by
  by_cases h : ∃ t, H t = 1#1
  · have h' : ∃ n : ℕ, ∃ hn : n < N, H ⟨n, hn⟩ = 1#1 := h.elim fun t ht => ⟨t.val, t.isLt, ht⟩
    classical
    refine ⟨some ⟨Nat.find h', (Nat.find_spec h').1⟩, (Nat.find_spec h').2, fun j hj => ?_⟩
    rcases bit_cases (H j) with e | e
    · exact e
    · exact absurd ⟨j.isLt, e⟩ (Nat.find_min h' hj)
  · refine ⟨none, fun j => ?_⟩
    rcases bit_cases (H j) with e | e
    · exact e
    · exact absurd ⟨j, e⟩ h

/-- The class: 1 in a box and in an enlarged one, 0 in neither, −1 in just one of the two. -/
def clsV (a b : Bool) : BitVec 32 :=
  match a, b with
  | true, true => 1#32
  | false, false => 0#32
  | _, _ => 4294967295#32

/-- The eight numbers from the first box: the center less the point, the logarithms of the sizes, the cosine and the sine; zeros when there is none. -/
def boxV (x y z : Ideal .f32) (G : Fin 64 → Fin 8 → Ideal .f32) (o : Option (Fin 64)) (k : Fin 8) : Ideal .f32 :=
  match o with
  | none => (0 : EReal)
  | some t =>
    match k with
    | 0 => FloatOps.subf (G t 0) x
    | 1 => FloatOps.subf (G t 1) y
    | 2 => FloatOps.subf (G t 2) z
    | 3 => FloatOps.hostUnary .log (FloatOps.maximumf (G t 3) (Scalar.ofBits .f32 0x3A83126F#32))
    | 4 => FloatOps.hostUnary .log (FloatOps.maximumf (G t 4) (Scalar.ofBits .f32 0x3A83126F#32))
    | 5 => FloatOps.hostUnary .log (FloatOps.maximumf (G t 5) (Scalar.ofBits .f32 0x3A83126F#32))
    | 6 => FloatOps.hostUnary .cos (G t 6)
    | 7 => FloatOps.hostUnary .sin (G t 6)

theorem minsi_small {a b : BitVec 32} (ha : a.toNat < 2 ^ 31) (hb : b.toNat < 2 ^ 31) : (IntOp.minsi a b).toNat = min a.toNat b.toNat := by
  unfold IntOp.minsi
  simp only [BitVec.slt_eq_decide, BitVec.sle_eq_decide, BitVec.toInt_eq_toNat_of_lt (show 2 * a.toNat < 2 ^ 32 by omega),
    BitVec.toInt_eq_toNat_of_lt (show 2 * b.toNat < 2 ^ 32 by omega), decide_eq_true_eq]
  split <;> omega

/-- The minimum of small words is the one that is at most each of them. -/
theorem fold_minsi_eq {N : ℕ} (f : Fin N → BitVec 32) (init : BitVec 32) (hi : init.toNat < 2 ^ 31) (hf : ∀ k, (f k).toNat < 2 ^ 31)
    (w : BitVec 32) (hw : ∀ k, w.toNat ≤ (f k).toNat) (hwi : w.toNat ≤ init.toNat) (t : Fin N) (ht : f t = w) :
    (Finset.univ : Finset (Fin N)).fold IntOp.minsi init f = w := by
  have key : ∀ s : Finset (Fin N), (s.fold IntOp.minsi init f).toNat < 2 ^ 31 ∧ w.toNat ≤ (s.fold IntOp.minsi init f).toNat
      ∧ ∀ k ∈ s, (s.fold IntOp.minsi init f).toNat ≤ (f k).toNat := by
    intro s
    induction s using Finset.induction_on with
    | empty => exact ⟨hi, hwi, fun k hk => absurd hk (Finset.notMem_empty k)⟩
    | insert a s ha ih =>
      obtain ⟨i1, i2, i3⟩ := ih
      rw [Finset.fold_insert ha, minsi_small (hf a) i1]
      have := hw a; have := hf a
      refine ⟨by omega, by omega, fun k hk => ?_⟩
      rcases Finset.mem_insert.mp hk with rfl | hk
      · omega
      · have := i3 k hk; omega
  obtain ⟨-, h2, h3⟩ := key Finset.univ
  have := h3 t (Finset.mem_univ t)
  rw [ht] at this
  exact BitVec.eq_of_toNat_eq (by omega)

/-- The number of the box, as a word; `d` for none. -/
def numOf {N : ℕ} (d : BitVec 32) : Option (Fin N) → BitVec 32
  | none => d
  | some t => BitVec.ofNat 32 t.val

/-- The least number of a set bit, by a minimum: `N` stands for the bits that are not set. -/
theorem fold_first {N : ℕ} (hN : N < 1000) (hN0 : 0 < N) (H : Fin N → BitVec 1) (o : Option (Fin N)) (ho : IsFirst H o) :
    (Finset.univ : Finset (Fin N)).fold IntOp.minsi 2147483647#32 (fun k => Scalar.select (H k) (BitVec.ofNat 32 k.val) (BitVec.ofNat 32 N)) =
      numOf (BitVec.ofNat 32 N) o := by
  have hv : ∀ k : Fin N, (Scalar.select (H k) (BitVec.ofNat 32 k.val) (BitVec.ofNat 32 N)) = if H k = 1#1 then BitVec.ofNat 32 k.val else BitVec.ofNat 32 N := by
    intro k
    rcases bit_cases (H k) with e | e <;> rw [e] <;> rfl
  simp only [hv]
  have hn : ∀ k : ℕ, k ≤ N → (BitVec.ofNat 32 k).toNat = k := fun k hk => by rw [BitVec.toNat_ofNat]; omega
  have hl : ∀ k : Fin N, (if H k = 1#1 then BitVec.ofNat 32 k.val else BitVec.ofNat 32 N).toNat = if H k = 1#1 then k.val else N := by
    intro k
    split
    · exact hn _ k.isLt.le
    · exact hn _ le_rfl
  match o, ho with
  | none, ho =>
    show _ = BitVec.ofNat 32 N
    refine fold_minsi_eq _ _ (by decide) (fun k => ?_) _ (fun k => ?_) ?_ ⟨0, hN0⟩ ?_
    · rw [hl]; split <;> omega
    · rw [hl, hn N le_rfl, if_neg (by rw [ho k]; decide)]
    · rw [hn N le_rfl]; show N ≤ 2147483647; omega
    · rw [if_neg (by rw [ho _]; decide)]
  | some t, ho =>
    show _ = BitVec.ofNat 32 t.val
    refine fold_minsi_eq _ _ (by decide) (fun k => ?_) _ (fun k => ?_) ?_ t ?_
    · rw [hl]; split <;> omega
    · rw [hl, hn t t.isLt.le]
      split
      · next e =>
        by_contra hc
        rw [ho.2 k (by rw [Fin.lt_def]; omega)] at e
        exact absurd e (by decide)
      · exact t.isLt.le
    · rw [hn t t.isLt.le]; show t.val ≤ 2147483647; omega
    · rw [if_pos ho.1]

end Cert.Point

end
-- ==== Proof.ScVal.lean ====
/-
  The SparseCore's class and box of a point are the point's class and box.
-/
module

public import proofs.«01_k».proof.Proof.Vals
public import proofs.«01_k».proof.Proof.Point

@[expose] public section

noncomputable section

namespace Cert.KernelIdeal.Enc

open Cert.KernelIdeal Cert.KernelIdeal.Gen
open Idealize.ShloMosaic Idealize.ShloMosaic.TcCoe
open Cert.Point (hit IsFirst clsV boxV numOf)

section Table
variable (g e : FVec Ideal S4x64x8 .f32)

theorem cols_at (k : Fin 8) (c : Fin 256) : cols g (ix2 k c) = g (ix3 ⟨c.val / 64, by omega⟩ ⟨c.val % 64, by omega⟩ k) := by
  unfold cols
  pointwise

/-- Box `c`. -/
abbrev bx (a : FVec Ideal S4x64x8 .f32) (c : ℕ) (hc : c < 256) (k : Fin 8) : Ideal .f32 := a (ix3 ⟨c / 64, by omega⟩ ⟨c % 64, by omega⟩ k)

/-- A word of the table: the center, the turn's cosine and sine, the half sizes of the box and of the enlarged one, the logarithms of the sizes. -/
def tabV (r : Fin 16) (c : ℕ) (hc : c < 256) : Ideal .f32 :=
  if h : r.val < 3 then bx g c hc ⟨r.val, by omega⟩
  else if h : r.val - 3 < 1 then FloatOps.hostUnary .cos (bx g c hc ⟨6 + (r.val - 3), by omega⟩)
  else if h : r.val - 3 - 1 < 1 then FloatOps.hostUnary .sin (bx g c hc ⟨6 + (r.val - 3 - 1), by omega⟩)
  else if h : r.val - 3 - 1 - 1 < 3 then FloatOps.mulf (bx g c hc ⟨3 + (r.val - 3 - 1 - 1), by omega⟩) (Scalar.ofBits .f32 0x3F000000#32)
  else if h : r.val - 3 - 1 - 1 - 3 < 3 then FloatOps.mulf (bx e c hc ⟨3 + (r.val - 3 - 1 - 1 - 3), by omega⟩) (Scalar.ofBits .f32 0x3F000000#32)
  else if h : r.val - 3 - 1 - 1 - 3 - 3 < 3 then
    FloatOps.hostUnary .log (FloatOps.maximumf (bx g c hc ⟨3 + (r.val - 3 - 1 - 1 - 3 - 3), by omega⟩) (Scalar.ofBits .f32 0x3A83126F#32))
  else (0 : EReal)

theorem tb_at (r : Fin 16) (c : ℕ) (hc : c < 256) : tb (encTab (F := Ideal) (cols g) (cols e)) r c = tabV g e r c hc := by
  have hi : tb (encTab (F := Ideal) (cols g) (cols e)) r c = encTab (F := Ideal) (cols g) (cols e) (ix2 r ⟨c, hc⟩) := by
    unfold tb
    rw [ix2_eq_valueIdx]
    refine congrArg _ (congrArg _ (Fin.ext (Nat.mod_eq_of_lt hc)))
  rw [hi]
  unfold encTab tabV
  pointwise [cols_at]

theorem neg_word (x : Ideal .f32) : FloatOps.subf (Scalar.ofBits .f32 0x00000000#32) x = FloatOps.negf x := by
  show Ideal.ofBits .f32 0x00000000#32 - (x : EReal) = -x
  rw [Ideal.ofBits_zero_f32]
  exact zero_sub _

/-- The scan's bits for box `c`. -/
theorem hitG_at (x y z b : Ideal .f32) (c : ℕ) (hc : c < 256) : hitG (encTab (F := Ideal) (cols g) (cols e)) x y z b c = IntOp.andi (hit x y z (bx g c hc)) (sameB b c) := by
  unfold hitG inBox dX dY dZ
  rw [neg_word]
  simp only [tb_at g e _ c hc]
  rfl
/-- An enlarged box has its box's center and its turn. -/
def SameC : Prop := ∀ (s : Fin 4) (j : Fin 64), (∀ k : Fin 3, e (ix3 s j ⟨k.val, by omega⟩) = g (ix3 s j ⟨k.val, by omega⟩)) ∧ e (ix3 s j 6) = g (ix3 s j 6)

theorem hitE_at (hs : SameC g e) (x y z b : Ideal .f32) (c : ℕ) (hc : c < 256) : hitE (encTab (F := Ideal) (cols g) (cols e)) x y z b c = IntOp.andi (hit x y z (bx e c hc)) (sameB b c) := by
  unfold hitE inBox dX dY dZ
  rw [neg_word]
  simp only [tb_at g e _ c hc]
  have h0 : bx e c hc 0 = bx g c hc 0 := (hs _ _).1 0
  have h1 : bx e c hc 1 = bx g c hc 1 := (hs _ _).1 1
  have h2 : bx e c hc 2 = bx g c hc 2 := (hs _ _).1 2
  have h6 : bx e c hc 6 = bx g c hc 6 := (hs _ _).2
  unfold hit
  rw [h0, h1, h2, h6]
  rfl

end Table

section Scan
variable (h : ℕ → BitVec 1)

theorem fhUp_keep (c n m : ℕ) (hc : c < n) (hnm : n ≤ m) (hm : m ≤ 256) (e : fhUp h n = BitVec.ofNat 32 c) : fhUp h m = BitVec.ofNat 32 c := by
  induction m with
  | zero => omega
  | succ m ih =>
    rcases Nat.lt_or_ge m n with hl | hg
    · rw [show m + 1 = n by omega]; exact e
    · simp only [fhUp]
      rw [ih hg (by omega)]
      rcases bit_cases (h m) with hb | hb
      · rw [hb, select_one, minsi_ofNat (by omega) (by omega), min_eq_left (by omega)]
      · rw [hb, select_zero, show (16384#32) = BitVec.ofNat 32 16384 from rfl, minsi_ofNat (by omega) (by omega), min_eq_left (by omega)]

/-- The least hit is what the scan yields. -/
theorem fhUp_first (c : ℕ) (hc : c < 256) (h1 : h c = 1#1) (h0 : ∀ j < c, h j = 0#1) : fhUp h 256 = BitVec.ofNat 32 c := by
  refine fhUp_keep h c (c + 1) 256 (by omega) (by omega) le_rfl ?_
  simp only [fhUp]
  rw [fhUp_none c h0, h1, select_one, show (16384#32) = BitVec.ofNat 32 16384 from rfl, minsi_ofNat (by omega) (by omega), min_eq_right (by omega)]

theorem eaUp_one (c n : ℕ) (hc : c < n) (h1 : h c = 1#1) : eaUp h n = 1#32 := by
  induction n with
  | zero => omega
  | succ n ih =>
    simp only [eaUp]
    rcases Nat.lt_or_ge c n with hl | hg
    · rw [ih hl]; simp [Scalar.select]
    · rw [show n = c by omega, h1, select_one]

variable (s : Fin 4) (H : Fin 64 → BitVec 1) (hh : ∀ c (hc : c < 256), h c = if c / 64 = s.val then H ⟨c % 64, by omega⟩ else 0#1)

include hh

/-- Of all 256 boxes the first hit is the scene's first. -/
theorem scan_first (o : Option (Fin 64)) (ho : IsFirst H o) :
    (o = none ∧ ∀ c < 256, h c = 0#1) ∨ ∃ t, o = some t ∧ h (64 * s.val + t.val) = 1#1 ∧ ∀ j < 64 * s.val + t.val, h j = 0#1 := by
  match o, ho with
  | none, ho =>
    refine Or.inl ⟨rfl, fun c hc => ?_⟩
    rw [hh c hc]
    split
    · exact ho _
    · rfl
  | some t, ho =>
    refine Or.inr ⟨t, rfl, ?_, fun j hj => ?_⟩
    · rw [hh _ (by omega), if_pos (by omega)]
      exact (congrArg H (Fin.ext (by show (64 * s.val + t.val) % 64 = t.val; omega))).trans ho.1
    · rw [hh j (by omega)]
      split
      · exact ho.2 _ (by rw [Fin.lt_def]; show j % 64 < t.val; omega)
      · rfl

/-- What the scan holds at its end. -/
theorem fh_eq (o : Option (Fin 64)) (ho : IsFirst H o) :
    fhUp h 256 = (o.elim 16384#32 fun t => BitVec.ofNat 32 (64 * s.val + t.val)) := by
  rcases scan_first h s H hh o ho with ⟨rfl, h0⟩ | ⟨t, rfl, h1, h0⟩
  · exact fhUp_none 256 h0
  · exact fhUp_first h _ (by omega) h1 h0

theorem ea_eq (o : Option (Fin 64)) (ho : IsFirst H o) : eaUp h 256 = (o.elim 0#32 fun _ => 1#32) := by
  rcases scan_first h s H hh o ho with ⟨rfl, h0⟩ | ⟨t, rfl, h1, h0⟩
  · exact eaUp_none 256 h0
  · exact eaUp_one h _ 256 (by omega) h1

end Scan

/-- The number of a box is below 16384. -/
theorem isFg_box (s : Fin 4) (t : Fin 64) : isFg (BitVec.ofNat 32 (64 * s.val + t.val)) = 1#1 := by
  unfold isFg
  show BitVec.ofBool ((BitVec.ofNat 32 (64 * s.val + t.val)).slt (BitVec.ofNat 32 16384)) = 1#1
  rw [slt_ofNat (by omega) (by omega), decide_eq_true (by omega)]
  rfl

theorem isFg_none : isFg 16384#32 = 0#1 := by
  unfold isFg
  show BitVec.ofBool ((BitVec.ofNat 32 16384).slt (BitVec.ofNat 32 16384)) = 0#1
  rw [slt_ofNat (by omega) (by omega)]
  rfl

/-- Box 64 s + t is box t of scene s. -/
theorem bx_at (g : FVec Ideal S4x64x8 .f32) (s : Fin 4) (t : Fin 64) (hlt : 64 * s.val + t.val < 256) : bx g (64 * s.val + t.val) hlt = fun k => g (ix3 s t k) := by
  funext k
  unfold bx
  exact congrArg g (by rw [show (⟨(64 * s.val + t.val) / 64, by omega⟩ : Fin 4) = s from Fin.ext (by show (64 * s.val + t.val) / 64 = s.val; omega),
    show (⟨(64 * s.val + t.val) % 64, by omega⟩ : Fin 64) = t from Fin.ext (by show (64 * s.val + t.val) % 64 = t.val; omega)])

section One
variable (g e : FVec Ideal S4x64x8 .f32) (x y z b : Ideal .f32) (s : Fin 4) (hb : FloatOps.fptosi (F := Ideal) 32 b = BitVec.ofNat 32 s.val)

include hb

theorem sameB_at (c : ℕ) (hc : c < 256) : sameB b c = if c / 64 = s.val then 1#1 else 0#1 := by
  unfold sameB
  rw [hb]
  obtain ⟨q, hq⟩ : ∃ q : Fin 4, q.val = c / 64 := ⟨⟨c / 64, by omega⟩, rfl⟩
  rw [← hq]
  clear hb hq
  revert q s; decide

theorem bits_at (a : FVec Ideal S4x64x8 .f32) (c : ℕ) (hc : c < 256) : IntOp.andi (hit x y z (bx a c hc)) (sameB b c) =
    if c / 64 = s.val then (fun j : Fin 64 => hit x y z (fun k => a (ix3 s j k))) ⟨c % 64, by omega⟩ else 0#1 := by
  rw [sameB_at b s hb c hc]
  split
  · next e =>
    have : (⟨c / 64, by omega⟩ : Fin 4) = s := Fin.ext e
    unfold bx
    rw [this]
    exact BitVec.and_allOnes
  · exact BitVec.and_zero

variable (o p : Option (Fin 64)) (ho : IsFirst (fun j : Fin 64 => hit x y z (fun k => g (ix3 s j k))) o)
  (hp : IsFirst (fun j : Fin 64 => hit x y z (fun k => e (ix3 s j k))) p)

include ho

theorem fh_at : fh (encTab (F := Ideal) (cols g) (cols e)) x y z b = (o.elim 16384#32 fun t => BitVec.ofNat 32 (64 * s.val + t.val)) :=
  fh_eq _ s _ (fun c hc => (hitG_at g e x y z b c hc).trans (bits_at x y z b s hb g c hc)) o ho

omit ho
include hp

theorem ea_at (hs : SameC g e) : ea (encTab (F := Ideal) (cols g) (cols e)) x y z b = (p.elim 0#32 fun _ => 1#32) :=
  ea_eq _ s _ (fun c hc => (hitE_at g e hs x y z b c hc).trans (bits_at x y z b s hb e c hc)) p hp

include ho

/-- The SparseCore's class of a point. -/
theorem scCls (hs : SameC g e) : clsOf (fh (encTab (F := Ideal) (cols g) (cols e)) x y z b) (ea (encTab (F := Ideal) (cols g) (cols e)) x y z b) = clsV o.isSome p.isSome := by
  rw [fh_at g e x y z b s hb o ho, ea_at g e x y z b s hb p hp hs]
  have h1 : isFg (o.elim 16384#32 fun t => BitVec.ofNat 32 (64 * s.val + t.val)) = BitVec.ofBool o.isSome := by
    match o with
    | none => exact isFg_none
    | some t => exact isFg_box s t
  have h2 : IntOp.cmpi .ne (p.elim 0#32 fun _ => 1#32) 0#32 = BitVec.ofBool p.isSome := by
    match p with
    | none => rfl
    | some t => rfl
  unfold clsOf
  rw [h1, h2]
  generalize o.isSome = a
  generalize p.isSome = b
  revert a b; decide

omit hp in
/-- The SparseCore's box of a point. -/
theorem scBox (k : Fin 8) : boxOf (encTab (F := Ideal) (cols g) (cols e)) x y z (fh (encTab (F := Ideal) (cols g) (cols e)) x y z b) k =
    boxV x y z (fun j k => g (ix3 s j k)) o k := by
  rw [fh_at g e x y z b s hb o ho]
  match o with
  | none =>
    show boxOf _ x y z 16384#32 k = _
    unfold boxOf
    rw [isFg_none, select_zero]
    exact Ideal.ofBits_zero_f32
  | some t =>
    have h1 : isFg (BitVec.ofNat 32 (64 * s.val + t.val)) = 1#1 := isFg_box s t
    have h2 : (safeOf (BitVec.ofNat 32 (64 * s.val + t.val))).toNat = 64 * s.val + t.val := by
      unfold safeOf
      rw [h1, select_one, BitVec.toNat_ofNat]; omega
    show boxOf _ x y z (BitVec.ofNat 32 (64 * s.val + t.val)) k = _
    unfold boxOf
    rw [h1, select_one, h2]
    have hlt : 64 * s.val + t.val < 256 := by omega
    simp only [tb_at g e _ _ hlt]
    have hbx : bx g (64 * s.val + t.val) hlt = fun k => g (ix3 s t k) := bx_at g s t hlt
    unfold tabV
    rw [hbx]
    match k with
    | 0 => rfl
    | 1 => rfl
    | 2 => rfl
    | 3 => rfl
    | 4 => rfl
    | 5 => rfl
    | 6 => rfl
    | 7 => rfl

end One

end Cert.KernelIdeal.Enc

end
-- ==== Proof.TcVal.lean ====
/-
  The TensorCore's class and box of a point are the point's class and box.
-/
module

public import proofs.«01_k».proof.Proof.ScVal

@[expose] public section

noncomputable section

namespace Cert.KernelIdeal.Enc

open Cert.KernelIdeal Cert.KernelIdeal.Gen
open Idealize.ShloMosaic Idealize.ShloMosaic.TcCoe
open Cert.Point (hit IsFirst clsV boxV numOf)

variable (p : FVec Ideal S2000x4 .f32) (g e : FVec Ideal S4x64x8 .f32) (r : Fin 2000)

set_option maxRecDepth 16384 in
/-- The quotient by 64 rounded down, as the body computes it. -/
theorem floor64 : ∀ c : Fin 256, (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) : BitVec 32) = BitVec.ofNat 32 (c.val / 64) := by decide

theorem bmask_at (c : Fin 256) : bmask p (ix2 r c) = sameB (p (ix2 r 0)) c.val := by
  unfold bmask
  pointwise
  rw [floor64]
  unfold sameB
  simp only [IntOp.cmpi]
  rw [Bool.beq_comm]

theorem inMask_at (a : FVec Ideal S4x64x8 .f32) (c : Fin 256) : inMask p (cols a) (ix2 r c) =
    IntOp.andi (hit (p (ix2 r 1)) (p (ix2 r 2)) (p (ix2 r 3)) (bx a c.val c.isLt)) (sameB (p (ix2 r 0)) c.val) := by
  rw [← bmask_at]
  unfold inMask offX offY offZ rotC rotS
  pointwise [cols_at]
  refine congrArg₂ IntOp.andi ?_ rfl
  have hz : ∀ a : Ideal .f32, FloatOps.negf a = (0 : EReal) - a := fun a => (zero_sub (a : EReal)).symm
  unfold hit
  rw [hz]
  rfl

section Row
variable (m : IVec S2000x256 1) (s : Fin 4) (H : Fin 64 → BitVec 1)
  (hm : ∀ c : Fin 256, m (ix2 r c) = if c.val / 64 = s.val then H ⟨c.val % 64, by omega⟩ else 0#1) (o : Option (Fin 64)) (ho : IsFirst H o)

include hm ho

/-- The first bit of the row is the scene's first. -/
theorem row_first : IsFirst (fun c : Fin 256 => m (ix2 r c)) (o.map fun t => ⟨64 * s.val + t.val, by omega⟩) := by
  match o, ho with
  | none, ho =>
    intro c
    show m (ix2 r c) = 0#1
    rw [hm]
    split
    · exact ho _
    · rfl
  | some t, ho =>
    refine ⟨?_, fun c hc => ?_⟩
    · show m (ix2 r ⟨64 * s.val + t.val, _⟩) = 1#1
      rw [hm, if_pos (by show (64 * s.val + t.val) / 64 = s.val; omega)]
      exact (congrArg H (Fin.ext (by show (64 * s.val + t.val) % 64 = t.val; omega))).trans ho.1
    · have hc' : c.val < 64 * s.val + t.val := hc
      show m (ix2 r c) = 0#1
      rw [hm]
      split
      · exact ho.2 _ (by rw [Fin.lt_def]; show c.val % 64 < t.val; omega)
      · rfl

theorem anyHit_at : anyHit (F := Ideal) m (ix2 r 0) = BitVec.ofBool o.isSome := by
  have hf := row_first r m s H hm o ho
  unfold anyHit
  pointwise
  refine congrArg BitVec.ofBool ?_
  have hb : ¬ (0 : EReal) < Ideal.ofBits FTy.f32 4286578688#32 := by
    rw [show Ideal.ofBits FTy.f32 4286578688#32 = (⊥ : EReal) by simp [Ideal.ofBits, Ideal.ieee]]
    exact not_lt_bot
  match o, hf with
  | none, hf =>
    refine decide_eq_false fun h => ?_
    rcases (Finset.lt_fold_max _).mp h with h | ⟨c, -, hc⟩
    · exact hb h
    · rw [show m (ix2 r c) = 0#1 from hf c, select_zero] at hc
      exact lt_irrefl _ hc
  | some t, hf =>
    refine decide_eq_true ((Finset.lt_fold_max _).mpr (Or.inr ⟨⟨64 * s.val + t.val, by omega⟩, Finset.mem_univ _, ?_⟩))
    rw [show m (ix2 r ⟨64 * s.val + t.val, by omega⟩) = 1#1 from hf.1, select_one]
    exact zero_lt_one

theorem firstMask_at (c : Fin 256) : firstMask m (ix2 r c) = IntOp.cmpi .eq (BitVec.ofNat 32 c.val) (numOf 256#32 (o.map fun t => (⟨64 * s.val + t.val, by omega⟩ : Fin 256))) := by
  unfold firstMask
  pointwise
  refine congrArg (IntOp.cmpi .eq (BitVec.ofNat 32 c.val)) ?_
  exact Cert.Point.fold_first (by omega) (by omega) (fun c : Fin 256 => m (ix2 r c)) _ (row_first r m s H hm o ho)

end Row

/-- The sum over the row where one bit is set. -/
theorem pick_at (m : IVec S2000x256 1) (x : FVec Ideal S1x256 .f32) (t : Fin 256) (ht : m (ix2 r t) = 1#1) (hn : ∀ c, c ≠ t → m (ix2 r c) = 0#1) :
    pick m x (ix2 r 0) = x (ix2 0 t) := by
  unfold pick
  pointwise
  rw [Finset.sum_eq_single t]
  · rw [ht, select_one]
  · intro c _ hc
    rw [hn c hc, select_zero]
  · exact fun h => absurd (Finset.mem_univ t) h

theorem picked_at (m : IVec S2000x256 1) (T : FVec Ideal S8x256 .f32) (t : Fin 256) (ht : m (ix2 r t) = 1#1) (hn : ∀ c, c ≠ t → m (ix2 r c) = 0#1) (k : Fin 8) :
    picked m T (ix2 r k) = T (ix2 k t) := by
  unfold picked
  pointwise
  have key : ∀ (i : ℕ) (hi : S8x256.Slices ![i, 0] S1x256) (hk : i = k.val) (q : Fin 1), pick m (extractStridedSlice S1x256 ![i, 0] T hi) (ix2 r q) = T (ix2 k t) := by
    intro i hi hk q
    rw [Subsingleton.elim q 0, pick_at r m _ t ht hn]
    pointwise
    exact congrArg T (congrArg₂ ix2 (Fin.ext hk) rfl)
  have := k.isLt
  split_ifs
  all_goals exact key _ _ (by omega) _

/-- The encoded box `c`. -/
theorem encG_at (c : Fin 256) (k : Fin 8) : encG (cols g) (ix2 k c) =
    if h : k.val < 3 then bx g c.val c.isLt k
    else if h : k.val - 3 < 3 then FloatOps.hostUnary .log (FloatOps.maximumf (bx g c.val c.isLt ⟨3 + (k.val - 3), by omega⟩) (Scalar.ofBits .f32 0x3A83126F#32))
    else if h : k.val - 3 - 3 < 1 then FloatOps.hostUnary .cos (bx g c.val c.isLt ⟨6 + (k.val - 3 - 3), by omega⟩)
    else FloatOps.hostUnary .sin (bx g c.val c.isLt ⟨6 + (k.val - 3 - 3 - 1), by omega⟩) := by
  unfold encG
  pointwise [cols_at]

section One
variable (s : Fin 4) (hb : FloatOps.fptosi (F := Ideal) 32 (p (ix2 r 0)) = BitVec.ofNat 32 s.val)
  (o q : Option (Fin 64)) (ho : IsFirst (fun j : Fin 64 => hit (p (ix2 r 1)) (p (ix2 r 2)) (p (ix2 r 3)) (fun k => g (ix3 s j k))) o)
  (hq : IsFirst (fun j : Fin 64 => hit (p (ix2 r 1)) (p (ix2 r 2)) (p (ix2 r 3)) (fun k => e (ix3 s j k))) q)

include hb ho

theorem row_at (c : Fin 256) : inMask p (cols g) (ix2 r c) =
    if c.val / 64 = s.val then (fun j : Fin 64 => hit (p (ix2 r 1)) (p (ix2 r 2)) (p (ix2 r 3)) (fun k => g (ix3 s j k))) ⟨c.val % 64, by omega⟩ else 0#1 :=
  (inMask_at p r g c).trans (bits_at _ _ _ _ s hb g c.val c.isLt)

include hq in
/-- The TensorCore's class of a point. -/
theorem tcCls : asgCls p (cols g) (cols e) (ix2 r 0) = clsV o.isSome q.isSome := by
  unfold asgCls
  pointwise
  rw [anyHit_at r (inMask p (cols g)) s _ (row_at p g r s hb o ho) o ho, anyHit_at r (inMask p (cols e)) s _ (row_at p e r s hb q hq) q hq]
  generalize o.isSome = a
  generalize q.isSome = b
  revert a b; decide

/-- The TensorCore's box of a point. -/
theorem tcBox (k : Fin 8) : asgBox p (cols g) (ix2 r k) = boxV (p (ix2 r 1)) (p (ix2 r 2)) (p (ix2 r 3)) (fun j k => g (ix3 s j k)) o k := by
  unfold asgBox
  pointwise
  rw [anyHit_at r (inMask p (cols g)) s _ (row_at p g r s hb o ho) o ho]
  have hf := firstMask_at r (inMask p (cols g)) s _ (row_at p g r s hb o ho) o ho
  generalize firstMask (inMask p (cols g)) = fm at hf ⊢
  match o, hf with
  | none, _ =>
    refine Eq.trans (congrArg _ ?_) (mul_zero (M₀ := EReal) _)
    show (((0#32 : BitVec 32).toInt : ℝ) : EReal) = 0
    simp
  | some t, hf =>
    have e1 : FloatOps.sitofp (F := Ideal) FTy.f32 (BitVec.setWidth 32 (BitVec.ofBool (some t).isSome)) = (1 : EReal) := by
      show (((1#32 : BitVec 32).toInt : ℝ) : EReal) = 1
      simp
    rw [e1]
    refine (mul_one (M := EReal) _).trans ?_
    have hlt : 64 * s.val + t.val < 256 := by omega
    have ht : fm (ix2 r ⟨64 * s.val + t.val, hlt⟩) = 1#1 := by
      rw [hf]
      exact congrArg BitVec.ofBool (beq_self_eq_true _)
    have hn : ∀ c : Fin 256, c ≠ ⟨64 * s.val + t.val, hlt⟩ → fm (ix2 r c) = 0#1 := by
      intro c hc
      rw [hf]
      show BitVec.ofBool (BitVec.ofNat 32 c.val == BitVec.ofNat 32 (64 * s.val + t.val)) = 0#1
      rw [beq_false_of_ne]
      · rfl
      · intro h
        have h' := congrArg BitVec.toNat h
        simp only [BitVec.toNat_ofNat] at h'
        exact hc (Fin.ext (by show c.val = 64 * s.val + t.val; omega))
    simp only [picked_at r fm (encG (cols g)) _ ht hn, encG_at]
    have hbx : bx g (64 * s.val + t.val) hlt = fun k => g (ix3 s t k) := bx_at g s t hlt
    rw [hbx]
    match k with
    | 0 => rfl
    | 1 => rfl
    | 2 => rfl
    | 3 => rfl
    | 4 => rfl
    | 5 => rfl
    | 6 => rfl
    | 7 => rfl
end One

end Cert.KernelIdeal.Enc

end
-- ==== Proof.Gather.lean ====
/-
  The reference's two gathers at an index: the boxes of a point's scene, and of those the one at the point's box number.
-/
module

public import proofs.«01_k».proof.Defs
public import proofs.«01_k».proof.Proof.Gen.ReferenceIdeal
public import Idealize.ShloMosaic.Lib.Pointwise

@[expose] public section

noncomputable section

namespace Cert.ReferenceIdeal.Pt

open Idealize.ShloMosaic Cert.ReferenceIdeal Cert.ReferenceIdeal.Gen

theorem toInt_small {s : ℕ} (h : s < 128) : (BitVec.ofNat 32 s).toInt.toNat = s := by
  rw [BitVec.toInt_eq_toNat_of_lt (by rw [BitVec.toNat_ofNat]; omega), BitVec.toNat_ofNat]; omega

/-- The scene's boxes: where the index is `s`, the table's slab `s`. -/
theorem gather_scene {α : Type} (x : S4x64x8.Idx → α) (idx : IVec S20000x1 32) (n : Fin 20000) (j : Fin 64) (k : Fin 8) (s : Fin 4)
    (hs : idx (ix2 n 0) = BitVec.ofNat 32 s.val) :
    Host.gather gather_S4x64x8_S20000x1_S20000x64x8_12_0_n_n_0_1_1648 x idx (ix3 n j k) = x (ix3 s j k) := by
  unfold Host.gather
  refine congrArg x (funext fun a => Fin.ext ?_)
  let d := gather_S4x64x8_S20000x1_S20000x64x8_12_0_n_n_0_1_1648
  show d.start (ix3 n j k) idx a + d.batchCoord (ix3 n j k) a + d.offCoord (ix3 n j k) a = _
  have hb : d.batchCoord (ix3 n j k) a = 0 := d.batchCoord_eq_zero _ _ List.not_mem_nil
  rw [hb]
  match a with
  | ⟨0, _⟩ =>
    show d.start (ix3 n j k) idx 0 + 0 + d.offCoord (ix3 n j k) 0 = s.val
    rw [d.offCoord_eq_zero _ _ (fun h => ((d.mem_sKept _).mp h).1 (List.mem_singleton.mpr rfl))]
    unfold GatherDims.start
    rw [dif_pos (show (0 : Fin 3) ∈ d.startIndexMap from List.mem_singleton.mpr rfl)]
    have hsi : d.siIdx (ix3 n j k) ⟨List.idxOf (0 : Fin 3) d.startIndexMap, List.idxOf_lt_length_iff.2 (List.mem_singleton.mpr rfl)⟩ = ix2 n 0 := by
      funext b; refine Fin.ext ?_
      match b with
      | ⟨0, _⟩ => rfl
      | ⟨1, _⟩ => rfl
    rw [show idx (d.siIdx (ix3 n j k) ⟨List.idxOf (0 : Fin 3) d.startIndexMap, List.idxOf_lt_length_iff.2 (List.mem_singleton.mpr rfl)⟩) = _ from
      (congrArg idx hsi).trans hs, toInt_small (by omega)]
    show min s.val 3 + 0 + 0 = s.val
    omega
  | ⟨1, _⟩ =>
    have h0 : d.start (ix3 n j k) idx 1 = 0 := by
      unfold GatherDims.start
      exact dif_neg (by decide)
    show d.start (ix3 n j k) idx 1 + 0 + d.offCoord (ix3 n j k) 1 = j.val
    rw [h0]
    exact Nat.zero_add _
  | ⟨2, _⟩ =>
    have h0 : d.start (ix3 n j k) idx 2 = 0 := by
      unfold GatherDims.start
      exact dif_neg (by decide)
    show d.start (ix3 n j k) idx 2 + 0 + d.offCoord (ix3 n j k) 2 = k.val
    rw [h0]
    exact Nat.zero_add _

/-- The point's box: where the index is `t`, row `t` of the point's own slab. -/
theorem gather_box {α : Type} (x : S20000x64x8.Idx → α) (idx : IVec S20000x1x1 32) (n : Fin 20000) (k : Fin 8) (t : Fin 64)
    (ht : idx (ix3 n 0 0) = BitVec.ofNat 32 t.val) :
    Host.gather gather_S20000x64x8_S20000x1x1_S20000x1x8_2_1_0_0_1_2_118 x idx (ix3 n 0 k) = x (ix3 n t k) := by
  unfold Host.gather
  refine congrArg x (funext fun a => Fin.ext ?_)
  let d := gather_S20000x64x8_S20000x1x1_S20000x1x8_2_1_0_0_1_2_118
  show d.start (ix3 n 0 k) idx a + d.batchCoord (ix3 n 0 k) a + d.offCoord (ix3 n 0 k) a = _
  match a with
  | ⟨0, _⟩ =>
    show d.start (ix3 n 0 k) idx 0 + d.batchCoord (ix3 n 0 k) 0 + d.offCoord (ix3 n 0 k) 0 = n.val
    rw [d.offCoord_eq_zero _ _ (fun h => ((d.mem_sKept _).mp h).2 (List.mem_singleton.mpr rfl)),
      d.start_batching _ _ _ (List.mem_singleton.mpr rfl)]
    unfold GatherDims.batchCoord
    rw [dif_pos (show (0 : Fin 3) ∈ d.operandBatchingDims from List.mem_singleton.mpr rfl), Nat.add_zero, Nat.zero_add]
    rfl
  | ⟨1, _⟩ =>
    show d.start (ix3 n 0 k) idx 1 + d.batchCoord (ix3 n 0 k) 1 + d.offCoord (ix3 n 0 k) 1 = t.val
    rw [d.offCoord_eq_zero _ _ (fun h => ((d.mem_sKept _).mp h).1 (List.mem_singleton.mpr rfl)),
      d.batchCoord_eq_zero _ _ (by decide)]
    unfold GatherDims.start
    rw [dif_pos (show (1 : Fin 3) ∈ d.startIndexMap from List.mem_singleton.mpr rfl)]
    have hsi : d.siIdx (ix3 n 0 k) ⟨List.idxOf (1 : Fin 3) d.startIndexMap, List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [show idx (d.siIdx (ix3 n 0 k) ⟨List.idxOf (1 : Fin 3) d.startIndexMap, List.idxOf_lt_length_iff.2 (List.mem_singleton.mpr rfl)⟩) = _ from
      (congrArg idx hsi).trans ht, toInt_small (by omega)]
    show min t.val 63 + 0 + 0 = t.val
    omega
  | ⟨2, _⟩ =>
    have h0 : d.start (ix3 n 0 k) idx 2 = 0 := by
      unfold GatherDims.start
      exact dif_neg (by decide)
    show d.start (ix3 n 0 k) idx 2 + d.batchCoord (ix3 n 0 k) 2 + d.offCoord (ix3 n 0 k) 2 = k.val
    rw [h0, d.batchCoord_eq_zero _ _ (by decide)]
    exact Nat.zero_add _

end Cert.ReferenceIdeal.Pt

end
-- ==== Proof.RefA.lean ====
/-
  The reference at one point: its scene's boxes, the bits of the boxes that hold it, and the first of them.
-/
module

public import proofs.«01_k».proof.Proof.Gather
public import proofs.«01_k».proof.Proof.Point
public import proofs.«01_k».proof.Proof.Gen.ReferenceIdeal.Run
public import Idealize.ShloMosaic.Lib.Tactic.CleanTypes

@[expose] public section

noncomputable section

namespace Cert.ReferenceIdeal.Pt

open Idealize.ShloMosaic Cert.ReferenceIdeal Cert.ReferenceIdeal.Gen Cert.ReferenceIdeal.Value Cert.Point

variable (V : Valuation τ sig (Elt Ideal))

abbrev X : FVec Ideal S20000x4 .f32 := V (Proc.devRef .tc main_arg0)
abbrev G : FVec Ideal S4x64x8 .f32 := V (Proc.devRef .tc main_arg1)
abbrev E : FVec Ideal S4x64x8 .f32 := V (Proc.devRef .tc main_arg2)

theorem v2_at (n : Fin 20000) : res_main_v2 V (ix1 n) = FloatOps.fptosi 32 (X V (ix2 n 0)) := by
  unfold res_main_v2
  clean_types
  pointwise

theorem sel_neg (s : Fin 4) : Scalar.select (IntOp.cmpi CmpIPredicate.slt (BitVec.ofNat 32 s.val) 0#32) (IntOp.addi (BitVec.ofNat 32 s.val) 4#32) (BitVec.ofNat 32 s.val) =
    BitVec.ofNat 32 s.val := by
  revert s; decide

theorem range_ok (s : Fin 4) : IntOp.andi (IntOp.cmpi CmpIPredicate.sge (BitVec.ofNat 32 s.val) 0#32) (IntOp.cmpi CmpIPredicate.sle (BitVec.ofNat 32 s.val) 3#32) = 1#1 := by
  revert s; decide

theorem range63_ok (t : Fin 64) : IntOp.andi (IntOp.cmpi CmpIPredicate.sge (BitVec.ofNat 32 t.val) 0#32) (IntOp.cmpi CmpIPredicate.sle (BitVec.ofNat 32 t.val) 63#32) = 1#1 := by
  revert t; decide

theorem fold_andi_one {ι : Type} [DecidableEq ι] (s : Finset ι) (f : ι → BitVec 1) (h : ∀ x, f x = 1#1) : s.fold IntOp.andi (1#1) f = 1#1 := by
  induction s using Finset.induction_on with
  | empty => rfl
  | insert a s ha ih => rw [Finset.fold_insert ha, ih, h]; rfl

variable (n : Fin 20000) (s : Fin 4) (h : FloatOps.fptosi 32 (X V (ix2 n 0)) = BitVec.ofNat 32 s.val)

include h

theorem v5_at : res_main_call0_v5 V (ix2 n 0) = BitVec.ofNat 32 s.val := by
  unfold res_main_call0_v5
  clean_types
  pointwise [v2_at]
  rw [h, sel_neg]

theorem v5'_at : res_main_call1_v5 V (ix2 n 0) = BitVec.ofNat 32 s.val := by
  unfold res_main_call1_v5
  clean_types
  pointwise [v2_at]
  rw [h, sel_neg]

theorem v4_at (j : Fin 64) (k : Fin 8) : res_main_v4 V (ix3 n j k) = G V (ix3 s j k) := by
  unfold res_main_v4
  clean_types
  pointwise
  rw [fold_andi_one _ _ (fun x => by rw [Subsingleton.elim x 0, v5_at V n s h, range_ok]), gather_scene _ _ n j k s (v5_at V n s h)]
  rfl

theorem v58_at (j : Fin 64) (k : Fin 7) : res_main_v58 V (ix3 n j k) = E V (ix3 s j ⟨k.val, by omega⟩) := by
  unfold res_main_v58
  clean_types
  pointwise
  rw [fold_andi_one _ _ (fun x => by rw [Subsingleton.elim x 0, v5'_at V n s h, range_ok]), gather_scene _ _ n j _ s (v5'_at V n s h)]
  rfl

/-- Which of the scene's boxes hold the point. -/
def H (j : Fin 64) : BitVec 1 := hit (X V (ix2 n 1)) (X V (ix2 n 2)) (X V (ix2 n 3)) (fun k => G V (ix3 s j k))
/-- Which of the scene's enlarged boxes hold the point. -/
def He (j : Fin 64) : BitVec 1 := hit (X V (ix2 n 1)) (X V (ix2 n 2)) (X V (ix2 n 3)) (fun k => E V (ix3 s j k))

theorem v54_at (o : Option (Fin 64)) (ho : IsFirst (H V n s) o) :
    res_main_v54 V (ix1 n) = numOf 64#32 o := by
  unfold res_main_v54 res_main_v14 res_main_v13 res_main_v12 res_main_v10 res_main_v6 res_main_v3
  clean_types
  pointwise
  simp only [v4_at V n s h]
  exact fold_first (by omega) (by omega) (H V n s) o ho

theorem v106_at (o : Option (Fin 64)) (ho : IsFirst (He V n s) o) :
    res_main_v106 V (ix1 n) = numOf 64#32 o := by
  unfold res_main_v106 res_main_v66 res_main_v65 res_main_v64 res_main_v62 res_main_v3
  clean_types
  pointwise
  simp only [v58_at V n s h]
  exact fold_first (by omega) (by omega) (He V n s) o ho

theorem v57_at (o : Option (Fin 64)) (ho : IsFirst (H V n s) o) :
    res_main_v57 V (ix1 n) = numOf 4294967295#32 o := by
  unfold res_main_v57
  clean_types
  pointwise
  rw [v54_at V n s h o ho]
  match o with
  | none => rfl
  | some t => show Scalar.select (IntOp.cmpi CmpIPredicate.slt (BitVec.ofNat 32 t.val) 64#32) (BitVec.ofNat 32 t.val) 4294967295#32 = BitVec.ofNat 32 t.val; clear ho; revert t; decide

theorem v111_at (o : Option (Fin 64)) (ho : IsFirst (H V n s) o) :
    res_main_v111 V (ix1 n) = BitVec.ofBool o.isSome := by
  unfold res_main_v111
  clean_types
  pointwise
  rw [v57_at V n s h o ho]
  match o with
  | none => rfl
  | some t => show IntOp.cmpi CmpIPredicate.sge (BitVec.ofNat 32 t.val) 0#32 = 1#1; clear h ho; revert t; decide

theorem call9_at (t : Fin 64) (ho : IsFirst (H V n s) (some t)) : res_main_call9_v4 V (ix3 n 0 0) = BitVec.ofNat 32 t.val := by
  unfold res_main_call9_v4 res_main_v119
  clean_types
  pointwise
  rw [v57_at V n s h _ ho]
  show Scalar.select (IntOp.cmpi CmpIPredicate.slt (IntOp.maxsi 0#32 (BitVec.ofNat 32 t.val)) 0#32) (IntOp.addi (IntOp.maxsi 0#32 (BitVec.ofNat 32 t.val)) 64#32) (IntOp.maxsi 0#32 (BitVec.ofNat 32 t.val)) = BitVec.ofNat 32 t.val
  clear h ho
  revert t; decide

theorem v121_at (t : Fin 64) (ho : IsFirst (H V n s) (some t)) (k : Fin 8) : res_main_v121 V (ix2 n k) = G V (ix3 s t k) := by
  unfold res_main_v121
  clean_types
  pointwise
  rw [fold_andi_one _ _ (fun x => by rw [Subsingleton.elim x 0, call9_at V n s h t ho, range63_ok]), gather_box _ _ n k t (call9_at V n s h t ho), v4_at V n s h]
  rfl

theorem cls_at (o e : Option (Fin 64)) (ho : IsFirst (H V n s) o) (he : IsFirst (He V n s) e) :
   (id (select (xori (res_main_v111 V) (cmpi .sge (select (cmpi .slt (res_main_v106 V) (broadcastInDim S20000 ![] bcast_S_S20000 (constantI S_ 32 64#32))) (res_main_v106 V) (broadcastInDim S20000 ![] bcast_S_S20000 (id (constantI S_ 32 4294967295#32)))) (broadcastInDim S20000 ![] bcast_S_S20000 (constantI S_ 32 0#32)))) (broadcastInDim S20000 ![] bcast_S_S20000 (constantI S_ 32 4294967295#32)) (select (res_main_v111 V) (broadcastInDim S20000 ![] bcast_S_S20000 (constantI S_ 32 1#32)) (broadcastInDim S20000 ![] bcast_S_S20000 (constantI S_ 32 0#32)))) : IVec S20000 32) (ix1 n) = clsV o.isSome e.isSome := by
  rw [id_eq]
  clean_types
  pointwise
  rw [v111_at V n s h o ho, v106_at V n s h e he]
  have key : IntOp.cmpi CmpIPredicate.sge (Scalar.select (IntOp.cmpi CmpIPredicate.slt (numOf 64#32 e) 64#32) (numOf 64#32 e) 4294967295#32) 0#32 = BitVec.ofBool e.isSome := by
    match e with
    | none => rfl
    | some t => show IntOp.cmpi CmpIPredicate.sge (Scalar.select (IntOp.cmpi CmpIPredicate.slt (BitVec.ofNat 32 t.val) 64#32) (BitVec.ofNat 32 t.val) 4294967295#32) 0#32 = 1#1; clear he; revert t; decide
  rw [show (id (constantI S_ 32 4294967295#32) ix0 : BitVec 32) = 4294967295#32 from rfl, key]
  generalize o.isSome = a
  generalize e.isSome = b
  revert a b; decide

/-- The center's three numbers of the reference. -/
def ctrT : FVec Ideal S20000x3 .f32 := subf (extractStridedSlice S20000x3 ![0, 0] (res_main_v121 V) slices_S20000x8_S20000x3_0_0) (res_main_v3 V)
/-- The logarithms of the sizes. -/
def logT : FVec Ideal S20000x3 .f32 := Host.log (maximumf (extractStridedSlice S20000x3 ![0, 3] (res_main_v121 V) slices_S20000x8_S20000x3_0_3) (broadcastInDim S20000x3 ![] bcast_S_S20000x3 (constant S_ .f32 0x3A83126F#32)))
/-- The cosine and the sine. -/
def cosT : FVec Ideal S20000x1 .f32 := broadcastInDim S20000x1 ![0] bcast_S20000_S20000x1_0 (Host.cos (shapeCast S20000 (extractStridedSlice S20000x1 ![0, 6] (res_main_v121 V) slices_S20000x8_S20000x1_0_6) shapeCasts_S20000x1_S20000))
def sinT : FVec Ideal S20000x1 .f32 := broadcastInDim S20000x1 ![0] bcast_S20000_S20000x1_0 (Host.sin (shapeCast S20000 (extractStridedSlice S20000x1 ![0, 6] (res_main_v121 V) slices_S20000x8_S20000x1_0_6) shapeCasts_S20000x1_S20000))
def csT : FVec Ideal S20000x2 .f32 := concatenate S20000x2 1 [⟨S20000x1, cosT V⟩, ⟨S20000x1, sinT V⟩] concatenates_S20000x1_S20000x1_S20000x2_d1
def catT : FVec Ideal S20000x8 .f32 := concatenate S20000x8 1 [⟨S20000x3, ctrT V⟩, ⟨S20000x3, logT V⟩, ⟨S20000x2, csT V⟩] concatenates_S20000x3_S20000x3_S20000x2_S20000x8_d1
/-- The reference's boxes. -/
def boxT : FVec Ideal S20000x8 .f32 := mulf (catT V) (broadcastInDim S20000x8 ![0, 1] bcast_S20000x1_S20000x8_0_1 (uitofp .f32 (broadcastInDim S20000x1 ![0] bcast_S20000_S20000x1_0 (res_main_v111 V))))

omit h in
theorem ctrT_at (k : Fin 3) : ctrT V (ix2 n k) = FloatOps.subf (res_main_v121 V (ix2 n ⟨k.val, by omega⟩)) (X V (ix2 n ⟨1 + k.val, by omega⟩)) := by
  unfold ctrT res_main_v3
  pointwise

omit h in
theorem logT_at (k : Fin 3) : logT V (ix2 n k) = FloatOps.hostUnary .log (FloatOps.maximumf (res_main_v121 V (ix2 n ⟨3 + k.val, by omega⟩)) (Scalar.ofBits .f32 0x3A83126F#32)) := by
  unfold logT
  pointwise

omit h in
theorem cosT_at : cosT V (ix2 n 0) = FloatOps.hostUnary .cos (res_main_v121 V (ix2 n 6)) := by
  unfold cosT
  pointwise

omit h in
theorem sinT_at : sinT V (ix2 n 0) = FloatOps.hostUnary .sin (res_main_v121 V (ix2 n 6)) := by
  unfold sinT
  pointwise

omit h in
theorem csT_at (k : Fin 2) : csT V (ix2 n k) = if h : k.val < 1 then cosT V (ix2 n ⟨k.val, h⟩) else sinT V (ix2 n ⟨k.val - 1, by omega⟩) := by
  unfold csT
  pointwise

omit h in
theorem catT_at (k : Fin 8) : catT V (ix2 n k) =
    if h1 : k.val < 3 then ctrT V (ix2 n ⟨k.val, h1⟩) else if h2 : k.val - 3 < 3 then logT V (ix2 n ⟨k.val - 3, h2⟩) else csT V (ix2 n ⟨k.val - 3 - 3, by omega⟩) := by
  unfold catT
  pointwise

theorem box_at (o : Option (Fin 64)) (ho : IsFirst (H V n s) o) (k : Fin 8) :
    boxT V (ix2 n k) = boxV (X V (ix2 n 1)) (X V (ix2 n 2)) (X V (ix2 n 3)) (fun j k => G V (ix3 s j k)) o k := by
  unfold boxT
  pointwise
  rw [v111_at V n s h o ho]
  match o, ho with
  | none, _ =>
    show _ * ((((0#1 : BitVec 1).toNat : ℝ)) : EReal) = (0 : EReal)
    simp
  | some t, ho =>
    have e1 : FloatOps.uitofp (F := Ideal) FTy.f32 (BitVec.ofBool (some t).isSome) = (1 : EReal) := by
      show ((((1#1 : BitVec 1).toNat : ℝ)) : EReal) = 1
      simp
    rw [e1]
    refine (mul_one (catT V (ix2 n k) : EReal)).trans ?_
    rw [catT_at]
    match k with
    | 0 => exact (ctrT_at V n 0).trans (by rw [v121_at V n s h t ho]; rfl)
    | 1 => exact (ctrT_at V n 1).trans (by rw [v121_at V n s h t ho]; rfl)
    | 2 => exact (ctrT_at V n 2).trans (by rw [v121_at V n s h t ho]; rfl)
    | 3 => exact (logT_at V n 0).trans (by rw [v121_at V n s h t ho]; rfl)
    | 4 => exact (logT_at V n 1).trans (by rw [v121_at V n s h t ho]; rfl)
    | 5 => exact (logT_at V n 2).trans (by rw [v121_at V n s h t ho]; rfl)
    | 6 => exact (csT_at V n 0).trans ((cosT_at V n).trans (by rw [v121_at V n s h t ho]; rfl))
    | 7 => exact (csT_at V n 1).trans ((sinT_at V n).trans (by rw [v121_at V n s h t ho]; rfl))

end Cert.ReferenceIdeal.Pt

end
-- ==== Proof.Eqn.lean ====
/-
  The kernel's results are the reference's, point by point.
-/
module

public import proofs.«01_k».proof.Proof.TcVal
public import proofs.«01_k».proof.Proof.RefA

@[expose] public section

noncomputable section

namespace Cert.KernelIdeal.Enc

open Cert.KernelIdeal Cert.KernelIdeal.Gen
open Idealize.ShloMosaic Idealize.ShloMosaic.TcCoe
open Cert.Point (hit IsFirst clsV boxV numOf)

variable (x : FVec Ideal S20000x4 .f32) (g e : FVec Ideal S4x64x8 .f32) (n : Fin 20000)

theorem rowsOf_at (k : Fin 4) (hn : n.val < 6000) : rowsOf (tcPts x) (tOf n.val) (ix2 (rOf n.val) k) = x (ix2 n k) := by
  show tcPts x (ValueIdx.ix2 ⟨2000 * (tOf n.val).val + (rOf n.val).val, _⟩ k) = _
  rw [← ix2_eq_valueIdx]
  unfold tcPts
  pointwise
  refine congrArg x (congrArg₂ ix2 (Fin.ext ?_) rfl)
  show 2000 * (n.val / 2000 % 3) + n.val % 2000 = n.val
  omega

theorem gw_at (hn : ¬ n.val < 6000) (r : ℕ) (hr : r < 4) : gw (scPts x) r (n.val - 6000) = x (ix2 n ⟨r, hr⟩) := by
  have h := n.isLt
  rw [gw_scPts x r (n.val - 6000) hr (by omega)]
  refine congrArg x (congrArg₂ ix2 (Fin.ext ?_) rfl)
  show 6000 + (n.val - 6000) = n.val
  omega

variable (s : Fin 4) (hb : FloatOps.fptosi (F := Ideal) 32 (x (ix2 n 0)) = BitVec.ofNat 32 s.val)
  (o q : Option (Fin 64)) (ho : IsFirst (fun j : Fin 64 => hit (x (ix2 n 1)) (x (ix2 n 2)) (x (ix2 n 3)) (fun k => g (ix3 s j k))) o)
  (hq : IsFirst (fun j : Fin 64 => hit (x (ix2 n 1)) (x (ix2 n 2)) (x (ix2 n 3)) (fun k => e (ix3 s j k))) q)

include hb ho

include hq in
theorem clsAll_at (hs : SameC g e) : clsAll x g e (ix1 n) = clsV o.isSome q.isSome := by
  unfold clsAll
  pointwise
  by_cases hn : n.val < 6000
  · rw [dif_pos hn]
    show asgCls (rowsOf (tcPts x) (tOf n.val)) (cols g) (cols e) (ValueIdx.ix2 (rOf n.val) 0) = _
    rw [← ix2_eq_valueIdx]
    refine tcCls (rowsOf (tcPts x) (tOf n.val)) g e (rOf n.val) s ?_ o q ?_ ?_
    · rw [rowsOf_at x n _ hn]; exact hb
    · simp only [rowsOf_at x n _ hn]; exact ho
    · simp only [rowsOf_at x n _ hn]; exact hq
  · rw [dif_neg hn]
    show clsOf (fh _ (gw (scPts x) 1 (n.val - 6000)) (gw (scPts x) 2 (n.val - 6000)) (gw (scPts x) 3 (n.val - 6000)) (gw (scPts x) 0 (n.val - 6000)))
      (ea _ (gw (scPts x) 1 (n.val - 6000)) (gw (scPts x) 2 (n.val - 6000)) (gw (scPts x) 3 (n.val - 6000)) (gw (scPts x) 0 (n.val - 6000))) = _
    rw [gw_at x n hn 0 (by omega), gw_at x n hn 1 (by omega), gw_at x n hn 2 (by omega), gw_at x n hn 3 (by omega)]
    exact scCls g e _ _ _ _ s hb o q ho hq hs

theorem boxAll_at (k : Fin 8) : boxAll x g e (ix2 n k) = boxV (x (ix2 n 1)) (x (ix2 n 2)) (x (ix2 n 3)) (fun j k => g (ix3 s j k)) o k := by
  unfold boxAll
  pointwise
  by_cases hn : n.val < 6000
  · rw [dif_pos hn]
    show asgBox (rowsOf (tcPts x) (tOf n.val)) (cols g) (ValueIdx.ix2 (rOf n.val) k) = _
    rw [← ix2_eq_valueIdx]
    refine (tcBox (rowsOf (tcPts x) (tOf n.val)) g (rOf n.val) s ?_ o ?_ k).trans ?_
    · rw [rowsOf_at x n _ hn]; exact hb
    · simp only [rowsOf_at x n _ hn]; exact ho
    · simp only [rowsOf_at x n _ hn]
  · rw [dif_neg hn]
    show boxOf _ (gw (scPts x) 1 (n.val - 6000)) (gw (scPts x) 2 (n.val - 6000)) (gw (scPts x) 3 (n.val - 6000))
      (fh _ (gw (scPts x) 1 (n.val - 6000)) (gw (scPts x) 2 (n.val - 6000)) (gw (scPts x) 3 (n.val - 6000)) (gw (scPts x) 0 (n.val - 6000))) k = _
    rw [gw_at x n hn 0 (by omega), gw_at x n hn 1 (by omega), gw_at x n hn 2 (by omega), gw_at x n hn 3 (by omega)]
    exact scBox g e _ _ _ _ s hb o ho k

end Cert.KernelIdeal.Enc

namespace Cert.ReferenceIdeal.Pt

open Idealize.ShloMosaic Cert.ReferenceIdeal Cert.ReferenceIdeal.Gen Cert.ReferenceIdeal.Value Cert.Point

variable (V : Valuation τ sig (Elt Ideal)) (hp : Cert.Pre_pre.fn (F := Ideal) (X V) (G V) (E V) = fun _ => 1#1)

include hp

/-- What the precondition says of a point, and its first boxes. -/
theorem point (n : Fin 20000) : ∃ (s : Fin 4) (o q : Option (Fin 64)), FloatOps.fptosi (F := Ideal) 32 (X V (ix2 n 0)) = BitVec.ofNat 32 s.val
    ∧ IsFirst (H V n s) o ∧ IsFirst (He V n s) q := by
  have h := Cert.Pre_pre.scene_le hp n
  unfold Cert.Pre_pre.scene at h
  obtain ⟨o, ho⟩ := exists_first (H V n ⟨_, Nat.lt_succ_of_le h⟩)
  obtain ⟨q, hq⟩ := exists_first (He V n ⟨_, Nat.lt_succ_of_le h⟩)
  refine ⟨⟨_, Nat.lt_succ_of_le h⟩, o, q, ?_, ho, hq⟩
  refine BitVec.eq_of_toNat_eq ?_
  rw [BitVec.toNat_ofNat]
  exact (Nat.mod_eq_of_lt (BitVec.isLt _)).symm

/-- The classes are the reference's. -/
theorem cls_eq : Cert.KernelIdeal.Enc.clsAll (X V) (G V) (E V) =
    (id (select (xori (res_main_v111 V) (cmpi .sge (select (cmpi .slt (res_main_v106 V) (broadcastInDim S20000 ![] bcast_S_S20000 (constantI S_ 32 64#32))) (res_main_v106 V) (broadcastInDim S20000 ![] bcast_S_S20000 (id (constantI S_ 32 4294967295#32)))) (broadcastInDim S20000 ![] bcast_S_S20000 (constantI S_ 32 0#32)))) (broadcastInDim S20000 ![] bcast_S_S20000 (constantI S_ 32 4294967295#32)) (select (res_main_v111 V) (broadcastInDim S20000 ![] bcast_S_S20000 (constantI S_ 32 1#32)) (broadcastInDim S20000 ![] bcast_S_S20000 (constantI S_ 32 0#32)))) : IVec S20000 32) := by
  funext i
  have hi : i = ix1 (i 0) := by funext a; match a with | ⟨0, _⟩ => rfl
  rw [hi]
  obtain ⟨s, o, q, hb, ho, hq⟩ := point V hp (i 0)
  exact (Cert.KernelIdeal.Enc.clsAll_at (X V) (G V) (E V) (i 0) s hb o q ho hq (Cert.Pre_pre.box_same hp)).trans (cls_at V (i 0) s hb o q ho hq).symm

/-- The boxes are the reference's. -/
theorem box_eq : Cert.KernelIdeal.Enc.boxAll (X V) (G V) (E V) = boxT V := by
  funext i
  have hi : i = ix2 (i 0) (i 1) := by funext a; match a with | ⟨0, _⟩ => rfl | ⟨1, _⟩ => rfl
  rw [hi]
  obtain ⟨s, o, q, hb, ho, hq⟩ := point V hp (i 0)
  exact (Cert.KernelIdeal.Enc.boxAll_at (X V) (G V) (E V) (i 0) s hb o ho (i 1)).trans (box_at V (i 0) s hb o ho (i 1)).symm

end Cert.ReferenceIdeal.Pt

end
-- ==== Proof.lean ====
/-
  The claim: the kernel's and the reference's frames, that the idealized kernel is the kernel, and that the two give
  the same classes and boxes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pre
public import proofs.«01_k».proof.Proof.Vals
public import proofs.«01_k».proof.Proof.Same
public import proofs.«01_k».proof.Proof.Eqn
public import Idealize.ShloMosaic.Lib.Quiescent

@[expose] public section

noncomputable section

namespace Cert.Proof

open Idealize.ShloMosaic Idealize.SL.Sem Cert.KernelIdeal.Enc

/-- Every run of the kernel leaves its arguments as they were and every counter at zero. -/
theorem frame_any {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (hp : ∀ d, Cert.Pre_pre.fn (F := F) (A0 m d) (A1 m d) (A2 m d) = fun _ => 1#1) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun r h => ⟨fun c => ⟨(h.1 c _ (mem_uc Cert.KernelIdeal.main_arg0 rfl)).trans (w7_arg m c _ (.inl rfl)),
      (h.1 c _ (mem_uc Cert.KernelIdeal.main_arg1 rfl)).trans (w7_arg m c _ (.inr (.inl rfl))),
      (h.1 c _ (mem_uc Cert.KernelIdeal.main_arg2 rfl)).trans (w7_arg m c _ (.inr (.inr rfl)))⟩, h.2⟩)
    (run_main m g (fun d => by rw [Pt_eq]; exact ptsOK _ _ _ (hp d)))

/-- The kernel's run at the machine's floats. -/
theorem frame_kernel : Cert.quiescent_Kernel (hKernel := Cert.Kernel.Gen.facts) (hPre_pre := Cert.Pre_pre.Gen.facts) :=
  fun m g hp => by
    have h := frame_any (F := Bits) m g hp
    rw [← Cert.Same.table] at h
    exact h

/-- The idealized kernel's run. -/
theorem frame_kernelIdeal : Cert.quiescent_KernelIdeal (hKernelIdeal := Cert.KernelIdeal.Gen.facts) (hPre_pre := Cert.Pre_pre.Gen.facts) :=
  fun m g hp => frame_any (F := Ideal) m g hp

/-- The reference's run. -/
theorem frame_referenceIdeal : Cert.quiescent_ReferenceIdeal (hReferenceIdeal := Cert.ReferenceIdeal.Gen.facts) (hPre_pre := Cert.Pre_pre.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- The two programs, over the same arguments, give the same classes and the same boxes. -/
theorem algebraic : Cert.algebraic_KernelIdeal_ReferenceIdeal (hKernelIdeal := Cert.KernelIdeal.Gen.facts) (hReferenceIdeal := Cert.ReferenceIdeal.Gen.facts)
    (hPre_pre := Cert.Pre_pre.Gen.facts) := fun m g m' g' hp harg => by
  have hx : ∀ c : Dev Cert.KernelIdeal.nD, Cert.ReferenceIdeal.Pt.X (Idealize.ShloMosaic.StableHlo.launchContents m' c) = A0 m c := fun c => (harg c).1
  have hg : ∀ c : Dev Cert.KernelIdeal.nD, Cert.ReferenceIdeal.Pt.G (Idealize.ShloMosaic.StableHlo.launchContents m' c) = A1 m c := fun c => (harg c).2.1
  have he : ∀ c : Dev Cert.KernelIdeal.nD, Cert.ReferenceIdeal.Pt.E (Idealize.ShloMosaic.StableHlo.launchContents m' c) = A2 m c := fun c => (harg c).2.2
  have hq : ∀ c : Dev Cert.KernelIdeal.nD, Cert.Pre_pre.fn (F := Ideal) (Cert.ReferenceIdeal.Pt.X (Idealize.ShloMosaic.StableHlo.launchContents m' c)) (Cert.ReferenceIdeal.Pt.G (Idealize.ShloMosaic.StableHlo.launchContents m' c))
      (Cert.ReferenceIdeal.Pt.E (Idealize.ShloMosaic.StableHlo.launchContents m' c)) = fun _ => 1#1 := fun c => by
    rw [hx c, hg c, he c]; exact hp c
  refine ⟨fun c => clsAll (A0 m c) (A1 m c) (A2 m c), fun c => boxAll (A0 m c) (A1 m c) (A2 m c), ?_, ?_⟩
  · exact (θ_run Cert.KernelIdeal.defs _ _).mono
      (fun r h c => ⟨(h.1 c _ (mem_uc Cert.KernelIdeal.main_v12 rfl)).trans (w7_v12 m c),
        (h.1 c _ (mem_uc Cert.KernelIdeal.main_v13 rfl)).trans (w7_v13 m c),
        (h.1 c _ (mem_uc Cert.KernelIdeal.main_arg0 rfl)).trans (w7_arg m c _ (.inl rfl)),
        (h.1 c _ (mem_uc Cert.KernelIdeal.main_arg1 rfl)).trans (w7_arg m c _ (.inr (.inl rfl))),
        (h.1 c _ (mem_uc Cert.KernelIdeal.main_arg2 rfl)).trans (w7_arg m c _ (.inr (.inr rfl)))⟩)
      (run_main (F := Ideal) m g (fun d => by rw [Pt_eq]; exact ptsOK _ _ _ (hp d)))
  · refine (θ_run Cert.ReferenceIdeal.defs _ _).mono (fun r h c => ⟨?_, ?_, (h c).2.2⟩) (Cert.ReferenceIdeal.Value.run m' g')
    · refine (h c).1.trans ((Cert.ReferenceIdeal.Pt.cls_eq (Idealize.ShloMosaic.StableHlo.launchContents m' c) (hq c)).symm.trans ?_)
      rw [hx c, hg c, he c]
    · refine (h c).2.1.trans ((Cert.ReferenceIdeal.Pt.box_eq (Idealize.ShloMosaic.StableHlo.launchContents m' c) (hq c)).symm.trans ?_)
      rw [hx c, hg c, he c]

theorem claim : Cert.Claim := ⟨Cert.Kernel.Gen.facts, Cert.KernelIdeal.Gen.facts, Cert.ReferenceIdeal.Gen.facts, Cert.Pre_pre.Gen.facts,
  frame_kernel, frame_kernelIdeal, frame_referenceIdeal, trivial, algebraic⟩

end Cert.Proof

end
